-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v2_0)) (v1 : (c : Dev Cert.KernelNormIdeal.nD) → Buf (Elt Ideal) ((c.tc : Thread Cert.KernelNormIdeal.nD Cert.KernelNormIdeal.τ).loc Cert.KernelNormIdeal.main_v2_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2_0) = v0 c
          ∧ r.2.mem ((c.tc : Thread Cert.KernelNormIdeal.nD Cert.KernelNormIdeal.τ).loc Cert.KernelNormIdeal.main_v2_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v14) = v0 c
          ∧ r.2.mem ((c.tc : Thread Cert.ReferenceNormIdeal.nD Cert.ReferenceNormIdeal.τ).loc Cert.ReferenceNormIdeal.main_v17) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
-- ==== Pre_finite_logits.lean ====
abbrev S16384x4096 : Shape := ⟨2, ![16384, 4096]⟩
abbrev S16384x128 : Shape := ⟨2, ![16384, 128]⟩
abbrev S1x32x4096x1024 : Shape := ⟨4, ![1, 32, 4096, 1024]⟩
abbrev S1x32x1024x4096 : Shape := ⟨4, ![1, 32, 1024, 4096]⟩
abbrev S16384x36 : Shape := ⟨2, ![16384, 36]⟩
abbrev S_ : Shape := ⟨0, ![]⟩

class Facts : Prop where
  slices_S16384x128_S16384x36_0_0 : S16384x128.Slices ![0, 0] S16384x36
  bcast_S_S16384x36 : S_.BroadcastsInDim S16384x36 (![] : Fin 0 → Fin S16384x36.rank)

variable [Facts]

def fn {F : FTy → Type} [FloatOps F] (main_arg0 : FVec F S16384x4096 .bf16) (main_arg1 : FVec F S16384x128 .f32) (main_arg2 : FVec F S16384x4096 .f32) (main_arg3 : FVec F S1x32x4096x1024 .f32) (main_arg4 : FVec F S1x32x4096x1024 .f32) (main_arg5 : FVec F S1x32x1024x4096 .f32) : IVec S16384x36 1 :=
  let main_v0 : FVec F S16384x36 .f32 := (extractStridedSlice S16384x36 ![0, 0] · slices_S16384x128_S16384x36_0_0) main_arg1
  let main_cst : FVec F S_ .f32 := constant S_ .f32 0xFF800000#32
  let main_v1 : FVec F S16384x36 .f32 := broadcastInDim S16384x36 ![] bcast_S_S16384x36 main_cst
  let main_v2 : IVec S16384x36 1 := cmpf .ogt main_v0 main_v1
  let main_cst_0 : FVec F S_ .f32 := constant S_ .f32 0x7F800000#32
  let main_v3 : FVec F S16384x36 .f32 := broadcastInDim S16384x36 ![] bcast_S_S16384x36 main_cst_0
  let main_v4 : IVec S16384x36 1 := cmpf .olt main_v0 main_v3
  let main_v5 : IVec S16384x36 1 := andi main_v2 main_v4
  main_v5
-- ==== Kernel.lean ====
abbrev S16384x4096 : Shape := ⟨2, ![16384, 4096]⟩
abbrev S16384x128 : Shape := ⟨2, ![16384, 128]⟩
abbrev S1x32x4096x1024 : Shape := ⟨4, ![1, 32, 4096, 1024]⟩
abbrev S1x32x1024x4096 : Shape := ⟨4, ![1, 32, 1024, 4096]⟩
abbrev S32x4096x1024 : Shape := ⟨3, ![32, 4096, 1024]⟩
abbrev S32x1024x4096 : Shape := ⟨3, ![32, 1024, 4096]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S16384x4x8 : Shape := ⟨3, ![16384, 4, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x8 : Shape := ⟨2, ![16384, 8]⟩
abbrev S16384x2 : Shape := ⟨2, ![16384, 2]⟩
abbrev S32768 : Shape := ⟨1, ![32768]⟩
abbrev S32768x1 : Shape := ⟨2, ![32768, 1]⟩
abbrev S32 : Shape := ⟨1, ![32]⟩
abbrev S1x32 : Shape := ⟨2, ![1, 32]⟩
abbrev S32768x32 : Shape := ⟨2, ![32768, 32]⟩
abbrev S40960 : Shape := ⟨1, ![40960]⟩
abbrev S160 : Shape := ⟨1, ![160]⟩
abbrev S160x1 : Shape := ⟨2, ![160, 1]⟩
abbrev S160x32 : Shape := ⟨2, ![160, 32]⟩
abbrev S40960x1 : Shape := ⟨2, ![40960, 1]⟩
abbrev S40960x4096 : Shape := ⟨2, ![40960, 4096]⟩
abbrev S40960x1024 : Shape := ⟨2, ![40960, 1024]⟩
abbrev S256x4096 : Shape := ⟨2, ![256, 4096]⟩
abbrev S1x4096x512 : Shape := ⟨3, ![1, 4096, 512]⟩
abbrev S256x512 : Shape := ⟨2, ![256, 512]⟩
abbrev S4096x512 : Shape := ⟨2, ![4096, 512]⟩
abbrev S256x1024 : Shape := ⟨2, ![256, 1024]⟩
abbrev S1x1024x4096 : Shape := ⟨3, ![1, 1024, 4096]⟩
abbrev S1024x4096 : Shape := ⟨2, ![1024, 4096]⟩
abbrev S1x16384x4096 : Shape := ⟨3, ![1, 16384, 4096]⟩

abbrev nBuf : Space → Nat
  | .hbm => 255
  | .vmem => 17
  | .smem => 2
  | _ => 0

abbrev hbmTy0_0 (i : Nat) : BufTy := match i % 128 with
  | 0 => ⟨S16384x4096, .bf16⟩
  | 1 => ⟨S16384x128, .f32⟩
  | 2 => ⟨S16384x4096, .f32⟩
  | 3 => ⟨S1x32x4096x1024, .f32⟩
  | 4 => ⟨S1x32x4096x1024, .f32⟩
  | 5 => ⟨S1x32x1024x4096, .f32⟩
  | 6 => ⟨S32x4096x1024, .f32⟩
  | 7 => ⟨S32x4096x1024, .f32⟩
  | 8 => ⟨S32x1024x4096, .f32⟩
  | 9 => ⟨S16384x4, .f32⟩
  | 10 => ⟨S16384x4, .i32⟩
  | 11 => ⟨S_, .f32⟩
  | 12 => ⟨S_, .i32⟩
  | 13 => ⟨S16384, .f32⟩
  | 14 => ⟨S16384, .i32⟩
  | 15 => ⟨S_, .f32⟩
  | 16 => ⟨S16384, .f32⟩
  | 17 => ⟨S_, .f32⟩
  | 18 => ⟨S16384, .f32⟩
  | 19 => ⟨S16384, .f32⟩
  | 20 => ⟨S16384x1, .f32⟩
  | 21 => ⟨S16384x4, .f32⟩
  | 22 => ⟨S16384x4, .f32⟩
  | 23 => ⟨S16384x4, .f32⟩
  | 24 => ⟨S_, .f32⟩
  | 25 => ⟨S16384, .f32⟩
  | 26 => ⟨S16384x1, .f32⟩
  | 27 => ⟨S16384x4, .f32⟩
  | 28 => ⟨S16384x4, .f32⟩
  | 29 => ⟨S_, .f32⟩
  | 30 => ⟨S16384, .f32⟩
  | 31 => ⟨S16384x1, .f32⟩
  | 32 => ⟨S16384x32, .f32⟩
  | 33 => ⟨S16384x4x8, .f32⟩
  | 34 => ⟨S16384x1x1, .i32⟩
  | 35 => ⟨S_, .i32⟩
  | 36 => ⟨S16384x1x1, .i32⟩
  | 37 => ⟨S16384x1x1, .i1⟩
  | 38 => ⟨S_, .i32⟩
  | 39 => ⟨S16384x1x1, .i32⟩
  | 40 => ⟨S16384x1x1, .i32⟩
  | 41 => ⟨S16384x1x1, .i32⟩
  | 42 => ⟨S1, .i32⟩
  | 43 => ⟨S_, .i32⟩
  | 44 => ⟨S16384x1x1, .i32⟩
  | 45 => ⟨S16384x1x1, .i1⟩
  | 46 => ⟨S1x1x1, .i32⟩
  | 47 => ⟨S16384x1x1, .i32⟩
  | 48 => ⟨S16384x1x1, .i1⟩
  | 49 => ⟨S16384x1x1, .i1⟩
  | 50 => ⟨S_, .i1⟩
  | 51 => ⟨S16384x1, .i1⟩
  | 52 => ⟨S16384x1x8, .f32⟩
  | 53 => ⟨S16384x1x8, .i1⟩
  | 54 => ⟨S_, .f32⟩
  | 55 => ⟨S16384x1x8, .f32⟩
  | 56 => ⟨S16384x1x8, .f32⟩
  | 57 => ⟨S16384x8, .f32⟩
  | 58 => ⟨S16384x2, .f32⟩
  | 59 => ⟨S16384x2, .i32⟩
  | 60 => ⟨S_, .f32⟩
  | 61 => ⟨S16384, .f32⟩
  | 62 => ⟨S_, .f32⟩
  | 63 => ⟨S16384, .f32⟩
  | 64 => ⟨S16384, .f32⟩
  | 65 => ⟨S16384x1, .f32⟩
  | 66 => ⟨S16384x2, .f32⟩
  | 67 => ⟨S16384x2, .f32⟩
  | 68 => ⟨S16384x2, .f32⟩
  | 69 => ⟨S_, .f32⟩
  | 70 => ⟨S16384, .f32⟩
  | 71 => ⟨S16384x1, .f32⟩
  | 72 => ⟨S16384x2, .f32⟩
  | 73 => ⟨S16384x2, .f32⟩
  | 74 => ⟨S16384x2, .f32⟩
  | 75 => ⟨S16384x2, .f32⟩
  | 76 => ⟨S16384x1, .i32⟩
  | 77 => ⟨S_, .i32⟩
  | 78 => ⟨S16384x1, .i32⟩
  | 79 => ⟨S16384x1, .i32⟩
  | 80 => ⟨S16384x2, .i32⟩
  | 81 => ⟨S16384x2, .i32⟩
  | 82 => ⟨S32768, .i32⟩
  | 83 => ⟨S32768x1, .i32⟩
  | 84 => ⟨S32, .i32⟩
  | 85 => ⟨S1x32, .i32⟩
  | 86 => ⟨S32768x32, .i32⟩
  | 87 => ⟨S32768x32, .i32⟩
  | 88 => ⟨S32768x32, .i1⟩
  | 89 => ⟨S32768x32, .i32⟩
  | 90 => ⟨S_, .i32⟩
  | 91 => ⟨S_, .i32⟩
  | 92 => ⟨S32768x32, .i32⟩
  | 93 => ⟨S1x32, .i32⟩
  | 94 => ⟨S32, .i32⟩
  | 95 => ⟨S_, .i32⟩
  | 96 => ⟨S32, .i32⟩
  | 97 => ⟨S32, .i32⟩
  | 98 => ⟨S_, .i32⟩
  | 99 => ⟨S32, .i32⟩
  | 100 => ⟨S32, .i32⟩
  | 101 => ⟨S_, .i32⟩
  | 102 => ⟨S_, .i32⟩
  | 103 => ⟨S32, .i32⟩
  | 104 => ⟨S32, .i32⟩
  | 105 => ⟨S32, .i32⟩
  | 106 => ⟨S_, .i32⟩
  | 107 => ⟨S32, .i32⟩
  | 108 => ⟨S32, .i1⟩
  | 109 => ⟨S32, .i32⟩
  | 110 => ⟨S32, .i32⟩
  | 111 => ⟨S_, .i32⟩
  | 112 => ⟨S32, .i32⟩
  | 113 => ⟨S32, .i1⟩
  | 114 => ⟨S32, .i1⟩
  | 115 => ⟨S_, .i32⟩
  | 116 => ⟨S32, .i32⟩
  | 117 => ⟨S32, .i32⟩
  | 118 => ⟨S32, .i32⟩
  | 119 => ⟨S_, .i32⟩
  | 120 => ⟨S32, .i32⟩
  | 121 => ⟨S32, .i32⟩
  | 122 => ⟨S_, .i32⟩
  | 123 => ⟨S_, .i32⟩
  | 124 => ⟨S32, .i32⟩
  | 125 => ⟨S32, .i32⟩
  | 126 => ⟨S1x32, .i32⟩
  | 127 => ⟨S32768x32, .i32⟩
  | _ => ⟨S16384x4096, .bf16⟩

abbrev hbmTy0_1 (i : Nat) : BufTy := match i % 128 with
  | 0 => ⟨S32768x32, .i32⟩
  | 1 => ⟨S_, .i32⟩
  | 2 => ⟨S32768x32, .i32⟩
  | 3 => ⟨S32768x32, .i32⟩
  | 4 => ⟨S32768x32, .i32⟩
  | 5 => ⟨S_, .i32⟩
  | 6 => ⟨S32768, .i32⟩
  | 7 => ⟨S_, .i32⟩
  | 8 => ⟨S40960, .i32⟩
  | 9 => ⟨S32768, .i32⟩
  | 10 => ⟨S_, .i32⟩
  | 11 => ⟨S_, .i32⟩
  | 12 => ⟨S32768, .i32⟩
  | 13 => ⟨S32768, .i32⟩
  | 14 => ⟨S32768, .i32⟩
  | 15 => ⟨S_, .i32⟩
  | 16 => ⟨S32768, .i32⟩
  | 17 => ⟨S32768, .i1⟩
  | 18 => ⟨S32768, .i32⟩
  | 19 => ⟨S32768, .i32⟩
  | 20 => ⟨S_, .i32⟩
  | 21 => ⟨S32768, .i32⟩
  | 22 => ⟨S32768, .i1⟩
  | 23 => ⟨S32768, .i1⟩
  | 24 => ⟨S_, .i32⟩
  | 25 => ⟨S32768, .i32⟩
  | 26 => ⟨S32768, .i32⟩
  | 27 => ⟨S32768, .i32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S40960, .i32⟩
  | 37 => ⟨S1, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i1⟩
  | 48 => ⟨S_, .i1⟩
  | 49 => ⟨S_, .i32⟩
  | 50 => ⟨S_, .i32⟩
  | 51 => ⟨S_, .i32⟩
  | 52 => ⟨S160, .i32⟩
  | 53 => ⟨S_, .i32⟩
  | 54 => ⟨S160, .i32⟩
  | 55 => ⟨S160, .i32⟩
  | 56 => ⟨S1x32, .i32⟩
  | 57 => ⟨S160x1, .i32⟩
  | 58 => ⟨S160x32, .i32⟩
  | 59 => ⟨S160x32, .i32⟩
  | 60 => ⟨S160x32, .i1⟩
  | 61 => ⟨S160x32, .i32⟩
  | 62 => ⟨S_, .i32⟩
  | 63 => ⟨S160, .i32⟩
  | 64 => ⟨S_, .i32⟩
  | 65 => ⟨S160, .i32⟩
  | 66 => ⟨S160, .i32⟩
  | 67 => ⟨S160, .i32⟩
  | 68 => ⟨S160, .i32⟩
  | 69 => ⟨S160, .i1⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S1, .i32⟩
  | 80 => ⟨S_, .i32⟩
  | 81 => ⟨S160, .i32⟩
  | 82 => ⟨S16384x2, .i32⟩
  | 83 => ⟨S_, .i32⟩
  | 84 => ⟨S40960, .i32⟩
  | 85 => ⟨S40960, .i1⟩
  | 86 => ⟨S_, .i32⟩
  | 87 => ⟨S40960, .i32⟩
  | 88 => ⟨S40960, .i32⟩
  | 89 => ⟨S40960, .i32⟩
  | 90 => ⟨S40960x1, .i32⟩
  | 91 => ⟨S40960x4096, .bf16⟩
  | 92 => ⟨S40960x1024, .bf16⟩
  | 93 => ⟨S40960x4096, .bf16⟩
  | 94 => ⟨S16384x1, .f32⟩
  | 95 => ⟨S16384x1, .i32⟩
  | 96 => ⟨S16384, .i32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384x4096, .bf16⟩
  | 106 => ⟨S16384x4096, .f32⟩
  | 107 => ⟨S16384x4096, .f32⟩
  | 108 => ⟨S16384x4096, .f32⟩
  | 109 => ⟨S16384x1, .f32⟩
  | 110 => ⟨S16384x1, .i32⟩
  | 111 => ⟨S16384, .i32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x4096, .bf16⟩
  | 121 => ⟨S16384x4096, .f32⟩
  | 122 => ⟨S16384x4096, .f32⟩
  | 123 => ⟨S16384x4096, .f32⟩
  | 124 => ⟨S16384x4096, .f32⟩
  | 125 => ⟨S16384x4096, .f32⟩
  | 126 => ⟨S1x16384x4096, .f32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | .local _ .vmem, ⟨0, _⟩ => ⟨S256x4096, .bf16⟩
  | .local _ .vmem, ⟨1, _⟩ => ⟨S256x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .vmem, ⟨10, _⟩ => ⟨S256x1024, .bf16⟩
  | .local _ .vmem, ⟨11, _⟩ => ⟨S256x1024, .bf16⟩
  | .local _ .vmem, ⟨12, _⟩ => ⟨S1x1024x4096, .f32⟩
  | .local _ .vmem, ⟨13, _⟩ => ⟨S1x1024x4096, .f32⟩
  | .local _ .vmem, ⟨14, _⟩ => ⟨S256x4096, .bf16⟩
  | .local _ .vmem, ⟨15, _⟩ => ⟨S256x4096, .bf16⟩
  | .local _ .vmem, ⟨16, _⟩ => ⟨S1024x4096, .bf16⟩
  | .local _ .smem, ⟨0, _⟩ => ⟨S160, .i32⟩
  | .local _ .smem, ⟨1, _⟩ => ⟨S1, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v21 : Ref sig .tc := ⟨.hbm, 56, rfl⟩
abbrev main_v22 : Ref sig .tc := ⟨.hbm, 57, rfl⟩
abbrev main_values : Ref sig .tc := ⟨.hbm, 58, rfl⟩
abbrev main_indices : Ref sig .tc := ⟨.hbm, 59, rfl⟩
abbrev main_cst_3 : Ref sig .tc := ⟨.hbm, 60, rfl⟩
abbrev main_v23 : Ref sig .tc := ⟨.hbm, 61, rfl⟩
abbrev main_cst_4 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_5 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_call2_call0_c : Ref sig .tc := ⟨.hbm, 90, rfl⟩
abbrev main_call2_call0_v0 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_6 : Ref sig .tc := ⟨.hbm, 95, rfl⟩
abbrev main_v52 : Ref sig .tc := ⟨.hbm, 96, rfl⟩
abbrev main_v53 : Ref sig .tc := ⟨.hbm, 97, rfl⟩
abbrev main_c_7 : Ref sig .tc := ⟨.hbm, 98, rfl⟩
abbrev main_v54 : Ref sig .tc := ⟨.hbm, 99, rfl⟩
abbrev main_v55 : Ref sig .tc := ⟨.hbm, 100, rfl⟩
abbrev main_c_8 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_c : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_0 : Ref sig .tc := ⟨.hbm, 115, rfl⟩
abbrev main_call3_v12 : Ref sig .tc := ⟨.hbm, 116, rfl⟩
abbrev main_call3_v13 : Ref sig .tc := ⟨.hbm, 117, rfl⟩
abbrev main_v56 : Ref sig .tc := ⟨.hbm, 118, rfl⟩
abbrev main_c_9 : Ref sig .tc := ⟨.hbm, 119, rfl⟩
abbrev main_v57 : Ref sig .tc := ⟨.hbm, 120, rfl⟩
abbrev main_v58 : Ref sig .tc := ⟨.hbm, 121, rfl⟩
abbrev main_call4_call0_c : Ref sig .tc := ⟨.hbm, 122, rfl⟩
abbrev main_call4_call0_v0 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_c_10 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_c_11 : Ref sig .tc := ⟨.hbm, 133, rfl⟩
abbrev main_v67 : Ref sig .tc := ⟨.hbm, 134, rfl⟩
abbrev main_c_12 : Ref sig .tc := ⟨.hbm, 135, rfl⟩
abbrev main_v68 : Ref sig .tc := ⟨.hbm, 136, rfl⟩
abbrev main_v69 : Ref sig .tc := ⟨.hbm, 137, rfl⟩
abbrev main_c_13 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_c : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_0 : Ref sig .tc := ⟨.hbm, 152, rfl⟩
abbrev main_call5_v12 : Ref sig .tc := ⟨.hbm, 153, rfl⟩
abbrev main_call5_v13 : Ref sig .tc := ⟨.hbm, 154, rfl⟩
abbrev main_v70 : Ref sig .tc := ⟨.hbm, 155, rfl⟩
abbrev main_c_14 : Ref sig .tc := ⟨.hbm, 156, rfl⟩
abbrev main_v71 : Ref sig .tc := ⟨.hbm, 157, rfl⟩
abbrev main_v72 : Ref sig .tc := ⟨.hbm, 158, rfl⟩
abbrev main_c_15 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_c_16 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_c : Ref sig .tc := ⟨.hbm, 174, rfl⟩
abbrev main_call6_v6 : Ref sig .tc := ⟨.hbm, 175, rfl⟩
abbrev main_call6_v7 : Ref sig .tc := ⟨.hbm, 176, rfl⟩
abbrev main_call6_c_0 : Ref sig .tc := ⟨.hbm, 177, rfl⟩
abbrev main_call6_v8 : Ref sig .tc := ⟨.hbm, 178, rfl⟩
abbrev main_v80 : Ref sig .tc := ⟨.hbm, 179, rfl⟩
abbrev main_v81 : Ref sig .tc := ⟨.hbm, 180, rfl⟩
abbrev main_c_17 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_c_18 : Ref sig .tc := ⟨.hbm, 190, rfl⟩
abbrev main_v90 : Ref sig .tc := ⟨.hbm, 191, rfl⟩
abbrev main_c_19 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_c_20 : Ref sig .tc := ⟨.hbm, 198, rfl⟩
abbrev main_v96 : Ref sig .tc := ⟨.hbm, 199, rfl⟩
abbrev main_c_21 : Ref sig .tc := ⟨.hbm, 200, rfl⟩
abbrev main_v97 : Ref sig .tc := ⟨.hbm, 201, rfl⟩
abbrev main_c_22 : Ref sig .tc := ⟨.hbm, 202, rfl⟩
abbrev main_v98 : Ref sig .tc := ⟨.hbm, 203, rfl⟩
abbrev main_c_23 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_call7_v0 : Ref sig .tc := ⟨.hbm, 209, rfl⟩
abbrev main_v104 : Ref sig .tc := ⟨.hbm, 210, rfl⟩
abbrev main_c_24 : Ref sig .tc := ⟨.hbm, 211, rfl⟩
abbrev main_v106 : Ref sig .tc := ⟨.hbm, 212, rfl⟩
abbrev main_v107 : Ref sig .tc := ⟨.hbm, 213, rfl⟩
abbrev main_c_25 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_c_26 : Ref sig .tc := ⟨.hbm, 225, rfl⟩
abbrev main_v118 : Ref sig .tc := ⟨.hbm, 226, rfl⟩
abbrev main_v119 : Ref sig .tc := ⟨.hbm, 227, rfl⟩
abbrev main_c_27 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_c_28 : Ref sig .tc := ⟨.hbm, 240, rfl⟩
abbrev main_v131 : Ref sig .tc := ⟨.hbm, 241, rfl⟩
abbrev main_v132 : Ref sig .tc := ⟨.hbm, 242, rfl⟩
abbrev main_c_29 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v103 : Ref sig .tc := ⟨.smem, 0, rfl⟩
abbrev main_v105 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 160], ![false, false]⟩

abbrev pre0 : Pipeline.Prefetch sig := ⟨2, ![main_v103.idx, main_v105.idx], fun | 0 => main_v103.names | 1 => main_v105.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 160], ![false, false]⟩

abbrev pre1 : Pipeline.Prefetch sig := ⟨2, ![main_v103.idx, main_v105.idx], fun | 0 => main_v103.names | 1 => main_v105.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_off2 (i : grid1.Coords) : Fin 1 → Nat :=
  let arg1 : BitVec 32 := BitVec.ofNat 32 (i 1).val
  let v9 : Index := Scalar.indexCast arg1
  ![v9.toNat]
def k1_off3 (i : grid1.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k1_cond1 (i : grid1.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k1_cond3 (i : grid1.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (k1_off1_inb : ∀ i : grid1.Coords, ∀ a, (k1_off1 i) a + S1.size a ≤ S160.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k1_off1_inb i)) numel1_S1
  let c0_i32 : BitVec 32 := 0#32
  let c0_i32_0 : BitVec 32 := 0#32
  ![v1.toNat, c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1024x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S16384x4096 : Shape := ⟨2, ![16384, 4096]⟩
abbrev S16384x128 : Shape := ⟨2, ![16384, 128]⟩
abbrev S1x32x4096x1024 : Shape := ⟨4, ![1, 32, 4096, 1024]⟩
abbrev S1x32x1024x4096 : Shape := ⟨4, ![1, 32, 1024, 4096]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S16384x4x8 : Shape := ⟨3, ![16384, 4, 8]⟩
abbrev S1x4 : Shape := ⟨2, ![1, 4]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S32x4096x1024 : Shape := ⟨3, ![32, 4096, 1024]⟩
abbrev S32x1024x16384 : Shape := ⟨3, ![32, 1024, 16384]⟩
abbrev S32x16384x1024 : Shape := ⟨3, ![32, 16384, 1024]⟩
abbrev S32x16384 : Shape := ⟨2, ![32, 16384]⟩
abbrev S32x16384x1 : Shape := ⟨3, ![32, 16384, 1]⟩
abbrev S32x1024x4096 : Shape := ⟨3, ![32, 1024, 4096]⟩
abbrev S32x16384x4096 : Shape := ⟨3, ![32, 16384, 4096]⟩
abbrev S1x16384x4096 : Shape := ⟨3, ![1, 16384, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S16384x4096, .f32⟩
  | .hbm, ⟨3, _⟩ => ⟨S1x32x4096x1024, .f32⟩
  | .hbm, ⟨4, _⟩ => ⟨S1x32x4096x1024, .f32⟩
  | .hbm, ⟨5, _⟩ => ⟨S1x32x1024x4096, .f32⟩
  | .hbm, ⟨6, _⟩ => ⟨S16384x4096, .f32⟩
  | .hbm, ⟨7, _⟩ => ⟨S16384x4, .f32⟩
  | .hbm, ⟨8, _⟩ => ⟨S16384x4, .i32⟩
  | .hbm, ⟨9, _⟩ => ⟨S_, .f32⟩
  | .hbm, ⟨10, _⟩ => ⟨S_, .i32⟩
  | .hbm, ⟨11, _⟩ => ⟨S16384, .f32⟩
  | .hbm, ⟨12, _⟩ => ⟨S16384, .i32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x4, .f32⟩
  | .hbm, ⟨20, _⟩ => ⟨S16384x4, .f32⟩
  | .hbm, ⟨21, _⟩ => ⟨S16384x4, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x4, .f32⟩
  | .hbm, ⟨26, _⟩ => ⟨S16384x4, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x32, .f32⟩
  | .hbm, ⟨31, _⟩ => ⟨S16384x4x8, .f32⟩
  | .hbm, ⟨32, _⟩ => ⟨S16384x1, .i32⟩
  | .hbm, ⟨33, _⟩ => ⟨S1x4, .i32⟩
  | .hbm, ⟨34, _⟩ => ⟨S16384x4, .i32⟩
  | .hbm, ⟨35, _⟩ => ⟨S16384x4, .i32⟩
  | .hbm, ⟨36, _⟩ => ⟨S16384x4, .i1⟩
  | .hbm, ⟨37, _⟩ => ⟨S16384x4, .f32⟩
  | .hbm, ⟨38, _⟩ => ⟨S16384x8, .f32⟩
  | .hbm, ⟨39, _⟩ => ⟨S16384x2, .f32⟩
  | .hbm, ⟨40, _⟩ => ⟨S16384x2, .i32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x2, .f32⟩
  | .hbm, ⟨48, _⟩ => ⟨S16384x2, .f32⟩
  | .hbm, ⟨49, _⟩ => ⟨S16384x2, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x2, .f32⟩
  | .hbm, ⟨54, _⟩ => ⟨S16384x2, .f32⟩
  | .hbm, ⟨55, _⟩ => ⟨S16384x2, .f32⟩
  | .hbm, ⟨56, _⟩ => ⟨S16384x2, .f32⟩
  | .hbm, ⟨57, _⟩ => ⟨S16384x1, .i32⟩
  | .hbm, ⟨58, _⟩ => ⟨S_, .i32⟩
  | .hbm, ⟨59, _⟩ => ⟨S16384x1, .i32⟩
  | .hbm, ⟨60, _⟩ => ⟨S16384x1, .i32⟩
  | .hbm, ⟨61, _⟩ => ⟨S16384x2, .i32⟩
  | .hbm, ⟨62, _⟩ => ⟨S16384x2, .i32⟩
  | .hbm, ⟨63, _⟩ => ⟨S16384x2x1, .i32⟩
  | .hbm, ⟨64, _⟩ => ⟨S1x1x32, .i32⟩
  | .hbm, ⟨65, _⟩ => ⟨S16384x2x32, .i32⟩
  | .hbm, ⟨66, _⟩ => ⟨S16384x2x32, .i32⟩
  | .hbm, ⟨67, _⟩ => ⟨S16384x2x32, .i1⟩
  | .hbm, ⟨68, _⟩ => ⟨S16384x2x32, .f32⟩
  | .hbm, ⟨69, _⟩ => ⟨S16384x2x1, .f32⟩
  | .hbm, ⟨70, _⟩ => ⟨S16384x2x32, .f32⟩
  | .hbm, ⟨71, _⟩ => ⟨S16384x2x32, .f32⟩
  | .hbm, ⟨72, _⟩ => ⟨S_, .f32⟩
  | .hbm, ⟨73, _⟩ => ⟨S16384x32, .f32⟩
  | .hbm, ⟨74, _⟩ => ⟨S32x4096x1024, .f32⟩
  | .hbm, ⟨75, _⟩ => ⟨S32x1024x16384, .f32⟩
  | .hbm, ⟨76, _⟩ => ⟨S32x16384x1024, .f32⟩
  | .hbm, ⟨77, _⟩ => ⟨S32x16384x1024, .f32⟩
  | .hbm, ⟨78, _⟩ => ⟨S32x16384x1024, .f32⟩
  | .hbm, ⟨79, _⟩ => ⟨S_, .f32⟩
  | .hbm, ⟨80, _⟩ => ⟨S32x16384x1024, .f32⟩
  | .hbm, ⟨81, _⟩ => ⟨S32x16384x1024, .f32⟩
  | .hbm, ⟨82, _⟩ => ⟨S_, .f32⟩
  | .hbm, ⟨83, _⟩ => ⟨S32x16384x1024, .f32⟩
  | .hbm, ⟨84, _⟩ => ⟨S32x16384x1024, .f32⟩
  | .hbm, ⟨85, _⟩ => ⟨S32x16384x1024, .f32⟩
  | .hbm, ⟨86, _⟩ => ⟨S32x4096x1024, .f32⟩
  | .hbm, ⟨87, _⟩ => ⟨S32x1024x16384, .f32⟩
  | .hbm, ⟨88, _⟩ => ⟨S32x16384x1024, .f32⟩
  | .hbm, ⟨89, _⟩ => ⟨S32x16384x1024, .f32⟩
  | .hbm, ⟨90, _⟩ => ⟨S32x16384, .f32⟩
  | .hbm, ⟨91, _⟩ => ⟨S32x16384x1, .f32⟩
  | .hbm, ⟨92, _⟩ => ⟨S32x16384x1024, .f32⟩
  | .hbm, ⟨93, _⟩ => ⟨S32x16384x1024, .f32⟩
  | .hbm, ⟨94, _⟩ => ⟨S32x1024x4096, .f32⟩
  | .hbm, ⟨95, _⟩ => ⟨S32x16384x4096, .f32⟩
  | .hbm, ⟨96, _⟩ => ⟨S_, .f32⟩
  | .hbm, ⟨97, _⟩ => ⟨S16384x4096, .f32⟩
  | .hbm, ⟨98, _⟩ => ⟨S16384x4096, .f32⟩
  | .hbm, ⟨99, _⟩ => ⟨S1x16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v18 : Ref sig .tc := ⟨.hbm, 37, rfl⟩
abbrev main_v19 : Ref sig .tc := ⟨.hbm, 38, rfl⟩
abbrev main_values : Ref sig .tc := ⟨.hbm, 39, rfl⟩
abbrev main_indices : Ref sig .tc := ⟨.hbm, 40, rfl⟩
abbrev main_cst_3 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩

abbrev nD : Nat := 1
abbrev τ : Topo := Topo.v7x

variable {F : FTy → Type} [FloatOps F]
-- ==== KernelOut.lean ====
abbrev S16640x2048 : Shape := ⟨2, ![16640, 2048]⟩
abbrev S1x4096x4096 : Shape := ⟨3, ![1, 4096, 4096]⟩
abbrev S16640x4096 : Shape := ⟨2, ![16640, 4096]⟩
abbrev S4096x4096 : Shape := ⟨2, ![4096, 4096]⟩
abbrev S2048x4096 : Shape := ⟨2, ![2048, 4096]⟩
abbrev S16384x4096 : Shape := ⟨2, ![16384, 4096]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S1x4096x4096, .f32⟩
  | .hbm, ⟨3, _⟩ => ⟨S16640x4096, .f32⟩
  | .hbm, ⟨4, _⟩ => ⟨S4096x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S16384x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S16640x2048 : Shape := ⟨2, ![16640, 2048]⟩
abbrev S1x4096x4096 : Shape := ⟨3, ![1, 4096, 4096]⟩
abbrev S16640x4096 : Shape := ⟨2, ![16640, 4096]⟩
abbrev S16384x4096 : Shape := ⟨2, ![16384, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S1x4096x4096, .f32⟩
  | .hbm, ⟨3, _⟩ => ⟨S16640x4096, .f32⟩
  | .hbm, ⟨4, _⟩ => ⟨S16640x2048, .f32⟩
  | .hbm, ⟨5, _⟩ => ⟨S16640x2048, .f32⟩
  | .hbm, ⟨6, _⟩ => ⟨S16640x4096, .f32⟩
  | .hbm, ⟨7, _⟩ => ⟨S16384x4096, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S16384x4096, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelNorm.lean ====
abbrev S16384x4096 : Shape := ⟨2, ![16384, 4096]⟩
abbrev S1x4096 : Shape := ⟨2, ![1, 4096]⟩
abbrev S4096x128 : Shape := ⟨2, ![4096, 128]⟩
abbrev S1x128 : Shape := ⟨2, ![1, 128]⟩
abbrev S4096 : Shape := ⟨1, ![4096]⟩
abbrev S16384x128 : Shape := ⟨2, ![16384, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x128, .f32⟩
  | .hbm, ⟨3, _⟩ => ⟨S1x128, .f32⟩
  | .hbm, ⟨4, _⟩ => ⟨S4096, .f32⟩
  | .hbm, ⟨5, _⟩ => ⟨S1x4096, .f32⟩
  | .hbm, ⟨6, _⟩ => ⟨S16384x4096, .bf16⟩
  | .hbm, ⟨7, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x128, .f32⟩
  | .local _ .vmem, ⟨4, _⟩ => ⟨S1x128, .f32⟩
  | .local _ .vmem, ⟨5, _⟩ => ⟨S512x4096, .bf16⟩
  | .local _ .vmem, ⟨6, _⟩ => ⟨S512x4096, .bf16⟩
  | .local _ .vmem, ⟨7, _⟩ => ⟨S512x128, .f32⟩
  | .local _ .vmem, ⟨8, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceNormIdeal.lean ====
abbrev S16384x4096 : Shape := ⟨2, ![16384, 4096]⟩
abbrev S1x4096 : Shape := ⟨2, ![1, 4096]⟩
abbrev S4096x128 : Shape := ⟨2, ![4096, 128]⟩
abbrev S1x128 : Shape := ⟨2, ![1, 128]⟩
abbrev S4096 : Shape := ⟨1, ![4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x128, .f32⟩
  | .hbm, ⟨3, _⟩ => ⟨S1x128, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .bf16⟩
  | .hbm, ⟨22, _⟩ => ⟨S16384x128, .f32⟩
  | .hbm, ⟨23, _⟩ => ⟨S16384x128, .f32⟩
  | .hbm, ⟨24, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Base.lean ====
/-
  What the two expert kernels' proofs share: the resource algebra, a buffer held whole, the words of the two prefetched
  tables (the expert of every tile, the number of tiles in use) and the two tests the bodies make of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Exec
public import Idealize.ShloMosaic.Lib.WordCmp
public import Idealize.ShloMosaic.Lib.VecWindow
public import Idealize.ShloMosaic.Lib.ValueIdx

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The pipeline library's algebra beside the transfers' counters. -/
abbrev UU : Type := UR sig nD τ × Counters

/-- The program's resources over any float values. -/
abbrev MM (F : FTy → Type) : Type := MT nD τ sig Unit (Elt F) ℕ UU ℕ

variable {F : FTy → Type}

/-- The contents of a memref's buffer on device `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MM F) :=
  M.view.loc (c : Thread nD τ) ↦{fullShare} f

export Idealize.ShloMosaic.ValueIdx (ix0 ix1 ix2 ix3)

theorem ix1_eta {n : Nat} (j : (Shape.mk 1 ![n]).Idx) : j = ix1 (j 0) := by
  funext a; match a with | ⟨0, _⟩ => rfl
theorem ix2_eta {n k : Nat} (j : (Shape.mk 2 ![n, k]).Idx) : j = ix2 (j 0) (j 1) := by
  funext a; match a with | ⟨0, _⟩ => rfl | ⟨1, _⟩ => rfl
theorem ix3_eta {n k l : Nat} (j : (Shape.mk 3 ![n, k, l]).Idx) : j = ix3 (j 0) (j 1) (j 2) := by
  funext a; match a with | ⟨0, _⟩ => rfl | ⟨1, _⟩ => rfl | ⟨2, _⟩ => rfl

/-- The two tables as arrays of words. -/
abbrev TeT : Type := S160.Idx → BitVec 32
abbrev NuT : Type := S1.Idx → BitVec 32

/-- Tile `t` is in use. -/
def Live (nu : NuT) (t : Fin 160) : Prop := (t.val : Int) < (nu (ix1 0)).toInt
/-- The tile before `t`, the first tile standing for its own. -/
def prevTile (t : Fin 160) : Fin 160 := ⟨t.val - 1, by omega⟩
/-- Tile `t` brings in new weights: it is the first, or its expert is not the expert of the tile before it. -/
def Fresh (te : TeT) (t : Fin 160) : Prop := t.val = 0 ∨ te (ix1 t) ≠ te (ix1 (prevTile t))

instance (nu : NuT) (t : Fin 160) : Decidable (Live nu t) := by unfold Live; infer_instance
instance (te : TeT) (t : Fin 160) : Decidable (Fresh te t) := by unfold Fresh; infer_instance

/-- A condition widened to a word and tested against zero is the condition. -/
theorem widened_ne (b : BitVec 1) : (Scalar.cmpi .ne (Scalar.extui b) 0#32 = 1#1) ↔ b = 1#1 := by
  revert b; decide

theorem toInt_tile (t : Fin 160) : (BitVec.ofNat 32 t.val).toInt = (t.val : Int) := by
  revert t; decide +kernel

theorem bool_one (p : Prop) [Decidable p] : BitVec.ofBool (decide p) = 1#1 ↔ p := by
  by_cases h : p <;> simp [h]

theorem slt_one (t : Fin 160) (w : BitVec 32) : Scalar.cmpi .slt (BitVec.ofNat 32 t.val) w = 1#1 ↔ (t.val : Int) < w.toInt := by
  rw [← toInt_tile]; exact bool_one _

theorem sge_one (t : Fin 160) (w : BitVec 32) : Scalar.cmpi .sge (BitVec.ofNat 32 t.val) w = 1#1 ↔ ¬ (t.val : Int) < w.toInt := by
  rw [← toInt_tile, Int.not_lt]; exact bool_one _

theorem eq_zero_one (t : Fin 160) : Scalar.cmpi .eq (BitVec.ofNat 32 t.val) 0#32 = 1#1 ↔ t.val = 0 := by
  revert t; decide +kernel

theorem ne_one (x y : BitVec 32) : Scalar.cmpi .ne x y = 1#1 ↔ x ≠ y := by
  show IntOp.cmpi .ne x y = 1#1 ↔ _
  rw [WordCmp.cmpi_ne_eq]; exact bool_one _

theorem or_one (a b : BitVec 1) : Scalar.ori a b = 1#1 ↔ a = 1#1 ∨ b = 1#1 := by revert a b; decide

/-- The bodies' test for new weights. -/
theorem fresh_one (te : TeT) (t : Fin 160) (x y : BitVec 32) (hx : x = te (ix1 t)) (hy : y = te (ix1 (prevTile t))) :
    (Scalar.cmpi .ne (Scalar.extui (Scalar.ori (Scalar.cmpi .eq (BitVec.ofNat 32 t.val) 0#32) (Scalar.cmpi .ne x y))) 0#32 = 1#1) ↔ Fresh te t := by
  rw [widened_ne, or_one, eq_zero_one, ne_one, hx, hy]; rfl

theorem off2_eq (t : Fin 160) : (Scalar.indexCast (BitVec.ofNat 32 t.val)).toNat = t.val := by revert t; decide +kernel
theorem off3_eq (t : Fin 160) : (Scalar.indexCast (Scalar.maxsi (Scalar.subi (BitVec.ofNat 32 t.val) 1#32) 0#32)).toNat = (prevTile t).val := by
  revert t; decide +kernel

/-- The element a one-word load at offset `n` reads. -/
theorem ix1_first {n : Nat} {off : Fin 1 → Nat} (h : ∀ a, off a + S1.size a ≤ (Shape.mk 1 ![n]).size a) (x : S1.Idx)
    {t : Fin n} (ht : off 0 = t.val) : (Rect.unit (s := Shape.mk 1 ![n]) off S1.size h).emb x = ix1 t := by
  funext a
  match a with
  | ⟨0, _⟩ =>
    refine Fin.ext ?_
    have hx : (x 0).val = 0 := by have := (x 0).isLt; change (x 0).val < 1 at this; omega
    show off 0 + 1 * (x 0).val = t.val
    omega

/-- A whole buffer stored over entirely holds what was stored. -/
theorem whole_writes_full {Val : EltTy → Type} (b : Ref sig .tc) (f : b.ty.Contents Val) {off : Fin b.ty.shape.rank → Nat}
    (inb : ∀ a, off a + b.ty.shape.size a ≤ b.ty.shape.size a) (w : (Rect.unit off b.ty.shape.size inb).shape.Idx → Val b.ty.elt) (L : List (View.Piece Val b.ty.shape b.ty.elt)) :
    (Memref.whole b).view.writes Val f (⟨Rect.unit off b.ty.shape.size inb, w⟩ :: L) = w :=
  View.read_writes_full (Memref.whole b).view f inb w L

end Cert.Moe
-- ==== Proof.Tables.lean ====
/-
  The prefetched table of experts: what the host operations before the regions leave in it, and that each of its words
  names one of the 32 experts whatever the inputs are.
-/
module

public import proofs.«01_k».proof.Proof.Base
public import proofs.«01_k».proof.Proof.Gen.KernelIdeal.Regions
public import Idealize.ShloMosaic.Lib.StableHlo.RunRead
public import Idealize.ShloMosaic.Lib.Routing.OpsOne
public import Idealize.ShloMosaic.Lib.Routing.OpsPair
public import Idealize.ShloMosaic.Lib.Routing.Words

@[expose] public section

set_option maxRecDepth 8000

noncomputable section

namespace Cert.Moe

open Cert.KernelIdeal Cert.KernelIdeal.Gen
open Idealize.ShloMosaic Idealize.ShloMosaic.TcCoe Idealize.ShloMosaic.Routing

/-- For each tile, the number of experts whose padded rows end at or before the tile's first row, cut to 31. -/
def tileCount (pEnd : IVec S32 32) : IVec S160 32 :=
  minsi
    (Host.reduce IntOp.addi
      (extui 32 (cmpi .sle
        (broadcastInDim S160x32 ![0, 1] bcast_S1x32_S160x32_0_1 (broadcastInDim S1x32 ![1] bcast_S32_S1x32_1 pEnd))
        (broadcastInDim S160x32 ![0, 1] bcast_S160x1_S160x32_0_1 (broadcastInDim S160x1 ![0] bcast_S160_S160x1_0
          (muli (iotaInDim S160 32 0) (broadcastInDim S160 ![] bcast_S_S160 (constantI S_ 32 256#32))))))
        natLt_1_32)
      (constantI S_ 32 0#32) reducesTo_S160x32_S160_d1 h_S_)
    (broadcastInDim S160 ![] bcast_S_S160 (constantI S_ 32 31#32))

/-- The position of the last tile in use, as the printed slice reads it. -/
def lastTile (nu : IVec S_ 32) : IVec S_ 32 :=
  select (cmpi .slt (maxsi (subi nu (constantI S_ 32 1#32)) (constantI S_ 32 0#32)) (constantI S_ 32 0#32))
    (addi (maxsi (subi nu (constantI S_ 32 1#32)) (constantI S_ 32 0#32)) (constantI S_ 32 160#32))
    (maxsi (subi nu (constantI S_ 32 1#32)) (constantI S_ 32 0#32))

/-- The table of experts: the count of each tile in use, and that of the last tile in use for the tiles past it. -/
def teOf (pEnd : IVec S32 32) (nu : IVec S_ 32) : IVec S160 32 :=
  select (cmpi .slt (iotaInDim S160 32 0) (broadcastInDim S160 ![] bcast_S_S160 nu)) (tileCount pEnd)
    (broadcastInDim S160 ![] bcast_S_S160
      (shapeCast S_ (Host.dynamicSlice S1 (tileCount pEnd) (fun _ => (lastTile nu (Shape.Idx.first h_S_)).toInt)
        sliceFits_S160_S1) shapeCasts_S1_S_))

section Read

variable {F : FTy → Type} [FloatOps F]

/-- The tiles' counts, as the stretch that computes them leaves them. -/
theorem count_read (W : Valuation τ sig (Elt F)) :
    (StableHlo.after hostOps0_14 W main_v92 : TeT) = tileCount (W main_v59) := by
  after_reads_simp
  rfl

theorem inUse_read (W : Valuation τ sig (Elt F)) :
    (StableHlo.after hostOps0_14 W main_v95 : IVec S160 1)
      = cmpi .slt (iotaInDim S160 32 0) (broadcastInDim S160 ![] bcast_S_S160 (W main_v80 : IVec S_ 32)) := by
  after_reads_simp

theorem last_read (W : Valuation τ sig (Elt F)) :
    (StableHlo.after hostOps0_14 W main_v102 : IVec S_ 32)
      = shapeCast S_ (Host.dynamicSlice S1 (tileCount (W main_v59)) (fun _ => (lastTile (W main_v80) (Shape.Idx.first h_S_)).toInt)
        sliceFits_S160_S1) shapeCasts_S1_S_ := by
  after_reads_simp [StableHlo.unaryIndexed_result_read, StableHlo.indexContents_cons]
  funext i
  refine congrFun (congrArg (fun g => shapeCast S_ g shapeCasts_S1_S_)
    (congrArg (fun st => Host.dynamicSlice S1 (tileCount (W main_v59)) st sliceFits_S160_S1) (funext fun k => ?_))) i
  match k with
  | ⟨0, _⟩ => rfl

theorem te_read (W : Valuation τ sig (Elt F)) :
    (StableHlo.after hostOps0_15 (StableHlo.after hostOps0_14 W) main_v103 : TeT)
      = teOf (W main_v59) (W main_v80) := by
  rw [teOf, ← inUse_read, ← last_read, ← count_read]
  generalize StableHlo.after hostOps0_14 W = W'
  after_reads_simp
  rfl

end Read

theorem tileCount_lt (pEnd : IVec S32 32) (i : S160.Idx) : (tileCount pEnd i).toNat < 32 := by
  obtain ⟨k, rfl⟩ : ∃ k : Fin 160, i = ix1 k := ⟨i 0, ix1_eta i⟩
  have h : ∃ n : ℕ, n ≤ 32 ∧ Host.reduce IntOp.addi
      (extui 32 (cmpi .sle
        (broadcastInDim S160x32 ![0, 1] bcast_S1x32_S160x32_0_1 (broadcastInDim S1x32 ![1] bcast_S32_S1x32_1 pEnd))
        (broadcastInDim S160x32 ![0, 1] bcast_S160x1_S160x32_0_1 (broadcastInDim S160x1 ![0] bcast_S160_S160x1_0
          (muli (iotaInDim S160 32 0) (broadcastInDim S160 ![] bcast_S_S160 (constantI S_ 32 256#32))))))
        natLt_1_32)
      (constantI S_ 32 0#32) reducesTo_S160x32_S160_d1 h_S_ (ix1 k) = BitVec.ofNat 32 n := by
    generalize cmpi .sle _ _ = msk
    classical
    exact ⟨_, Nat.count_le _, reduce_count (by norm_num) msk natLt_1_32 reducesTo_S160x32_S160_d1 h_S_ k
      (fun q => ∃ h : q < 32, msk (ix2 k ⟨q, h⟩) = 1#1) fun q => ⟨fun h => ⟨q.isLt, h⟩, fun ⟨_, h⟩ => h⟩⟩
  obtain ⟨n, hn, e⟩ := h
  have e' : tileCount pEnd (ix1 k) = IntOp.minsi (BitVec.ofNat 32 n) 31#32 := by
    rw [← e]; rfl
  rw [e']
  have : ∀ n : Fin 33, (IntOp.minsi (BitVec.ofNat 32 n.val) 31#32).toNat < 32 := by decide
  exact this ⟨n, by omega⟩

theorem teOf_lt (pEnd : IVec S32 32) (nu : IVec S_ 32) (i : S160.Idx) : (teOf pEnd nu i).toNat < 32 := by
  have e : ∃ j : S160.Idx, teOf pEnd nu i = Scalar.select
      (cmpi .slt (iotaInDim S160 32 0) (broadcastInDim S160 ![] bcast_S_S160 nu) i) (tileCount pEnd i)
      (tileCount pEnd j) := ⟨_, rfl⟩
  obtain ⟨j, e⟩ := e
  rw [e]
  unfold Scalar.select
  split
  · exact tileCount_lt pEnd i
  · exact tileCount_lt pEnd j

end Cert.Moe
-- ==== Proof.Segment.lean ====
/-
  A region with prefetched tables as a segment of @main: entered from every unscoped buffer held at one valuation, left
  with every unscoped buffer held at another that differs from it at the region's arrays alone.
-/
module

public import proofs.«01_k».proof.Proof.Base
public import Idealize.ShloMosaic.Lib.Pipeline.RegionArraysT

@[expose] public section

noncomputable section

namespace Cert.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose PLaunchFacts RegionSeg arrRef arrRefs tblRefs ucRefs pin)

variable {F : FTy → Type} [FloatOps F]

/-- No core owes another anything: no level is given out. -/
abbrev noL : GSem nD τ sig → Finset Unit := fun _ => ∅
/-- The level of a cell, were one given out. -/
abbrev lv0 : GSem nD τ sig → Unit → ℕ := fun _ _ => 0

/-- What rides beside the buffers: the core owes nothing. -/
abbrev Owe (c : Dev nD) : sProp (MM F) := iprop(∃ W, owes (c : Thread nD τ) (0 : CellTallies nD τ sig Unit) W)

section

variable (a : (p : Fin 2) → (pcfgs (F := F) p).Adm)
  (pdats : (p : Fin 2) → (c : Dev nD) → Dat τ (Elt F) Unit ℕ UU ℕ (pin (pcfgs (F := F)) a p) c) (p : Fin 2)

/-- The unscoped buffers that are neither an array nor a table of the region. -/
abbrev restRefs : Finset (DevRef τ sig) := (ucRefs τ sig \ arrRefs (pcfgs (F := F) p).spec) \ tblRefs (pcfgs (F := F) p).pre

omit [FloatOps F] in
/-- The unscoped buffers are the arrays, the tables and the rest. -/
theorem uc_split [FloatOps F] (kit : PLaunchFacts (nD := nD) (τ := τ) (pcfgs (F := F)) p) (c : Dev nD) (V : Valuation τ sig (Elt F)) :
    (StableHlo.held (c : Thread nD τ) (ucRefs τ sig) V : sProp (MM F))
      = iprop(StableHlo.held (c : Thread nD τ) (arrRefs (pcfgs (F := F) p).spec) V
        ∗ StableHlo.held (c : Thread nD τ) (tblRefs (pcfgs (F := F) p).pre) V
        ∗ StableHlo.held (c : Thread nD τ) (restRefs (F := F) p) V) := by
  rw [StableHlo.held_sub_split (c : Thread nD τ) (Pipeline.arrRefs_sub_ucRefs (pcfgs (F := F) p).spec kit.win.arr_unscoped) V,
    StableHlo.held_sub_split (c : Thread nD τ) (Pipeline.tblRefs_sub_ucRefs_sdiff (pcfgs (F := F) p).spec (pcfgs (F := F) p).pre
      kit.pre.unscoped kit.pre.disj) V]

/-- The region's segment. -/
def regionSeg (kit : PLaunchFacts (nD := nD) (τ := τ) (pcfgs (F := F)) p)
    (hbody : ∀ c, BodyObligationLoose (pdats p c) defs₀ Variants.none () Set.univ)
    (howed : ∀ c t, (pdats p c).owed t = 0) (hrec : ∀ c, (pdats p c).recorded 0 = Set.univ)
    (hshare : ∀ c w, (pdats p c).share w = fullShare)
    (hin : ∀ c, iprop(iprop(Pipeline.scopedRest (pin (pcfgs (F := F)) a p).spec c ∗ emp) ∗ Pipeline.tablesAt (pcfgs (F := F)) a p c) ⊢ (pdats p c).Φ 0)
    (hout : ∀ c, (pdats p c).Φ (Fin.last (pin (pcfgs (F := F)) a p).N)
      ⊢ iprop(iprop(Pipeline.scopedRest (pin (pcfgs (F := F)) a p).spec c ∗ emp) ∗ Pipeline.tablesAt (pcfgs (F := F)) a p c))
    (W W' : Dev nD → Valuation τ sig (Elt F))
    (hW : ∀ c w, (pdats p c).arrAt w 0 = W c (Proc.devRef .tc (arrRef (pin (pcfgs (F := F)) a p).spec w)))
    (hT : ∀ c k, (a p).1 k = W c (Proc.devRef .tc ((pcfgs (F := F) p).pre.ref k)))
    (hW' : ∀ c w, (pdats p c).arrAt w (pin (pcfgs (F := F)) a p).N = W' c (Proc.devRef .tc (arrRef (pin (pcfgs (F := F)) a p).spec w)))
    (hT' : ∀ c k, (a p).1 k = W' c (Proc.devRef .tc ((pcfgs (F := F) p).pre.ref k)))
    (hrest : ∀ c, ∀ b ∈ restRefs (F := F) p, W c b = W' c b) :
    RegionSeg (pcfgs (F := F)) a pdats () defs₀ Variants.none noL lv0 p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ noL lv0 p howed
  pre c := iprop(StableHlo.held (c : Thread nD τ) (ucRefs τ sig) (W c) ∗ Owe c)
  post c := iprop(StableHlo.held (c : Thread nD τ) (ucRefs τ sig) (W' c) ∗ Owe c)
  X _ := iprop(emp)
  Y c := Pipeline.tablesAt (pcfgs (F := F)) a p c
  Z c := StableHlo.held (c : Thread nD τ) (restRefs (F := F) p) (W c)
  hentry c := by
    rw [Pipeline.ownSems0_none, uc_split p kit c (W c),
      ← Pipeline.arrays_held (pcfgs (F := F)) a pdats p kit c (hshare c) ((pdats p c).arrAt · 0) (W c) (hW c),
      ← Pipeline.prefHeld_held (pcfgs (F := F) p).pre kit.pre.inj c (a p).1 (W c) (hT c)]
    iintro ⟨⟨⟨Ha, Hpf, HR⟩, HO⟩, -, -⟩
    imodintro
    isplitl [Ha]; · iexact Ha
    isplitl [Hpf]; · iexact Hpf
    isplitl [HO]
    · unfold Dat.owesAt Pipeline.owesWithin Dat.bound
      rw [howed c 0, hrec c]
      icases HO with ⟨%Wd, HO⟩; iexists Wd; isplitr; · ipureintro; exact fun _ _ => Or.inl trivial
      iexact HO
    isplitr; · iempintro
    iexact HR
  hin c := (show _ ⊢ iprop(iprop(Pipeline.scopedRest (pin (pcfgs (F := F)) a p).spec c ∗ emp) ∗ Pipeline.tablesAt (pcfgs (F := F)) a p c) from by
    iintro ⟨-, Hpf, Hr⟩
    isplitl [Hr]
    · isplitl [Hr]; · iexact Hr
      iempintro
    iexact Hpf).trans (hin c)
  hout c := (hout c).trans (by
    rw [Pipeline.ownSems0_none]
    iintro ⟨⟨Hr, -⟩, Hpf⟩
    isplitl [Hpf]; · iexact Hpf
    isplitr; · iempintro
    iexact Hr)
  hexit c := by
    rw [uc_split p kit c (W' c),
      ← Pipeline.arrays_held (pcfgs (F := F)) a pdats p kit c (hshare c) ((pdats p c).arrAt · (pin (pcfgs (F := F)) a p).N) (W' c) (hW' c),
      ← Pipeline.prefHeld_held (pcfgs (F := F) p).pre kit.pre.inj c (a p).1 (W' c) (hT' c),
      StableHlo.held_congr (c : Thread nD τ) (hrest c)]
    iintro ⟨Ha, HO, Hpf, HR⟩
    imodintro
    isplitr [HO]
    · isplitl [Ha]; · iexact Ha
      isplitl [Hpf] <;> iassumption
    unfold Dat.owesAt Pipeline.owesWithin
    rw [howed c (Fin.last _)]
    icases HO with ⟨%Wd, -, HO⟩; iexists Wd; iexact HO

end

end Cert.Moe
-- ==== Proof.UpBody.lean ====
/-
  The up kernel's body at one grid point: what it leaves in its output block and in its two weight scratches.
-/
module

public import proofs.«01_k».proof.Proof.Base
public import Idealize.ShloMosaic.Lib.VecWindow

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

/-- The tile of a grid point. -/
abbrev tile0 (i : grid0.Coords) : Fin 160 := i 1

theorem k0_cond1_iff (i : grid0.Coords) (w : BitVec 32) : k0_cond1 i w = 1#1 ↔ ((i 1).val : Int) < w.toInt := by
  unfold k0_cond1; exact (widened_ne _).trans (slt_one (i 1) w)
theorem k0_cond3_iff (i : grid0.Coords) (w : BitVec 32) : k0_cond3 i w = 1#1 ↔ ¬ ((i 1).val : Int) < w.toInt := by
  unfold k0_cond3; exact (widened_ne _).trans (sge_one (i 1) w)

/-- What the up kernel's body leaves at one grid point: `o` in its output block, `g8` and `g9` in its two weight scratches. -/
def upPost (t : Fin 160) (te : TeT) (nu : NuT) (x : S256x4096.Idx → Elt F .bf16) (wg wu : S1x4096x512.Idx → Elt F .f32)
    (f8 f9 : S4096x512.Idx → Elt F .bf16) (o : S256x512.Idx → Elt F .bf16) (g8 g9 : S4096x512.Idx → Elt F .bf16) : Prop :=
  g8 = (if Live nu t ∧ Fresh te t then k0_pay1 wg else f8) ∧ g9 = (if Live nu t ∧ Fresh te t then k0_pay2 wu else f9)
    ∧ o = (if Live nu t then k0_pay3 x g8 g9 else k0_pay4)

theorem up_run (c : Dev nD) (i : grid0.Coords) (M2 : Memref sig .tc .smem S160 .i32) (h2 : M2.IsWhole) (M3 : Memref sig .tc .smem S1 .i32) (h3 : M3.IsWhole)
    (M4 : Memref sig .tc .vmem S256x4096 .bf16) (h4 : M4.IsWhole) (M5 : Memref sig .tc .vmem S1x4096x512 .f32) (h5 : M5.IsWhole)
    (M6 : Memref sig .tc .vmem S1x4096x512 .f32) (h6 : M6.IsWhole) (M7 : Memref sig .tc .vmem S256x512 .bf16) (h7 : M7.IsWhole)
    (M8 : Memref sig .tc .vmem S4096x512 .bf16) (h8 : M8.IsWhole) (M9 : Memref sig .tc .vmem S4096x512 .bf16) (h9 : M9.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (E : Set ℕ) (Q : PUnit → sProp (MM F)) :
    iprop(pt c M2 f2 ∗ pt c M3 f3 ∗ pt c M4 f4 ∗ pt c M5 f5 ∗ pt c M6 f6 ∗ pt c M7 f7 ∗ pt c M8 f8 ∗ pt c M9 f9 ∗
      (iprop(pt c M2 f2 ∗ pt c M3 f3 ∗ pt c M4 f4 ∗ pt c M5 f5 ∗ pt c M6 f6 ∗
        ∃ g7 : Bf (F := F) c M7, ∃ g8 : Bf (F := F) c M8, ∃ g9 : Bf (F := F) c M9,
        ⌜upPost (tile0 i) (M2.view.read (Elt F) f2) (M3.view.read (Elt F) f3) (M4.view.read (Elt F) f4) (M5.view.read (Elt F) f5) (M6.view.read (Elt F) f6)
            (M8.view.read (Elt F) f8) (M9.view.read (Elt F) f9) (M7.view.read (Elt F) g7) (M8.view.read (Elt F) g8) (M9.view.read (Elt F) g9)⌝
        ∗ pt c M7 g7 ∗ pt c M8 g8 ∗ pt c M9 g9) -∗ Q ⟨⟩))
      ⊢ wp frame (wpE (defs₀ (F := F)) Variants.none c none) E (cc0_moe_up i M2 h2 M3 h3 M4 h4 M5 h5 M6 h6 M7 h7 M8 h8 M9 h9) Q := by
  rw [cc0_moe_up_eq_skeleton]
  unfold cc0_moe_up_skel
  iintro ⟨H2, H3, H4, H5, H6, H7, H8, H9, Hk⟩
  sl_exec
  sl_step
  iapply Hk
  isplitl [H2]; · iexact H2
  isplitl [H3]; · iexact H3
  isplitl [H4]; · iexact H4
  isplitl [H5]; · iexact H5
  isplitl [H6]; · iexact H6
  iexists _; iexists _; iexists _
  isplitr
  swap
  · isplitl [H7]; · iexact H7
    isplitl [H8]; · iexact H8
    iexact H9
  ipureintro
  clear h2 h3 h4 h5 h6 h7 h8 h9 Q E
  have hr : up_run.sl.r c M3 f3 = M3.view.read (Elt F) f3 (ix1 0) := by
    unfold up_run.sl.r
    exact congrArg (M3.view.read (Elt F) f3) (ix1_first (n := 1) _ _ rfl)
  have hc1 : (k0_cond1 i (up_run.sl.r c M3 f3) = 1#1) ↔ Live (M3.view.read (Elt F) f3) (tile0 i) := by rw [hr]; exact k0_cond1_iff i _
  have hc3 : (k0_cond3 i (up_run.sl.r c M3 f3) = 1#1) ↔ ¬ Live (M3.view.read (Elt F) f3) (tile0 i) := by rw [hr]; exact k0_cond3_iff i _
  have h18 : (up_run.sl.v18 c i M2 f2 = 1#1) ↔ Fresh (M2.view.read (Elt F) f2) (tile0 i) := by
    unfold up_run.sl.v18
    refine fresh_one (M2.view.read (Elt F) f2) (tile0 i) _ _ ?_ ?_
    · unfold up_run.sl.r_1
      exact congrArg (M2.view.read (Elt F) f2) (ix1_first _ _ (off2_eq (tile0 i)))
    · unfold up_run.sl.r_2
      exact congrArg (M2.view.read (Elt F) f2) (ix1_first _ _ (off3_eq (tile0 i)))
  have h21 : up_run.sl.v21 c i M2 M5 M8 f2 f5 f8 = if Fresh (M2.view.read (Elt F) f2) (tile0 i) then k0_pay1 (M5.view.read (Elt F) f5) else M8.view.read (Elt F) f8 := by
    unfold up_run.sl.v21
    by_cases hf : Fresh (M2.view.read (Elt F) f2) (tile0 i)
    · rw [dif_pos (h18.mpr hf), if_pos hf, View.readAt_full, View.read_writes_full, View.readAt_full]
    · rw [dif_neg (fun h => hf (h18.mp h)), if_neg hf, View.readAt_full]
  have h23 : up_run.sl.v23 c i M2 M6 M9 f2 f6 f9 = if Fresh (M2.view.read (Elt F) f2) (tile0 i) then k0_pay2 (M6.view.read (Elt F) f6) else M9.view.read (Elt F) f9 := by
    unfold up_run.sl.v23
    by_cases hf : Fresh (M2.view.read (Elt F) f2) (tile0 i)
    · rw [dif_pos (h18.mpr hf), if_pos hf, View.readAt_full, View.read_writes_full, View.readAt_full]
    · rw [dif_neg (fun h => hf (h18.mp h)), if_neg hf, View.readAt_full]
  rw [h21, h23]
  unfold upPost
  by_cases hl : Live (M3.view.read (Elt F) f3) (tile0 i)
  · have c1 := hc1.mpr hl
    have c3 : ¬ (k0_cond3 i (up_run.sl.r c M3 f3) = 1#1) := fun h => hc3.mp h hl
    by_cases hf : Fresh (M2.view.read (Elt F) f2) (tile0 i)
    · have c18 := h18.mpr hf
      rw [dif_pos c1, dif_pos c1, dif_neg c3, dif_pos c1, dif_pos c18, dif_pos c18, if_pos ⟨hl, hf⟩, if_pos ⟨hl, hf⟩, if_pos hl, if_pos hf, if_pos hf]
      rw [View.read_writes_full, View.readAt_full, View.read_writes_full, View.readAt_full, View.read_writes_full, View.readAt_full]
      exact ⟨rfl, rfl, rfl⟩
    · have c18 := fun h => hf (h18.mp h)
      rw [dif_pos c1, dif_pos c1, dif_neg c3, dif_pos c1, dif_neg c18, dif_neg c18, if_neg (fun h => hf h.2), if_neg (fun h => hf h.2), if_pos hl, if_neg hf, if_neg hf]
      rw [View.read_writes_full, View.readAt_full]
      exact ⟨rfl, rfl, rfl⟩
  · have c1 : ¬ (k0_cond1 i (up_run.sl.r c M3 f3) = 1#1) := fun h => hl (hc1.mp h)
    have c3 := hc3.mpr hl
    rw [dif_neg c1, dif_neg c1, dif_pos c3, dif_neg c1, if_neg (fun h => hl h.1), if_neg (fun h => hl h.1), if_neg hl]
    exact ⟨rfl, rfl, View.read_writes_full _ _ _ _ _⟩

end Cert.Moe
-- ==== Proof.UpRegion.lean ====
/-
  The up kernel as a pipeline region: what every grid point leaves, the invariant of the two weight scratches, and the
  body's obligation.
-/
module

public import proofs.«01_k».proof.Proof.UpBody
public import Idealize.ShloMosaic.Lib.Pipeline.RegionArraysT

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]
variable (V : (c : Dev nD) → (b : Ref sig .tc) → Buf (Elt F) ((c : Thread nD τ).loc b))
variable (a : (p : Fin 2) → (pcfgs (F := F) p).Adm)

namespace Up

/-- The configuration at the tables' contents, and the two tables. -/
abbrev cfg : Cfg sig Λ₀ := Pipeline.pin (pcfgs (F := F)) a 0
abbrev te : TeT := (a 0).1 0
abbrev nu : NuT := (a 0).1 1

/-- The tile of point `t`. -/
abbrev tl (t : Fin grid0.N) : Fin 160 := tile0 (grid0.coords t)

/-- The three input blocks at point `t`: the gathered rows, and the expert's two weight blocks. -/
def xB (c : Dev nD) (t : Fin grid0.N) : S256x4096.Idx → Elt F .bf16 := (((cfg a).win 0).blk t).view.read (Elt F) (V c main_v112)
def wgB (c : Dev nD) (t : Fin grid0.N) : S1x4096x512.Idx → Elt F .f32 := (((cfg a).win 1).blk t).view.read (Elt F) (V c main_v0)
def wuB (c : Dev nD) (t : Fin grid0.N) : S1x4096x512.Idx → Elt F .f32 := (((cfg a).win 2).blk t).view.read (Elt F) (V c main_v1)

/-- What point `t` leaves in the output block. -/
def out (c : Dev nD) (t : Fin grid0.N) : S256x512.Idx → Elt F .bf16 :=
  if Live (nu a) (tl t) then k0_pay3 (xB V a c t) (k0_pay1 (wgB V a c t)) (k0_pay2 (wuB V a c t)) else k0_pay4

/-- After `k` points the scratches hold the last point's weights, when its tile is in use. -/
def inv (c : Dev nD) (k : ℕ) (s8 s9 : S4096x512.Idx → Elt F .bf16) : Prop :=
  ∀ t : Fin grid0.N, t.val + 1 = k → Live (nu a) (tl t) → s8 = k0_pay1 (wgB V a c t) ∧ s9 = k0_pay2 (wuB V a c t)

/-- The other scoped buffers, each at something. -/
def others (c : Dev nD) : sProp (MM F) :=
  iprop((∃ f, pt c (Memref.whole cc1_stg0_0) f) ∗ (∃ f, pt c (Memref.whole cc1_stg0_1) f) ∗ (∃ f, pt c (Memref.whole cc1_stg1_0) f) ∗ (∃ f, pt c (Memref.whole cc1_stg1_1) f)
    ∗ (∃ f, pt c (Memref.whole cc1_stg2_0) f) ∗ (∃ f, pt c (Memref.whole cc1_stg2_1) f) ∗ (∃ f, pt c (Memref.whole cc1_scratch0) f))

/-- What is held between two points. -/
def Φ (c : Dev nD) (k : ℕ) : sProp (MM F) :=
  iprop((pt c (Memref.whole main_v103) ((a 0).1 0) ∗ pt c (Memref.whole main_v105) ((a 0).1 1))
    ∗ (∃ s8 s9, ⌜inv V a c k s8 s9⌝ ∗ pt c (Memref.whole cc0_scratch0) s8 ∗ pt c (Memref.whole cc0_scratch1) s9) ∗ others c)

/-- The region's proof data. -/
def dat (c : Dev nD) : Dat τ (Elt F) Unit ℕ UU ℕ (cfg a) c where
  A w := V c (Pipeline.arrRef spec0 w)
  after w t := match w with
    | ⟨0, _⟩ => xB V a c t
    | ⟨1, _⟩ => wgB V a c t
    | ⟨2, _⟩ => wuB V a c t
    | ⟨3, _⟩ => out V a c t
  Φ k := Φ V a c k.val
  q _ := fullShare
  owed _ := 0

theorem coords0 : ∀ t : Fin grid0.N, (grid0.coords t 0).val = t.val / 160 := by decide +kernel
theorem coords1 : ∀ t : Fin grid0.N, (grid0.coords t 1).val = t.val % 160 := by decide +kernel
theorem tl_val (t : Fin grid0.N) : (tl t).val = t.val % 160 := coords1 t

theorem off1_val : ∀ i : grid0.Coords, k0_off1 i 0 = (i 1).val := by decide +kernel

/-- The word an index map reads is the tile's expert. -/
theorem te_at (i : grid0.Coords) : ((a 0).1).at 0 (Rect.unit (s := S160) (k0_off1 i) S1.size (k0_off1_inb i)) numel1_S1 = te a (ix1 (tile0 i)) :=
  congrArg (te a) (ix1_first (n := 160) _ _ (off1_val i))

theorem index0 (t : Fin grid0.N) : ((cfg a).win 0).index t = ![t.val % 160, 0] := by
  show cc0_transform_0 (grid0.coords t) = _
  unfold cc0_transform_0
  have h : (BitVec.ofNat 32 (grid0.coords t 1).val).toNat = t.val % 160 := by
    rw [coords1, BitVec.toNat_ofNat]; omega
  simp only [h]; rfl

theorem chunk_toNat (t : Fin grid0.N) : (BitVec.ofNat 32 (grid0.coords t 0).val).toNat = t.val / 160 := by
  have := lt_of_lt_of_eq t.isLt N_0
  rw [coords0, BitVec.toNat_ofNat]; omega

theorem index1 (t : Fin grid0.N) : ((cfg a).win 1).index t = ![(te a (ix1 (tl t))).toNat, 0, t.val / 160] := by
  show cc0_transform_1 k0_off1_inb numel1_S1 (a 0).1 (grid0.coords t) = _
  rw [← te_at a (grid0.coords t), ← chunk_toNat t]
  rfl

theorem index2 (t : Fin grid0.N) : ((cfg a).win 2).index t = ![(te a (ix1 (tl t))).toNat, 0, t.val / 160] := by
  show cc0_transform_2 k0_off1_inb numel1_S1 (a 0).1 (grid0.coords t) = _
  rw [← te_at a (grid0.coords t), ← chunk_toNat t]
  rfl

theorem index3 (t : Fin grid0.N) : ((cfg a).win 3).index t = ![t.val % 160, t.val / 160] := by
  show cc0_transform_3 (grid0.coords t) = _
  unfold cc0_transform_3
  have h : (BitVec.ofNat 32 (grid0.coords t 1).val).toNat = t.val % 160 := by
    rw [coords1, BitVec.toNat_ofNat]; omega
  simp only [h, chunk_toNat]

/-- A tile of the same expert as the one before it reads the same weight blocks. -/
theorem blocks_eq (c : Dev nD) (t t' : Fin grid0.N) (ht : t'.val + 1 = t.val) (hf : ¬ Fresh (te a) (tl t)) :
    wgB V a c t' = wgB V a c t ∧ wuB V a c t' = wuB V a c t := by
  have h0 : t.val % 160 ≠ 0 := fun h => hf (Or.inl (by rw [tl_val]; exact h))
  have htl : tl t' = prevTile (tl t) := by
    apply Fin.ext
    rw [tl_val]
    show _ = (tl t).val - 1
    rw [tl_val]; omega
  have hte : te a (ix1 (tl t')) = te a (ix1 (tl t)) := by
    rw [htl]; exact (not_not.1 fun h => hf (Or.inr fun h' => h h'.symm))
  have hq : t'.val / 160 = t.val / 160 := by omega
  have e1 : ((cfg a).win 1).index t' = ((cfg a).win 1).index t := by rw [index1, index1, hte, hq]
  have e2 : ((cfg a).win 2).index t' = ((cfg a).win 2).index t := by rw [index2, index2, hte, hq]
  exact ⟨(dat V a c).fetched_congr 1 e1 rfl default, (dat V a c).fetched_congr 2 e2 rfl default⟩

/-- One point keeps the invariant, and leaves what `out` says. -/
theorem step (c : Dev nD) (t : Fin grid0.N) {s8 s9 g8 g9 : S4096x512.Idx → Elt F .bf16} {o : S256x512.Idx → Elt F .bf16}
    (hinv : inv V a c t.val s8 s9)
    (hp : upPost (tl t) (te a) (nu a) (xB V a c t) (wgB V a c t) (wuB V a c t) s8 s9 o g8 g9) :
    inv V a c (t.val + 1) g8 g9 ∧ o = out V a c t := by
  obtain ⟨h8, h9, ho⟩ := hp
  have key : Live (nu a) (tl t) → g8 = k0_pay1 (wgB V a c t) ∧ g9 = k0_pay2 (wuB V a c t) := by
    intro hl
    by_cases hf : Fresh (te a) (tl t)
    · rw [if_pos ⟨hl, hf⟩] at h8 h9
      exact ⟨h8, h9⟩
    · rw [if_neg fun h => hf h.2] at h8 h9
      have h0 : t.val % 160 ≠ 0 := fun h => hf (Or.inl (by rw [tl_val]; exact h))
      have hlt := t.isLt
      let t' : Fin grid0.N := ⟨t.val - 1, by omega⟩
      have ht' : t'.val + 1 = t.val := by show t.val - 1 + 1 = t.val; omega
      have hl' : Live (nu a) (tl t') := by
        unfold Live at hl ⊢
        rw [tl_val] at hl ⊢
        have : ((t'.val % 160 : ℕ) : Int) ≤ ((t.val % 160 : ℕ) : Int) := by omega
        omega
      obtain ⟨e8, e9⟩ := hinv t' ht' hl'
      obtain ⟨b1, b2⟩ := blocks_eq V a c t t' ht' hf
      rw [h8, h9, e8, e9, b1, b2]
      exact ⟨rfl, rfl⟩
  refine ⟨fun u hu hl => ?_, ?_⟩
  · obtain rfl : u = t := Fin.ext (by omega)
    exact key hl
  · rw [ho]
    unfold out
    by_cases hl : Live (nu a) (tl t)
    · rw [if_pos hl, if_pos hl, (key hl).1, (key hl).2]
    · rw [if_neg hl, if_neg hl]

/-- The output block is written at every point. -/
theorem idle3 (i : grid0.Coords) : (cfg a).idle 3 i = false := by
  show (!(k0_cond1 i (((a 0).1).atD 1 ![0]) == 1#1) && !(k0_cond3 i (((a 0).1).atD 1 ![0]) == 1#1)) = false
  by_cases h : ((i 1).val : Int) < (((a 0).1).atD 1 ![0] : BitVec 32).toInt
  · rw [(k0_cond1_iff i _).2 h]; rfl
  · rw [(k0_cond3_iff i _).2 h]; simp

/-- A whole memref's block, owned, is its buffer's points-to. -/
theorem owns_whole' {sp : Space} {S : Shape} {ty : EltTy} (c : Dev nD) (M : Memref sig .tc sp S ty) (h : M.IsWhole) (X : S.Idx → Elt F ty) :
    (owns (c : Thread nD τ) M fullShare X : sProp (MM F)) = iprop(∃ f, ⌜M.view.read (Elt F) f = X⌝ ∗ pt c M f) := by
  unfold owns
  rw [h.set_eq_univ]

theorem before0 (c : Dev nD) (t : Fin grid0.N) (d) : (dat V a c).before 0 t d = xB V a c t :=
  (dat V a c).before_in_eq_fetched 0 rfl (fun _ => rfl) (fun _ _ _ => rfl) (fun _ => rfl) t d
theorem before1 (c : Dev nD) (t : Fin grid0.N) (d) : (dat V a c).before 1 t d = wgB V a c t :=
  (dat V a c).before_in_eq_fetched 1 rfl (fun _ => rfl) (fun _ _ _ => rfl) (fun _ => rfl) t d
theorem before2 (c : Dev nD) (t : Fin grid0.N) (d) : (dat V a c).before 2 t d = wuB V a c t :=
  (dat V a c).before_in_eq_fetched 2 rfl (fun _ => rfl) (fun _ _ _ => rfl) (fun _ => rfl) t d

theorem dat_phi (c : Dev nD) (k : Fin ((cfg a).N + 1)) : (dat V a c).Φ k = Φ V a c k.val := rfl
theorem dat_owes (c : Dev nD) (k k' : Fin ((cfg a).N + 1)) : (dat V a c).owesAt () k = (dat V a c).owesAt () k' := rfl
theorem after0 (c : Dev nD) (t : Fin grid0.N) : (dat V a c).after 0 t = xB V a c t := rfl
theorem after1 (c : Dev nD) (t : Fin grid0.N) : (dat V a c).after 1 t = wgB V a c t := rfl
theorem after2 (c : Dev nD) (t : Fin grid0.N) : (dat V a c).after 2 t = wuB V a c t := rfl
theorem after3 (c : Dev nD) (t : Fin grid0.N) : (dat V a c).after 3 t = out V a c t := rfl

/-- The body at one point, over whole staging buffers holding what the pipeline put there. -/
theorem body_wp (c : Dev nD) (t : Fin grid0.N) (M4 : Memref sig .tc .vmem S256x4096 .bf16) (h4 : M4.IsWhole) (M5 : Memref sig .tc .vmem S1x4096x512 .f32) (h5 : M5.IsWhole)
    (M6 : Memref sig .tc .vmem S1x4096x512 .f32) (h6 : M6.IsWhole) (M7 : Memref sig .tc .vmem S256x512 .bf16) (h7 : M7.IsWhole) (O : sProp (MM F)) :
    iprop(Φ V a c t.val ∗ O ∗ owns (c : Thread nD τ) M4 fullShare (xB V a c t) ∗ owns (c : Thread nD τ) M5 fullShare (wgB V a c t)
      ∗ owns (c : Thread nD τ) M6 fullShare (wuB V a c t) ∗ (∃ X, owns (c : Thread nD τ) M7 fullShare X))
    ⊢ wp frame (wpE (defs₀ (F := F)) Variants.none c none) Set.univ (cc0_moe_up (grid0.coords t) (Memref.whole main_v103) (Memref.isWhole_whole _) (Memref.whole main_v105) (Memref.isWhole_whole _)
        M4 h4 M5 h5 M6 h6 M7 h7 (Memref.whole cc0_scratch0) (Memref.isWhole_whole _) (Memref.whole cc0_scratch1) (Memref.isWhole_whole _)) fun _ =>
      iprop(Φ V a c (t.val + 1) ∗ O ∗ owns (c : Thread nD τ) M4 fullShare (xB V a c t) ∗ owns (c : Thread nD τ) M5 fullShare (wgB V a c t)
        ∗ owns (c : Thread nD τ) M6 fullShare (wuB V a c t) ∗ owns (c : Thread nD τ) M7 fullShare (out V a c t)) := by
  simp only [owns_whole' (F := F) c M4 h4, owns_whole' (F := F) c M5 h5, owns_whole' (F := F) c M6 h6, owns_whole' (F := F) c M7 h7]
  unfold Φ
  iintro ⟨⟨⟨Hte, Hnu⟩, ⟨%s8, %s9, %hinv, Hs8, Hs9⟩, Ho⟩, Howes, ⟨%f0, %hf0, H0⟩, ⟨%f1, %hf1, H1⟩, ⟨%f2, %hf2, H2⟩, ⟨%d3, %f3, -, H3⟩⟩
  iapply (up_run c (grid0.coords t) (Memref.whole main_v103) (Memref.isWhole_whole _) (Memref.whole main_v105) (Memref.isWhole_whole _)
    _ _ _ _ _ _ _ _ (Memref.whole cc0_scratch0) (Memref.isWhole_whole _) (Memref.whole cc0_scratch1) (Memref.isWhole_whole _)
    ((a 0).1 0) ((a 0).1 1) f0 f1 f2 f3 s8 s9 Set.univ _)
  isplitl [Hte]; · iexact Hte
  isplitl [Hnu]; · iexact Hnu
  isplitl [H0]; · iexact H0
  isplitl [H1]; · iexact H1
  isplitl [H2]; · iexact H2
  isplitl [H3]; · iexact H3
  isplitl [Hs8]; · iexact Hs8
  isplitl [Hs9]; · iexact Hs9
  iintro ⟨Hte, Hnu, H0, H1, H2, %g7, %g8, %g9, %hp, H3, Hs8, Hs9⟩
  rw [hf0, hf1, hf2] at hp
  have hs := step V a c t hinv hp
  isplitl [Hte Hnu Hs8 Hs9 Ho]
  · isplitl [Hte Hnu]
    · isplitl [Hte] <;> iassumption
    isplitr [Ho]; swap; · iexact Ho
    iexists g8; iexists g9
    isplitr; · ipureintro; exact hs.1
    isplitl [Hs8] <;> iassumption
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists g7; isplitr; swap; (· iexact H3); ipureintro; exact hs.2

/-- The body's obligation at every point. -/
theorem body_obligation (c : Dev nD) : BodyObligation (dat V a c) (defs₀ (F := F)) Variants.none () Set.univ := fun t => by
  rw [bigSep_W0, bigSep_W0]
  beta_reduce
  have e0 : (cfg a).idle 0 ((cfg a).grid.coords t) = false := rfl
  have e1 : (cfg a).idle 1 ((cfg a).grid.coords t) = false := rfl
  have e2 : (cfg a).idle 2 ((cfg a).grid.coords t) = false := rfl
  have e3 : (cfg a).idle 3 ((cfg a).grid.coords t) = false := idle3 a _
  rw [e0, e1, e2, e3]
  rw [dat_phi, dat_phi, dat_owes V a c t.succ t.castSucc, Fin.val_castSucc, Fin.val_succ]
  rw [after0 V a c t, after1 V a c t, after2 V a c t, after3 V a c t]
  have h := body_wp V a c t (spec0_0.stage ((cfg a).slots t 0)) (hstage0_0 (((cfg a).slots t 0).cast nbuf0_0)) (spec0_1.stage ((cfg a).slots t 1)) (hstage0_1 (((cfg a).slots t 1).cast nbuf0_1))
    (spec0_2.stage ((cfg a).slots t 2)) (hstage0_2 (((cfg a).slots t 2).cast nbuf0_2)) (spec0_3.stage ((cfg a).slots t 3)) (hstage0_3 (((cfg a).slots t 3).cast nbuf0_3)) ((dat V a c).owesAt () t.castSucc)
  have hb : defs₀ (F := F) .tc (cfg a).body ((cfg a).bodyArgs t ((cfg a).slots t)) = cc0_moe_up (grid0.coords t) (Memref.whole main_v103) (Memref.isWhole_whole _) (Memref.whole main_v105) (Memref.isWhole_whole _)
        (spec0_0.stage ((cfg a).slots t 0)) (hstage0_0 (((cfg a).slots t 0).cast nbuf0_0)) (spec0_1.stage ((cfg a).slots t 1)) (hstage0_1 (((cfg a).slots t 1).cast nbuf0_1))
        (spec0_2.stage ((cfg a).slots t 2)) (hstage0_2 (((cfg a).slots t 2).cast nbuf0_2)) (spec0_3.stage ((cfg a).slots t 3)) (hstage0_3 (((cfg a).slots t 3).cast nbuf0_3))
        (Memref.whole cc0_scratch0) (Memref.isWhole_whole _) (Memref.whole cc0_scratch1) (Memref.isWhole_whole _) := rfl
  rw [hb]
  generalize (dat V a c).owesAt () t.castSucc = O at h ⊢
  refine BI.Entails.trans (Q := iprop(Φ V a c t.val ∗ O ∗ owns (c : Thread nD τ) (spec0_0.stage ((cfg a).slots t 0)) fullShare (xB V a c t) ∗ owns (c : Thread nD τ) (spec0_1.stage ((cfg a).slots t 1)) fullShare (wgB V a c t)
      ∗ owns (c : Thread nD τ) (spec0_2.stage ((cfg a).slots t 2)) fullShare (wuB V a c t) ∗ (∃ X, owns (c : Thread nD τ) (spec0_3.stage ((cfg a).slots t 3)) fullShare X)))
    (show iprop(Φ V a c t.val ∗ O ∗ (∃ d, owns (c : Thread nD τ) (spec0_0.stage ((cfg a).slots t 0)) fullShare ((dat V a c).before 0 t d)) ∗ (∃ d, owns (c : Thread nD τ) (spec0_1.stage ((cfg a).slots t 1)) fullShare ((dat V a c).before 1 t d))
      ∗ (∃ d, owns (c : Thread nD τ) (spec0_2.stage ((cfg a).slots t 2)) fullShare ((dat V a c).before 2 t d)) ∗ (∃ d, owns (c : Thread nD τ) (spec0_3.stage ((cfg a).slots t 3)) fullShare ((dat V a c).before 3 t d))) ⊢ _ from ?_) h
  iintro ⟨HΦ, HO, ⟨%d0, H0⟩, ⟨%d1, H1⟩, ⟨%d2, H2⟩, ⟨%d3, H3⟩⟩
  rw [before0 V a c t d0, before1 V a c t d1, before2 V a c t d2]
  isplitl [HΦ]; · iexact HΦ
  isplitl [HO]; · iexact HO
  isplitl [H0]; · iexact H0
  isplitl [H1]; · iexact H1
  isplitl [H2]; · iexact H2
  iexists _; iexact H3

/-- The scoped buffers at something, with the tables, are the invariant before the first point. -/
theorem phi_in (c : Dev nD) : iprop(iprop(Pipeline.scopedRest (cfg a).spec c ∗ BI.emp) ∗ Pipeline.tablesAt (pcfgs (F := F)) a 0 c) ⊢ (dat V a c).Φ 0 := by
  rw [show (Pipeline.scopedRest (cfg a).spec c : sProp (MM F)) = _ from scopedRest0_eq c, show (dat V a c).Φ 0 = Φ V a c 0 from rfl]
  unfold Φ others
  rw [show (Pipeline.tablesAt (pcfgs (F := F)) a 0 c : sProp (MM F)) = iprop(pt c (Memref.whole main_v103) ((a 0).1 0) ∗ pt c (Memref.whole main_v105) ((a 0).1 1)) from
    BI.bigSep_univ_eq_bigSepL [(0 : Fin 2), (1 : Fin 2)] (by decide) (by decide) _]
  iintro ⟨⟨⟨⟨%s8, H8⟩, ⟨%s9, H9⟩, Hr⟩, -⟩, Ht⟩
  isplitl [Ht]; · iexact Ht
  isplitr [Hr]; swap; · iexact Hr
  iexists s8; iexists s9
  isplitr; · ipureintro; exact fun t h => absurd h (Nat.succ_ne_zero _)
  isplitl [H8] <;> iassumption

/-- After the last point the invariant gives them back. -/
theorem phi_out (c : Dev nD) : (dat V a c).Φ (Fin.last (cfg a).N) ⊢ iprop(iprop(Pipeline.scopedRest (cfg a).spec c ∗ BI.emp) ∗ Pipeline.tablesAt (pcfgs (F := F)) a 0 c) := by
  rw [show (Pipeline.scopedRest (cfg a).spec c : sProp (MM F)) = _ from scopedRest0_eq c, show (dat V a c).Φ (Fin.last (cfg a).N) = Φ V a c (cfg a).N from rfl]
  unfold Φ others
  rw [show (Pipeline.tablesAt (pcfgs (F := F)) a 0 c : sProp (MM F)) = iprop(pt c (Memref.whole main_v103) ((a 0).1 0) ∗ pt c (Memref.whole main_v105) ((a 0).1 1)) from
    BI.bigSep_univ_eq_bigSepL [(0 : Fin 2), (1 : Fin 2)] (by decide) (by decide) _]
  iintro ⟨Ht, ⟨%s8, %s9, -, H8, H9⟩, Hr⟩
  isplitr [Ht]; swap; · iexact Ht
  isplitl [H8 H9 Hr]; swap; · iempintro
  isplitl [H8]; · iexists s8; iexact H8
  isplitl [H9]; · iexists s9; iexact H9
  iexact Hr

end Up

end Cert.Moe
-- ==== Proof.DownBody.lean ====
/-
  The down kernel's body at one grid point: what it leaves in its output block and in its weight scratch.
-/
module

public import proofs.«01_k».proof.Proof.Base

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

/-- The tile of a grid point. -/
abbrev tile1 (i : grid1.Coords) : Fin 160 := i 1

theorem k1_cond1_iff (i : grid1.Coords) (w : BitVec 32) : k1_cond1 i w = 1#1 ↔ ((i 1).val : Int) < w.toInt := by
  unfold k1_cond1; exact (widened_ne _).trans (slt_one (i 1) w)
theorem k1_cond3_iff (i : grid1.Coords) (w : BitVec 32) : k1_cond3 i w = 1#1 ↔ ¬ ((i 1).val : Int) < w.toInt := by
  unfold k1_cond3; exact (widened_ne _).trans (sge_one (i 1) w)

/-- What the down kernel's body leaves at one grid point: `o` in its output block, `g7` in its weight scratch. -/
def downPost (t : Fin 160) (te : TeT) (nu : NuT) (x : S256x1024.Idx → Elt F .bf16) (wd : S1x1024x4096.Idx → Elt F .f32)
    (f7 : S1024x4096.Idx → Elt F .bf16) (o : S256x4096.Idx → Elt F .bf16) (g7 : S1024x4096.Idx → Elt F .bf16) : Prop :=
  g7 = (if Live nu t ∧ Fresh te t then k1_pay1 wd else f7) ∧ o = (if Live nu t then k1_pay2 x g7 else k1_pay3)

theorem down_run (c : Dev nD) (i : grid1.Coords) (M2 : Memref sig .tc .smem S160 .i32) (h2 : M2.IsWhole) (M3 : Memref sig .tc .smem S1 .i32) (h3 : M3.IsWhole)
    (M4 : Memref sig .tc .vmem S256x1024 .bf16) (h4 : M4.IsWhole) (M5 : Memref sig .tc .vmem S1x1024x4096 .f32) (h5 : M5.IsWhole)
    (M6 : Memref sig .tc .vmem S256x4096 .bf16) (h6 : M6.IsWhole) (M7 : Memref sig .tc .vmem S1024x4096 .bf16) (h7 : M7.IsWhole)
    (f2 : Bf (F := F) c M2) (f3 : Bf (F := F) c M3) (f4 : Bf (F := F) c M4) (f5 : Bf (F := F) c M5) (f6 : Bf (F := F) c M6)
    (f7 : Bf (F := F) c M7) (E : Set ℕ) (Q : PUnit → sProp (MM F)) :
    iprop(pt c M2 f2 ∗ pt c M3 f3 ∗ pt c M4 f4 ∗ pt c M5 f5 ∗ pt c M6 f6 ∗ pt c M7 f7 ∗
      (iprop(pt c M2 f2 ∗ pt c M3 f3 ∗ pt c M4 f4 ∗ pt c M5 f5 ∗
        ∃ g6 : Bf (F := F) c M6, ∃ g7 : Bf (F := F) c M7,
        ⌜downPost (tile1 i) (M2.view.read (Elt F) f2) (M3.view.read (Elt F) f3) (M4.view.read (Elt F) f4) (M5.view.read (Elt F) f5)
            (M7.view.read (Elt F) f7) (M6.view.read (Elt F) g6) (M7.view.read (Elt F) g7)⌝
        ∗ pt c M6 g6 ∗ pt c M7 g7) -∗ Q ⟨⟩))
      ⊢ wp frame (wpE (defs₀ (F := F)) Variants.none c none) E (cc1_moe_down i M2 h2 M3 h3 M4 h4 M5 h5 M6 h6 M7 h7) Q := by
  rw [cc1_moe_down_eq_skeleton]
  unfold cc1_moe_down_skel
  iintro ⟨H2, H3, H4, H5, H6, H7, Hk⟩
  sl_exec
  sl_step
  iapply Hk
  isplitl [H2]; · iexact H2
  isplitl [H3]; · iexact H3
  isplitl [H4]; · iexact H4
  isplitl [H5]; · iexact H5
  iexists _; iexists _
  isplitr
  swap
  · isplitl [H6]; · iexact H6
    iexact H7
  ipureintro
  clear h2 h3 h4 h5 h6 h7 Q E
  have hr : down_run.sl.r c M3 f3 = M3.view.read (Elt F) f3 (ix1 0) := by
    unfold down_run.sl.r
    exact congrArg (M3.view.read (Elt F) f3) (ix1_first (n := 1) _ _ rfl)
  have hc1 : (k1_cond1 i (down_run.sl.r c M3 f3) = 1#1) ↔ Live (M3.view.read (Elt F) f3) (tile1 i) := by rw [hr]; exact k1_cond1_iff i _
  have hc3 : (k1_cond3 i (down_run.sl.r c M3 f3) = 1#1) ↔ ¬ Live (M3.view.read (Elt F) f3) (tile1 i) := by rw [hr]; exact k1_cond3_iff i _
  have h18 : (down_run.sl.v18 c i M2 f2 = 1#1) ↔ Fresh (M2.view.read (Elt F) f2) (tile1 i) := by
    unfold down_run.sl.v18
    refine fresh_one (M2.view.read (Elt F) f2) (tile1 i) _ _ ?_ ?_
    · unfold down_run.sl.r_1
      exact congrArg (M2.view.read (Elt F) f2) (ix1_first _ _ (off2_eq (tile1 i)))
    · unfold down_run.sl.r_2
      exact congrArg (M2.view.read (Elt F) f2) (ix1_first _ _ (off3_eq (tile1 i)))
  have h21 : down_run.sl.v21 c i M2 M5 M7 f2 f5 f7 = if Fresh (M2.view.read (Elt F) f2) (tile1 i) then k1_pay1 (M5.view.read (Elt F) f5) else M7.view.read (Elt F) f7 := by
    unfold down_run.sl.v21
    by_cases hf : Fresh (M2.view.read (Elt F) f2) (tile1 i)
    · rw [dif_pos (h18.mpr hf), if_pos hf, View.readAt_full, View.read_writes_full, View.readAt_full]
    · rw [dif_neg (fun h => hf (h18.mp h)), if_neg hf, View.readAt_full]
  rw [h21]
  unfold downPost
  by_cases hl : Live (M3.view.read (Elt F) f3) (tile1 i)
  · have c1 := hc1.mpr hl
    have c3 : ¬ (k1_cond3 i (down_run.sl.r c M3 f3) = 1#1) := fun h => hc3.mp h hl
    by_cases hf : Fresh (M2.view.read (Elt F) f2) (tile1 i)
    · have c18 := h18.mpr hf
      rw [dif_pos c1, dif_neg c3, dif_pos c1, dif_pos c18, if_pos ⟨hl, hf⟩, if_pos hl, if_pos hf]
      rw [View.read_writes_full, View.readAt_full, View.read_writes_full, View.readAt_full]
      exact ⟨rfl, rfl⟩
    · have c18 := fun h => hf (h18.mp h)
      rw [dif_pos c1, dif_neg c3, dif_pos c1, dif_neg c18, if_neg (fun h => hf h.2), if_pos hl, if_neg hf]
      rw [View.read_writes_full, View.readAt_full]
      exact ⟨rfl, rfl⟩
  · have c1 : ¬ (k1_cond1 i (down_run.sl.r c M3 f3) = 1#1) := fun h => hl (hc1.mp h)
    have c3 := hc3.mpr hl
    rw [dif_neg c1, dif_pos c3, dif_neg c1, if_neg (fun h => hl h.1), if_neg hl]
    exact ⟨rfl, View.read_writes_full _ _ _ _ _⟩

end Cert.Moe
-- ==== Proof.DownRegion.lean ====
/-
  The down kernel as a pipeline region: what every grid point leaves, the invariant of its weight scratch, and the
  body's obligation.
-/
module

public import proofs.«01_k».proof.Proof.DownBody
public import proofs.«01_k».proof.Proof.UpRegion

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]
variable (V : (c : Dev nD) → (b : Ref sig .tc) → Buf (Elt F) ((c : Thread nD τ).loc b))
variable (a : (p : Fin 2) → (pcfgs (F := F) p).Adm)

namespace Down

/-- The configuration at the tables' contents, and the two tables. -/
abbrev cfg : Cfg sig Λ₀ := Pipeline.pin (pcfgs (F := F)) a 1
abbrev te : TeT := (a 1).1 0
abbrev nu : NuT := (a 1).1 1

/-- The tile of point `t`. -/
abbrev tl (t : Fin grid1.N) : Fin 160 := tile1 (grid1.coords t)

/-- The two input blocks at point `t`: the activations, and the expert's weights. -/
def xB (c : Dev nD) (t : Fin grid1.N) : S256x1024.Idx → Elt F .bf16 := (((cfg a).win 0).blk t).view.read (Elt F) (V c main_v113)
def wdB (c : Dev nD) (t : Fin grid1.N) : S1x1024x4096.Idx → Elt F .f32 := (((cfg a).win 1).blk t).view.read (Elt F) (V c main_v2)

/-- What point `t` leaves in the output block. -/
def out (c : Dev nD) (t : Fin grid1.N) : S256x4096.Idx → Elt F .bf16 :=
  if Live (nu a) (tl t) then k1_pay2 (xB V a c t) (k1_pay1 (wdB V a c t)) else k1_pay3

/-- After `k` points the scratch holds the last point's weights, when its tile is in use. -/
def inv (c : Dev nD) (k : ℕ) (s7 : S1024x4096.Idx → Elt F .bf16) : Prop :=
  ∀ t : Fin grid1.N, t.val + 1 = k → Live (nu a) (tl t) → s7 = k1_pay1 (wdB V a c t)

/-- The other scoped buffers, each at something. -/
def others (c : Dev nD) : sProp (MM F) :=
  iprop((∃ f, pt c (Memref.whole cc0_stg0_0) f) ∗ (∃ f, pt c (Memref.whole cc0_stg0_1) f) ∗ (∃ f, pt c (Memref.whole cc0_stg1_0) f) ∗ (∃ f, pt c (Memref.whole cc0_stg1_1) f)
    ∗ (∃ f, pt c (Memref.whole cc0_stg2_0) f) ∗ (∃ f, pt c (Memref.whole cc0_stg2_1) f) ∗ (∃ f, pt c (Memref.whole cc0_stg3_0) f) ∗ (∃ f, pt c (Memref.whole cc0_stg3_1) f)
    ∗ (∃ f, pt c (Memref.whole cc0_scratch0) f) ∗ (∃ f, pt c (Memref.whole cc0_scratch1) f))

/-- What is held between two points. -/
def Φ (c : Dev nD) (k : ℕ) : sProp (MM F) :=
  iprop((pt c (Memref.whole main_v103) ((a 1).1 0) ∗ pt c (Memref.whole main_v105) ((a 1).1 1))
    ∗ (∃ s7, ⌜inv V a c k s7⌝ ∗ pt c (Memref.whole cc1_scratch0) s7) ∗ others c)

/-- The region's proof data. -/
def dat (c : Dev nD) : Dat τ (Elt F) Unit ℕ UU ℕ (cfg a) c where
  A w := V c (Pipeline.arrRef spec1 w)
  after w t := match w with
    | ⟨0, _⟩ => xB V a c t
    | ⟨1, _⟩ => wdB V a c t
    | ⟨2, _⟩ => out V a c t
  Φ k := Φ V a c k.val
  q _ := fullShare
  owed _ := 0

theorem coords0 : ∀ t : Fin grid1.N, (grid1.coords t 0).val = 0 := by decide +kernel
theorem coords1 : ∀ t : Fin grid1.N, (grid1.coords t 1).val = t.val := by decide +kernel
theorem tl_val (t : Fin grid1.N) : (tl t).val = t.val := coords1 t
theorem point_lt (t : Fin grid1.N) : t.val < 160 := lt_of_lt_of_eq t.isLt N_1

theorem off1_val : ∀ i : grid1.Coords, k1_off1 i 0 = (i 1).val := by decide +kernel

/-- The word an index map reads is the tile's expert. -/
theorem te_at (i : grid1.Coords) : ((a 1).1).at 0 (Rect.unit (s := S160) (k1_off1 i) S1.size (k1_off1_inb i)) numel1_S1 = te a (ix1 (tile1 i)) :=
  congrArg (te a) (ix1_first (n := 160) _ _ (off1_val i))

theorem chunk_toNat (t : Fin grid1.N) : (BitVec.ofNat 32 (grid1.coords t 0).val).toNat = 0 := by
  rw [coords0]; rfl

theorem tile_toNat (t : Fin grid1.N) : (BitVec.ofNat 32 (grid1.coords t 1).val).toNat = t.val := by
  have := point_lt t
  rw [coords1, BitVec.toNat_ofNat]; omega

theorem index0 (t : Fin grid1.N) : ((cfg a).win 0).index t = ![t.val, 0] := by
  show cc1_transform_0 (grid1.coords t) = _
  unfold cc1_transform_0
  simp only [tile_toNat]; rfl

theorem index1 (t : Fin grid1.N) : ((cfg a).win 1).index t = ![(te a (ix1 (tl t))).toNat, 0, 0] := by
  show cc1_transform_1 k1_off1_inb numel1_S1 (a 1).1 (grid1.coords t) = _
  rw [← te_at a (grid1.coords t)]
  unfold cc1_transform_1
  simp only [chunk_toNat]
  rfl

theorem index2 (t : Fin grid1.N) : ((cfg a).win 2).index t = ![t.val, 0] := by
  show cc1_transform_2 (grid1.coords t) = _
  unfold cc1_transform_2
  simp only [tile_toNat, chunk_toNat]

/-- A tile of the same expert as the one before it reads the same weight block. -/
theorem blocks_eq (c : Dev nD) (t t' : Fin grid1.N) (ht : t'.val + 1 = t.val) (hf : ¬ Fresh (te a) (tl t)) :
    wdB V a c t' = wdB V a c t := by
  have htl : tl t' = prevTile (tl t) := by
    apply Fin.ext
    rw [tl_val]
    show _ = (tl t).val - 1
    rw [tl_val]; omega
  have hte : te a (ix1 (tl t')) = te a (ix1 (tl t)) := by
    rw [htl]; exact (not_not.1 fun h => hf (Or.inr fun h' => h h'.symm))
  have e1 : ((cfg a).win 1).index t' = ((cfg a).win 1).index t := by rw [index1, index1, hte]
  exact (dat V a c).fetched_congr 1 e1 rfl default

/-- One point keeps the invariant, and leaves what `out` says. -/
theorem step (c : Dev nD) (t : Fin grid1.N) {s7 g7 : S1024x4096.Idx → Elt F .bf16} {o : S256x4096.Idx → Elt F .bf16}
    (hinv : inv V a c t.val s7)
    (hp : downPost (tl t) (te a) (nu a) (xB V a c t) (wdB V a c t) s7 o g7) :
    inv V a c (t.val + 1) g7 ∧ o = out V a c t := by
  obtain ⟨h7, ho⟩ := hp
  have key : Live (nu a) (tl t) → g7 = k1_pay1 (wdB V a c t) := by
    intro hl
    by_cases hf : Fresh (te a) (tl t)
    · rw [if_pos ⟨hl, hf⟩] at h7
      exact h7
    · rw [if_neg fun h => hf h.2] at h7
      have h0 : t.val ≠ 0 := fun h => hf (Or.inl (by rw [tl_val]; exact h))
      have hlt := t.isLt
      let t' : Fin grid1.N := ⟨t.val - 1, by omega⟩
      have ht' : t'.val + 1 = t.val := by show t.val - 1 + 1 = t.val; omega
      have hl' : Live (nu a) (tl t') := by
        unfold Live at hl ⊢
        rw [tl_val] at hl ⊢
        have : ((t'.val : ℕ) : Int) ≤ ((t.val : ℕ) : Int) := by omega
        omega
      rw [h7, hinv t' ht' hl', blocks_eq V a c t t' ht' hf]
  refine ⟨fun u hu hl => ?_, ?_⟩
  · obtain rfl : u = t := Fin.ext (by omega)
    exact key hl
  · rw [ho]
    unfold out
    by_cases hl : Live (nu a) (tl t)
    · rw [if_pos hl, if_pos hl, key hl]
    · rw [if_neg hl, if_neg hl]

/-- The output block is written at every point. -/
theorem idle2 (i : grid1.Coords) : (cfg a).idle 2 i = false := by
  show (!(k1_cond1 i (((a 1).1).atD 1 ![0]) == 1#1) && !(k1_cond3 i (((a 1).1).atD 1 ![0]) == 1#1)) = false
  by_cases h : ((i 1).val : Int) < (((a 1).1).atD 1 ![0] : BitVec 32).toInt
  · rw [(k1_cond1_iff i _).2 h]; rfl
  · rw [(k1_cond3_iff i _).2 h]; simp

theorem before0 (c : Dev nD) (t : Fin grid1.N) (d) : (dat V a c).before 0 t d = xB V a c t :=
  (dat V a c).before_in_eq_fetched 0 rfl (fun _ => rfl) (fun _ _ _ => rfl) (fun _ => rfl) t d
theorem before1 (c : Dev nD) (t : Fin grid1.N) (d) : (dat V a c).before 1 t d = wdB V a c t :=
  (dat V a c).before_in_eq_fetched 1 rfl (fun _ => rfl) (fun _ _ _ => rfl) (fun _ => rfl) t d

theorem dat_phi (c : Dev nD) (k : Fin ((cfg a).N + 1)) : (dat V a c).Φ k = Φ V a c k.val := rfl
theorem dat_owes (c : Dev nD) (k k' : Fin ((cfg a).N + 1)) : (dat V a c).owesAt () k = (dat V a c).owesAt () k' := rfl
theorem after0 (c : Dev nD) (t : Fin grid1.N) : (dat V a c).after 0 t = xB V a c t := rfl
theorem after1 (c : Dev nD) (t : Fin grid1.N) : (dat V a c).after 1 t = wdB V a c t := rfl
theorem after2 (c : Dev nD) (t : Fin grid1.N) : (dat V a c).after 2 t = out V a c t := rfl

/-- The body at one point, over whole staging buffers holding what the pipeline put there. -/
theorem body_wp (c : Dev nD) (t : Fin grid1.N) (M4 : Memref sig .tc .vmem S256x1024 .bf16) (h4 : M4.IsWhole) (M5 : Memref sig .tc .vmem S1x1024x4096 .f32) (h5 : M5.IsWhole)
    (M6 : Memref sig .tc .vmem S256x4096 .bf16) (h6 : M6.IsWhole) (O : sProp (MM F)) :
    iprop(Φ V a c t.val ∗ O ∗ owns (c : Thread nD τ) M4 fullShare (xB V a c t) ∗ owns (c : Thread nD τ) M5 fullShare (wdB V a c t)
      ∗ (∃ X, owns (c : Thread nD τ) M6 fullShare X))
    ⊢ wp frame (wpE (defs₀ (F := F)) Variants.none c none) Set.univ (cc1_moe_down (grid1.coords t) (Memref.whole main_v103) (Memref.isWhole_whole _) (Memref.whole main_v105) (Memref.isWhole_whole _)
        M4 h4 M5 h5 M6 h6 (Memref.whole cc1_scratch0) (Memref.isWhole_whole _)) fun _ =>
      iprop(Φ V a c (t.val + 1) ∗ O ∗ owns (c : Thread nD τ) M4 fullShare (xB V a c t) ∗ owns (c : Thread nD τ) M5 fullShare (wdB V a c t)
        ∗ owns (c : Thread nD τ) M6 fullShare (out V a c t)) := by
  simp only [Up.owns_whole' (F := F) c M4 h4, Up.owns_whole' (F := F) c M5 h5, Up.owns_whole' (F := F) c M6 h6]
  unfold Φ
  iintro ⟨⟨⟨Hte, Hnu⟩, ⟨%s7, %hinv, Hs7⟩, Ho⟩, Howes, ⟨%f0, %hf0, H0⟩, ⟨%f1, %hf1, H1⟩, ⟨%d2, %f2, -, H2⟩⟩
  iapply (down_run c (grid1.coords t) (Memref.whole main_v103) (Memref.isWhole_whole _) (Memref.whole main_v105) (Memref.isWhole_whole _)
    _ _ _ _ _ _ (Memref.whole cc1_scratch0) (Memref.isWhole_whole _)
    ((a 1).1 0) ((a 1).1 1) f0 f1 f2 s7 Set.univ _)
  isplitl [Hte]; · iexact Hte
  isplitl [Hnu]; · iexact Hnu
  isplitl [H0]; · iexact H0
  isplitl [H1]; · iexact H1
  isplitl [H2]; · iexact H2
  isplitl [Hs7]; · iexact Hs7
  iintro ⟨Hte, Hnu, H0, H1, %g6, %g7, %hp, H2, Hs7⟩
  rw [hf0, hf1] at hp
  have hs := step V a c t hinv hp
  isplitl [Hte Hnu Hs7 Ho]
  · isplitl [Hte Hnu]
    · isplitl [Hte] <;> iassumption
    isplitr [Ho]; swap; · iexact Ho
    iexists g7
    isplitr; · ipureintro; exact hs.1
    iexact Hs7
  isplitl [Howes]; · iexact Howes
  isplitl [H0]; · iexists f0; isplitr; swap; (· iexact H0); ipureintro; exact hf0
  isplitl [H1]; · iexists f1; isplitr; swap; (· iexact H1); ipureintro; exact hf1
  iexists g6; isplitr; swap; (· iexact H2); ipureintro; exact hs.2

/-- The body's obligation at every point. -/
theorem body_obligation (c : Dev nD) : BodyObligation (dat V a c) (defs₀ (F := F)) Variants.none () Set.univ := fun t => by
  rw [bigSep_W1, bigSep_W1]
  beta_reduce
  have e0 : (cfg a).idle 0 ((cfg a).grid.coords t) = false := rfl
  have e1 : (cfg a).idle 1 ((cfg a).grid.coords t) = false := rfl
  have e2 : (cfg a).idle 2 ((cfg a).grid.coords t) = false := idle2 a _
  rw [e0, e1, e2]
  rw [dat_phi, dat_phi, dat_owes V a c t.succ t.castSucc, Fin.val_castSucc, Fin.val_succ]
  rw [after0 V a c t, after1 V a c t, after2 V a c t]
  have h := body_wp V a c t (spec1_0.stage ((cfg a).slots t 0)) (hstage1_0 (((cfg a).slots t 0).cast nbuf1_0)) (spec1_1.stage ((cfg a).slots t 1)) (hstage1_1 (((cfg a).slots t 1).cast nbuf1_1))
    (spec1_2.stage ((cfg a).slots t 2)) (hstage1_2 (((cfg a).slots t 2).cast nbuf1_2)) ((dat V a c).owesAt () t.castSucc)
  have hb : defs₀ (F := F) .tc (cfg a).body ((cfg a).bodyArgs t ((cfg a).slots t)) = cc1_moe_down (grid1.coords t) (Memref.whole main_v103) (Memref.isWhole_whole _) (Memref.whole main_v105) (Memref.isWhole_whole _)
        (spec1_0.stage ((cfg a).slots t 0)) (hstage1_0 (((cfg a).slots t 0).cast nbuf1_0)) (spec1_1.stage ((cfg a).slots t 1)) (hstage1_1 (((cfg a).slots t 1).cast nbuf1_1))
        (spec1_2.stage ((cfg a).slots t 2)) (hstage1_2 (((cfg a).slots t 2).cast nbuf1_2))
        (Memref.whole cc1_scratch0) (Memref.isWhole_whole _) := rfl
  rw [hb]
  generalize (dat V a c).owesAt () t.castSucc = O at h ⊢
  refine BI.Entails.trans (Q := iprop(Φ V a c t.val ∗ O ∗ owns (c : Thread nD τ) (spec1_0.stage ((cfg a).slots t 0)) fullShare (xB V a c t) ∗ owns (c : Thread nD τ) (spec1_1.stage ((cfg a).slots t 1)) fullShare (wdB V a c t)
      ∗ (∃ X, owns (c : Thread nD τ) (spec1_2.stage ((cfg a).slots t 2)) fullShare X)))
    (show iprop(Φ V a c t.val ∗ O ∗ (∃ d, owns (c : Thread nD τ) (spec1_0.stage ((cfg a).slots t 0)) fullShare ((dat V a c).before 0 t d)) ∗ (∃ d, owns (c : Thread nD τ) (spec1_1.stage ((cfg a).slots t 1)) fullShare ((dat V a c).before 1 t d))
      ∗ (∃ d, owns (c : Thread nD τ) (spec1_2.stage ((cfg a).slots t 2)) fullShare ((dat V a c).before 2 t d))) ⊢ _ from ?_) h
  iintro ⟨HΦ, HO, ⟨%d0, H0⟩, ⟨%d1, H1⟩, ⟨%d2, H2⟩⟩
  rw [before0 V a c t d0, before1 V a c t d1]
  isplitl [HΦ]; · iexact HΦ
  isplitl [HO]; · iexact HO
  isplitl [H0]; · iexact H0
  isplitl [H1]; · iexact H1
  iexists _; iexact H2

/-- The scoped buffers at something, with the tables, are the invariant before the first point. -/
theorem phi_in (c : Dev nD) : iprop(iprop(Pipeline.scopedRest (cfg a).spec c ∗ BI.emp) ∗ Pipeline.tablesAt (pcfgs (F := F)) a 1 c) ⊢ (dat V a c).Φ 0 := by
  rw [show (Pipeline.scopedRest (cfg a).spec c : sProp (MM F)) = _ from scopedRest1_eq c, show (dat V a c).Φ 0 = Φ V a c 0 from rfl]
  unfold Φ others
  rw [show (Pipeline.tablesAt (pcfgs (F := F)) a 1 c : sProp (MM F)) = iprop(pt c (Memref.whole main_v103) ((a 1).1 0) ∗ pt c (Memref.whole main_v105) ((a 1).1 1)) from
    BI.bigSep_univ_eq_bigSepL [(0 : Fin 2), (1 : Fin 2)] (by decide) (by decide) _]
  iintro ⟨⟨⟨G0, G1, G2, G3, G4, G5, G6, G7, G8, G9, ⟨%s7, H7⟩⟩, -⟩, Ht⟩
  isplitl [Ht]; · iexact Ht
  isplitl [H7]
  · iexists s7
    isplitr; · ipureintro; exact fun t h => absurd h (Nat.succ_ne_zero _)
    iexact H7
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- After the last point the invariant gives them back. -/
theorem phi_out (c : Dev nD) : (dat V a c).Φ (Fin.last (cfg a).N) ⊢ iprop(iprop(Pipeline.scopedRest (cfg a).spec c ∗ BI.emp) ∗ Pipeline.tablesAt (pcfgs (F := F)) a 1 c) := by
  rw [show (Pipeline.scopedRest (cfg a).spec c : sProp (MM F)) = _ from scopedRest1_eq c, show (dat V a c).Φ (Fin.last (cfg a).N) = Φ V a c (cfg a).N from rfl]
  unfold Φ others
  rw [show (Pipeline.tablesAt (pcfgs (F := F)) a 1 c : sProp (MM F)) = iprop(pt c (Memref.whole main_v103) ((a 1).1 0) ∗ pt c (Memref.whole main_v105) ((a 1).1 1)) from
    BI.bigSep_univ_eq_bigSepL [(0 : Fin 2), (1 : Fin 2)] (by decide) (by decide) _]
  iintro ⟨Ht, ⟨%s7, -, H7⟩, G0, G1, G2, G3, G4, G5, G6, G7, G8, G9⟩
  isplitr [Ht]; swap; · iexact Ht
  isplitl [H7 G0 G1 G2 G3 G4 G5 G6 G7 G8 G9]; swap; · iempintro
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iexists s7; iexact H7

end Down

end Cert.Moe
-- ==== Proof.Run.lean ====
/-
  The run of @main: the tables' contents at the regions, what the two regions leave, and the whole run, for any reading
  of the floating-point words. Every final state has the arguments as launched, the result at the last valuation's and
  every counter at zero.
-/
module

public import proofs.«01_k».proof.Proof.Tables
public import proofs.«01_k».proof.Proof.Segment
public import proofs.«01_k».proof.Proof.UpRegion
public import proofs.«01_k».proof.Proof.DownRegion

@[expose] public section

set_option maxRecDepth 4000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose PLaunchFacts RegionSeg Seg arrRef arrRefs tblRefs ucRefs pin)

variable {F : FTy → Type} [FloatOps F]

/-! ## The tables -/

theorem ok0_of (pf : pre0.Contents (Elt F)) (h : ∀ i, ((pf 0 : TeT) i).toNat < 32) : ok0 pf := by
  have key : ∀ i : grid0.Coords, ∀ a : Fin 3, (cc0_transform_1 k0_off1_inb numel1_S1 pf i a + 1) * S1x4096x512.size a ≤ S32x4096x1024.size a := by
    intro i a
    obtain ⟨j, hj⟩ : ∃ j, pf.at 0 (Rect.unit (s := S160) (k0_off1 i) S1.size (k0_off1_inb i)) numel1_S1 = (pf 0 : TeT) j := ⟨_, rfl⟩
    have h2 : (i 0).val < 2 := (i 0).isLt
    match a with
    | ⟨0, _⟩ =>
      show ((pf.at 0 (Rect.unit (s := S160) (k0_off1 i) S1.size (k0_off1_inb i)) numel1_S1 : BitVec 32).toNat + 1) * 1 ≤ 32
      rw [hj]; have := h j; omega
    | ⟨1, _⟩ => show (0 + 1) * 4096 ≤ 4096; omega
    | ⟨2, _⟩ =>
      show ((BitVec.ofNat 32 (i 0).val).toNat + 1) * 512 ≤ 1024
      rw [BitVec.toNat_ofNat]; omega
  exact ⟨fun i => ⟨key i, .inl rfl⟩, fun i => ⟨key i, .inl rfl⟩⟩

theorem ok1_of (pf : pre1.Contents (Elt F)) (h : ∀ i, ((pf 0 : TeT) i).toNat < 32) : ok1 pf := by
  have key : ∀ i : grid1.Coords, ∀ a : Fin 3, (cc1_transform_1 k1_off1_inb numel1_S1 pf i a + 1) * S1x1024x4096.size a ≤ S32x1024x4096.size a := by
    intro i a
    obtain ⟨j, hj⟩ : ∃ j, pf.at 0 (Rect.unit (s := S160) (k1_off1 i) S1.size (k1_off1_inb i)) numel1_S1 = (pf 0 : TeT) j := ⟨_, rfl⟩
    match a with
    | ⟨0, _⟩ =>
      show ((pf.at 0 (Rect.unit (s := S160) (k1_off1 i) S1.size (k1_off1_inb i)) numel1_S1 : BitVec 32).toNat + 1) * 1 ≤ 32
      rw [hj]; have := h j; omega
    | ⟨1, _⟩ => show (0 + 1) * 1024 ≤ 1024; omega
    | ⟨2, _⟩ =>
      show ((BitVec.ofNat 32 (i 0).val).toNat + 1) * 4096 ≤ 4096
      have h1 : (i 0).val < 1 := (i 0).isLt
      rw [BitVec.toNat_ofNat]; omega
  exact fun i => ⟨key i, .inl rfl⟩

variable (m : (ℓ : Loc nD τ sig) → Buf (Elt F) ℓ) (ρ : Dev nD → PrngReg)

theorem te_V17 (c : Dev nD) : (V17 m c main_v103 : TeT) = teOf (V14 m c main_v59) (V14 m c main_v80) :=
  (V17_of m c main_v103 (by decide)).trans (te_read (V14 m c))

theorem te_V17_lt (c : Dev nD) (i : S160.Idx) : ((V17 m c main_v103 : TeT) i).toNat < 32 := by
  rw [te_V17]; exact teOf_lt _ _ i

/-- The one core. -/
abbrev c0 : Dev nD := 0

/-- The tables' contents at the two regions: what the host operations leave. -/
def adm : (p : Fin 2) → (pcfgs (F := F) p).Adm
  | ⟨0, _⟩ => ⟨fun k => V17 m c0 (Proc.devRef .tc (pre0.ref k)), ok0_of _ (te_V17_lt m c0)⟩
  | ⟨1, _⟩ => ⟨fun k => V17 m c0 (Proc.devRef .tc (pre1.ref k)), ok1_of _ (te_V17_lt m c0)⟩
  | ⟨_ + 2, h⟩ => absurd h (Nat.not_lt.2 (Nat.le_add_left _ _))

/-! ## What the regions leave -/

/-- The buffers as the first region finds them. -/
abbrev B17 (c : Dev nD) (b : Ref sig .tc) : Buf (Elt F) ((c : Thread nD τ).loc b) := V17 m c (Proc.devRef .tc b)
/-- The activations' array after the first region. -/
def upArr (c : Dev nD) : Buf (Elt F) ((c : Thread nD τ).loc main_v113) := (Up.dat (B17 m) (adm m) c).arrAt 3 (Up.cfg (adm m)).N
/-- The buffers after the first region. -/
def W18 (c : Dev nD) : Valuation τ sig (Elt F) := Function.update (V17 m c) main_v113 (upArr m c)
/-- The buffers as the second region finds them. -/
abbrev B18 (c : Dev nD) (b : Ref sig .tc) : Buf (Elt F) ((c : Thread nD τ).loc b) := W18 m c (Proc.devRef .tc b)
/-- The rows' array after the second region. -/
def downArr (c : Dev nD) : Buf (Elt F) ((c : Thread nD τ).loc main_v114) := (Down.dat (B18 m) (adm m) c).arrAt 2 (Down.cfg (adm m)).N
/-- The buffers after the second region. -/
def W19 (c : Dev nD) : Valuation τ sig (Elt F) := Function.update (W18 m c) main_v114 (downArr m c)

/-- What the regions leave, as the segments take it. -/
def outs : Outs (F := F) := fun n r c =>
  if n = 18 then Function.update (B17 m c) main_v113 (upArr m c) r else Function.update (B17 m c) main_v114 (downArr m c) r

theorem V18_eq (c : Dev nD) : V18 m (outs m) c = W18 m c := by
  have h : outs m 18 main_v113 c = upArr m c := (if_pos rfl).trans (Function.update_self ..)
  show Function.update (V17 m c) main_v113 (outs m 18 main_v113 c) = _
  rw [h]; rfl

theorem V19_eq (c : Dev nD) : V19 m (outs m) c = W19 m c := by
  have h : outs m 19 main_v114 c = downArr m c := (if_neg (by decide)).trans (Function.update_self ..)
  show Function.update (V18 m (outs m) c) main_v114 (outs m 19 main_v114 c) = _
  rw [h, V18_eq]; rfl

theorem W18_of (c : Dev nD) (b : DevRef τ sig) (h : b ≠ Proc.devRef .tc main_v113) : W18 m c b = V17 m c b := Function.update_of_ne h _ _
theorem W18_self (c : Dev nD) : W18 m c main_v113 = upArr m c := Function.update_self ..
theorem W19_of (c : Dev nD) (b : DevRef τ sig) (h : b ≠ Proc.devRef .tc main_v114) : W19 m c b = W18 m c b := Function.update_of_ne h _ _
theorem W19_self (c : Dev nD) : W19 m c main_v114 = downArr m c := Function.update_self ..

/-- The two regions' proof data. -/
def pdats : (p : Fin 2) → (c : Dev nD) → Dat τ (Elt F) Unit ℕ UU ℕ (pin (pcfgs (F := F)) (adm m) p) c
  | ⟨0, _⟩ => Up.dat (B17 m) (adm m)
  | ⟨1, _⟩ => Down.dat (B18 m) (adm m)
  | ⟨_ + 2, h⟩ => absurd h (Nat.not_lt.2 (Nat.le_add_left _ _))

/-! ## The two segments -/

theorem out0_mem : Proc.devRef (sig := sig) .tc main_v113 ∈ arrRefs (τ := τ) (pcfgs (F := F) 0).spec :=
  Finset.mem_map_of_mem _ (Finset.mem_image.mpr ⟨(3 : Fin 4), Finset.mem_univ _, rfl⟩)
theorem out1_mem : Proc.devRef (sig := sig) .tc main_v114 ∈ arrRefs (τ := τ) (pcfgs (F := F) 1).spec :=
  Finset.mem_map_of_mem _ (Finset.mem_image.mpr ⟨(2 : Fin 3), Finset.mem_univ _, rfl⟩)

theorem in0_out : ∀ w : Fin 4, w ≠ 3 → (spec0 w).isOut = false := by decide
theorem in0_ne : ∀ w : Fin 4, w ≠ 3 → arrRef spec0 w ≠ main_v113 := by decide
theorem in1_out : ∀ w : Fin 3, w ≠ 2 → (spec1 w).isOut = false := by decide
theorem in1_ne : ∀ w : Fin 3, w ≠ 2 → arrRef spec1 w ≠ main_v114 := by decide
theorem tbl0_ne : ∀ k : Fin 2, pre0.ref k ≠ main_v113 := by decide
theorem tbl1_ne : ∀ k : Fin 2, pre1.ref k ≠ main_v113 ∧ pre1.ref k ≠ main_v114 := by decide

theorem arr18 (c : Dev nD) (w : Fin 4) :
    (Up.dat (B17 m) (adm m) c).arrAt w (Up.cfg (adm m)).N = W18 m c (Proc.devRef .tc (arrRef spec0 w)) := by
  by_cases hw : w = 3
  · subst hw; exact (W18_self m c).symm
  · exact ((Up.dat (B17 m) (adm m) c).arrAt_in w (in0_out w hw) _).trans
      (W18_of m c _ (StableHlo.devRef_ne_of_ne (in0_ne w hw))).symm

theorem arr19 (c : Dev nD) (w : Fin 3) :
    (Down.dat (B18 m) (adm m) c).arrAt w (Down.cfg (adm m)).N = W19 m c (Proc.devRef .tc (arrRef spec1 w)) := by
  by_cases hw : w = 2
  · subst hw; exact (W19_self m c).symm
  · exact ((Down.dat (B18 m) (adm m) c).arrAt_in w (in1_out w hw) _).trans
      (W19_of m c _ (StableHlo.devRef_ne_of_ne (in1_ne w hw))).symm

theorem tbl17 (c : Dev nD) (k : Fin 2) : (adm m 0).1 k = V17 m c (Proc.devRef .tc (pre0.ref k)) := by
  obtain rfl : c = c0 := Subsingleton.elim _ _
  rfl
theorem tbl18 (c : Dev nD) (k : Fin 2) : (adm m 0).1 k = W18 m c (Proc.devRef .tc (pre0.ref k)) :=
  (tbl17 m c k).trans (W18_of m c _ (StableHlo.devRef_ne_of_ne (tbl0_ne k))).symm
theorem tbl18' (c : Dev nD) (k : Fin 2) : (adm m 1).1 k = W18 m c (Proc.devRef .tc (pre1.ref k)) := by
  obtain rfl : c = c0 := Subsingleton.elim _ _
  exact (W18_of m c0 _ (StableHlo.devRef_ne_of_ne (tbl1_ne k).1)).symm
theorem tbl19 (c : Dev nD) (k : Fin 2) : (adm m 1).1 k = W19 m c (Proc.devRef .tc (pre1.ref k)) :=
  (tbl18' m c k).trans (W19_of m c _ (StableHlo.devRef_ne_of_ne (tbl1_ne k).2)).symm

/-- The first region as a segment. -/
def R0 : RegionSeg (pcfgs (F := F)) (adm m) (pdats m) () defs₀ Variants.none noL lv0 0 :=
  regionSeg (adm m) (pdats m) 0 launch0
    (fun c => (Up.body_obligation (B17 m) (adm m) c).loose)
    (fun _ _ => rfl) (fun _ => rfl) (fun c => (Up.dat (B17 m) (adm m) c).share_full fun _ => rfl)
    (fun c => Up.phi_in (B17 m) (adm m) c) (fun c => Up.phi_out (B17 m) (adm m) c)
    (V17 m) (W18 m) (fun _ _ => rfl) (tbl17 m) (arr18 m) (tbl18 m)
    (fun c b hb => (W18_of m c b fun e => (Finset.mem_sdiff.mp (Finset.mem_sdiff.mp hb).1).2 (e ▸ out0_mem)).symm)

/-- The second region as a segment. -/
def R1 : RegionSeg (pcfgs (F := F)) (adm m) (pdats m) () defs₀ Variants.none noL lv0 1 :=
  regionSeg (adm m) (pdats m) 1 launch1
    (fun c => (Down.body_obligation (B18 m) (adm m) c).loose)
    (fun _ _ => rfl) (fun _ => rfl) (fun c => (Down.dat (B18 m) (adm m) c).share_full fun _ => rfl)
    (fun c => Down.phi_in (B18 m) (adm m) c) (fun c => Down.phi_out (B18 m) (adm m) c)
    (W18 m) (W19 m) (fun _ _ => rfl) (tbl18' m) (arr19 m) (tbl19 m)
    (fun c b hb => (W19_of m c b fun e => (Finset.mem_sdiff.mp (Finset.mem_sdiff.mp hb).1).2 (e ▸ out1_mem)).symm)

/-! ## The launch -/

/-- The pipeline library's algebra is the left component of the certificate's. -/
abbrev EP : Emb (UR sig nD τ) (MM F) := embL

/-- The launch element: the pipeline library's at the staging cells; no counter yet. -/
def u₀ : UU := (initOf (Pipeline.cells (pin (pcfgs (F := F)) (adm m)) (cellOf_inj (adm m)))
  (Pipeline.launchToks (pin (pcfgs (F := F)) (adm m)) (cellOf_inj (adm m))), 1)

/-- The result reaches the end at the last valuation's contents. -/
def post (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5))
  ∧ s.mem ((c.tc : Thread nD τ).loc main_v143) = V20 m (outs m) c (Proc.devRef .tc main_v143)

theorem post_of_read (c : Dev nD) (s : MemSt nD τ sig (Elt F))
    (h : ∀ b ∈ ucRefs τ sig, s.mem ((c : Thread nD τ).1, b) = V20 m (outs m) c b) : post m c s := by
  have r : ∀ x : Ref sig .tc, x.isScoped = false → s.mem ((c.tc : Thread nD τ).loc x) = V20 m (outs m) c (Proc.devRef .tc x) :=
    fun x hx => h (Proc.devRef .tc x) (Finset.mem_filter.mpr ⟨StableHlo.devRef_mem_tcRefs x, fun h' => Bool.false_ne_true (hx.symm.trans h')⟩)
  exact ⟨⟨(r main_arg0 rfl).trans (V20_main_arg0 m (outs m) c), (r main_arg1 rfl).trans (V20_main_arg1 m (outs m) c),
    (r main_arg2 rfl).trans (V20_main_arg2 m (outs m) c), (r main_arg3 rfl).trans (V20_main_arg3 m (outs m) c),
    (r main_arg4 rfl).trans (V20_main_arg4 m (outs m) c), (r main_arg5 rfl).trans (V20_main_arg5 m (outs m) c)⟩, r main_v143 rfl⟩

/-- @main as the list of its segments. -/
abbrev mainSegs : (c : Dev nD) → List (Seg (pcfgs (F := F)) (adm m) (pdats m) () defs₀ Variants.none noL lv0) :=
  segs m (outs m) Variants.none noL lv0 (fun _ => Owe) () (adm m) (pdats m) (R0 m) (R1 m)

-- the launch theorem's implicit arguments are found by unifying its conclusion with this one, which takes unfolding plain
-- definitions in the type of an unknown
set_option backward.isDefEq.respectTransparency.types false in
/-- From any memory with zero counters every weakly fair execution of @main terminates, and every final state has the
    arguments as launched, the result at the last valuation's contents and every counter at zero. -/
theorem run_main : θ_run defs (onTc (τ := τ) (main (F := F))) ⟨m, fun _ => 0, ρ⟩
    (fun r => (∀ c : Dev nD, post m c r.2) ∧ r.2.sem = fun _ => 0) := by
  refine Pipeline.θ_run_regions_kit_dev_sems (pcfgs (F := F)) (adm m) (pdats m) () (cellOf_inj (adm m)) EP defs₀ Variants.none noL lv0 m ρ main
    (mainSegs m)
    (fun c Q => by
      rewrite [main_chain c, Seg.run_eq_chain,
        show (mainSegs m c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          StableHlo.seq hostOps0_16,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (ucRefs τ sig) (V0 m c) ∗ Owe c))
    (Tₙ := fun c => StableHlo.held (c : Thread nD τ) (ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl,
      .rfl,
      (show iprop(StableHlo.held (c : Thread nD τ) (ucRefs τ sig) (W19 m c) ∗ Owe c)
        ⊢ iprop(StableHlo.held (c : Thread nD τ) (ucRefs τ sig) (V19 m (outs m) c) ∗ Owe c) from Entails.of_eq (by rw [V19_eq])), .rfl⟩)
    (hinit := by
      refine Pipeline.initEach noL lv0 fun c => ?_
      rw [show unscopedBufs c (fun b => m ((c : Thread nD τ).loc b)) = StableHlo.held (c : Thread nD τ) (ucRefs τ sig) (V0 m c) from
        Pipeline.unscopedBufs_held (Ix := Unit) (Name := ℕ) (U := UU) (Lvl := ℕ) c (V0 m c)]
      iintro ⟨⟨Hh, -, HO, -, -, -⟩, -⟩
      imodintro
      isplitl [Hh]; · iexact Hh
      iexists ∅; iexact HO)
    (QY := fun c s => post m c s)
    (hfin := fun c s' => by
      unfold StableHlo.held
      iintro ⟨Hh, HSI⟩
      ihave Hr := (pointsTo_read_all (ucRefs τ sig) (fun b => ((c : Thread nD τ).1, b)) (V20 m (outs m) c) s') $$ [Hh HSI]
      · isplitl [Hh] <;> iassumption
      icases Hr with ⟨%h, HSI⟩
      imodintro
      isplitr
      · ipureintro
        exact post_of_read m c _ h
      · iexact HSI)
    (hQ := fun _ h hz => ⟨h, funext fun g => hz g (.inr (regions_no_unscoped g.2))⟩)

end Cert.Moe
-- ==== Proof.Reference.lean ====
/-
  The reference's run: its operations in ten stretches, what each stretch leaves unchanged, and the run of @main, for any
  reading of the floating-point words.
-/
module

public import proofs.«01_k».proof.ReferenceIdeal
public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Quiescent
public import Idealize.ShloMosaic.Lib.Pipeline.Regions

@[expose] public section

set_option maxRecDepth 8000

noncomputable section

namespace Cert.MoeRef

open Cert.ReferenceIdeal Cert.ReferenceIdeal.Gen
open Idealize.ShloMosaic Idealize.ShloMosaic.TcCoe
open Idealize.SL Idealize.SL.Sem

variable {F : FTy → Type} [FloatOps F]

/-- The reference's operations, stretch 0. -/
abbrev ops0 : List (HloOp τ sig (Elt F)) :=
  [ StableHlo.unary main_arg0 main_v0 ((extf .f32 · bitsLt_bf16_f32) : (⟨S16384x4096, .bf16⟩ : BufTy).Contents (Elt F) → (⟨S16384x4096, .f32⟩ : BufTy).Contents (Elt F)),
    StableHlo.unary main_arg1 main_v1 ((extractStridedSlice S16384x4 ![0, 0] · slices_S16384x128_S16384x4_0_0) : (⟨S16384x128, .f32⟩ : BufTy).Contents (Elt F) → (⟨S16384x4, .f32⟩ : BufTy).Contents (Elt F)) ]

theorem ops0_sub : (ops0 : List (HloOp τ sig (Elt F))).Forall fun op => op.bufs ⊆ StableHlo.tcRefs τ sig :=
  ⟨StableHlo.unary_bufs_sub .., StableHlo.unary_bufs_sub ..⟩

/-- The reference's operations, stretch 1. -/
abbrev ops1 : List (HloOp τ sig (Elt F)) :=
  [ StableHlo.TRef.nullary (.of main_call0_v0 : StableHlo.TRef sig ⟨S16384x4, .i32⟩) (iotaInDim S16384x4 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v1 : StableHlo.TRef sig ⟨S16384x4, .f32⟩) (.of main_call0_v0 : StableHlo.TRef sig ⟨S16384x4, .i32⟩) (.of main_call0_cst : StableHlo.TRef sig ⟨S_, .f32⟩) (.of main_call0_c : StableHlo.TRef sig ⟨S_, .i32⟩) (.of main_call0_v1_0 : StableHlo.TRef sig ⟨S16384, .f32⟩) (fun x y u v j => (Host.argReduce reducer_argmax_f32_i32 x y u v reducesTo_S16384x4_S16384_d1 h_S_ j).1),
    StableHlo.TRef.quaternary (.of main_v1 : StableHlo.TRef sig ⟨S16384x4, .f32⟩) (.of main_call0_v0 : StableHlo.TRef sig ⟨S16384x4, .i32⟩) (.of main_call0_cst : StableHlo.TRef sig ⟨S_, .f32⟩) (.of main_call0_c : StableHlo.TRef sig ⟨S_, .i32⟩) (.of main_v2 : StableHlo.TRef sig ⟨S16384, .i32⟩) (fun x y u v j => (Host.argReduce reducer_argmax_f32_i32 x y u v reducesTo_S16384x4_S16384_d1 h_S_ j).2) ]

theorem ops1_sub : (ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The reference's operations, stretch 2. -/
abbrev ops2 : List (HloOp τ sig (Elt F)) :=
  [ StableHlo.nullary main_cst (constant S_ .f32 0xFF800000#32),
    StableHlo.binary main_v1 main_cst main_v3 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.nullary main_cst_0 (constant S_ .f32 0xFF800000#32),
    StableHlo.unary main_cst_0 main_v4 (broadcastInDim S16384 ![] bcast_S_S16384 : (⟨S_, .f32⟩ : BufTy).Contents (Elt F) → (⟨S16384, .f32⟩ : BufTy).Contents (Elt F)),
    StableHlo.binary main_v4 main_v3 main_v5 (maximumf : (⟨S16384, .f32⟩ : BufTy).Contents (Elt F) → (⟨S16384, .f32⟩ : BufTy).Contents (Elt F) → (⟨S16384, .f32⟩ : BufTy).Contents (Elt F)),
    StableHlo.unary main_v5 main_v6 (broadcastInDim S16384x1 ![0] bcast_S16384_S16384x1_0 : (⟨S16384, .f32⟩ : BufTy).Contents (Elt F) → (⟨S16384x1, .f32⟩ : BufTy).Contents (Elt F)),
    StableHlo.unary main_v6 main_v7 (broadcastInDim S16384x4 ![0, 1] bcast_S16384x1_S16384x4_0_1 : (⟨S16384x1, .f32⟩ : BufTy).Contents (Elt F) → (⟨S16384x4, .f32⟩ : BufTy).Contents (Elt F)),
    StableHlo.binary main_v1 main_v7 main_v8 (subf : (⟨S16384x4, .f32⟩ : BufTy).Contents (Elt F) → (⟨S16384x4, .f32⟩ : BufTy).Contents (Elt F) → (⟨S16384x4, .f32⟩ : BufTy).Contents (Elt F)),
    StableHlo.unary main_v8 main_v9 (Host.exp : (⟨S16384x4, .f32⟩ : BufTy).Contents (Elt F) → (⟨S16384x4, .f32⟩ : BufTy).Contents (Elt F)),
    StableHlo.nullary main_cst_1 (constant S_ .f32 0x00000000#32),
    StableHlo.binary main_v9 main_cst_1 main_v10 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v10 main_v11 (broadcastInDim S16384x1 ![0] bcast_S16384_S16384x1_0 : (⟨S16384, .f32⟩ : BufTy).Contents (Elt F) → (⟨S16384x1, .f32⟩ : BufTy).Contents (Elt F)),
    StableHlo.unary main_v11 main_v12 (broadcastInDim S16384x4 ![0, 1] bcast_S16384x1_S16384x4_0_1 : (⟨S16384x1, .f32⟩ : BufTy).Contents (Elt F) → (⟨S16384x4, .f32⟩ : BufTy).Contents (Elt F)),
    StableHlo.binary main_v9 main_v12 main_v13 (Host.divf : (⟨S16384x4, .f32⟩ : BufTy).Contents (Elt F) → (⟨S16384x4, .f32⟩ : BufTy).Contents (Elt F) → (⟨S16384x4, .f32⟩ : BufTy).Contents (Elt F)),
    StableHlo.nullary main_cst_2 (constant S_ .f32 0xFF800000#32),
    StableHlo.binary main_v13 main_cst_2 main_v14 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v14 main_v15 (broadcastInDim S16384x1 ![0] bcast_S16384_S16384x1_0 : (⟨S16384, .f32⟩ : BufTy).Contents (Elt F) → (⟨S16384x1, .f32⟩ : BufTy).Contents (Elt F)),
    StableHlo.unary main_arg1 main_v16 ((extractStridedSlice S16384x32 ![0, 4] · slices_S16384x128_S16384x32_0_4) : (⟨S16384x128, .f32⟩ : BufTy).Contents (Elt F) → (⟨S16384x32, .f32⟩ : BufTy).Contents (Elt F)),
    StableHlo.reshape main_v16 main_v17 (rfl : (.f32 : EltTy) = .f32) shapeCasts_S16384x32_S16384x4x8 ]

theorem ops2_sub : (ops2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.reshape_bufs_sub ..⟩

/-- The reference's operations, stretch 3. -/
abbrev ops3 : List (HloOp τ sig (Elt F)) :=
  [ StableHlo.TRef.unary (.of main_v2 : StableHlo.TRef sig ⟨S16384, .i32⟩) (.of main_call1_v0 : StableHlo.TRef sig ⟨S16384x1, .i32⟩) (broadcastInDim S16384x1 ![0] bcast_S16384_S16384x1_0),
    StableHlo.TRef.nullary (.of main_call1_v1 : StableHlo.TRef sig ⟨S1x4, .i32⟩) (iotaInDim S1x4 32 1),
    StableHlo.TRef.unary (.of main_call1_v0 : StableHlo.TRef sig ⟨S16384x1, .i32⟩) (.of main_call1_v2 : StableHlo.TRef sig ⟨S16384x4, .i32⟩) (broadcastInDim S16384x4 ![0, 1] bcast_S16384x1_S16384x4_0_1),
    StableHlo.TRef.unary (.of main_call1_v1 : StableHlo.TRef sig ⟨S1x4, .i32⟩) (.of main_call1_v3 : StableHlo.TRef sig ⟨S16384x4, .i32⟩) (broadcastInDim S16384x4 ![0, 1] bcast_S1x4_S16384x4_0_1),
    StableHlo.TRef.binary (.of main_call1_v2 : StableHlo.TRef sig ⟨S16384x4, .i32⟩) (.of main_call1_v3 : StableHlo.TRef sig ⟨S16384x4, .i32⟩) (.of main_call1_v4 : StableHlo.TRef sig ⟨S16384x4, .i1⟩) (cmpi .eq),
    StableHlo.TRef.unary (.of main_call1_v4 : StableHlo.TRef sig ⟨S16384x4, .i1⟩) (.of main_v18 : StableHlo.TRef sig ⟨S16384x4, .f32⟩) (uitofp .f32) ]

theorem ops3_sub : (ops3 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩

/-- The reference's operations, stretch 4. -/
abbrev ops4 : List (HloOp τ sig (Elt F)) :=
  [ StableHlo.binary main_v17 main_v18 main_v19 ((fun l r => Host.dotGeneral dot_S16384x4x8_S16384x4_S16384x8_1_1_2_n_0_0 none l r) : (⟨S16384x4x8, .f32⟩ : BufTy).Contents (Elt F) → (⟨S16384x4, .f32⟩ : BufTy).Contents (Elt F) → (⟨S16384x8, .f32⟩ : BufTy).Contents (Elt F)),
    StableHlo.unary main_v19 main_values ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)),
    StableHlo.unary main_v19 main_indices ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)),
    StableHlo.nullary main_cst_3 (constant S_ .f32 0xFF800000#32),
    StableHlo.binary main_values main_cst_3 main_v20 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    StableHlo.nullary main_cst_4 (constant S_ .f32 0xFF800000#32),
    StableHlo.unary main_cst_4 main_v21 (broadcastInDim S16384 ![] bcast_S_S16384 : (⟨S_, .f32⟩ : BufTy).Contents (Elt F) → (⟨S16384, .f32⟩ : BufTy).Contents (Elt F)),
    StableHlo.binary main_v21 main_v20 main_v22 (maximumf : (⟨S16384, .f32⟩ : BufTy).Contents (Elt F) → (⟨S16384, .f32⟩ : BufTy).Contents (Elt F) → (⟨S16384, .f32⟩ : BufTy).Contents (Elt F)),
    StableHlo.unary main_v22 main_v23 (broadcastInDim S16384x1 ![0] bcast_S16384_S16384x1_0 : (⟨S16384, .f32⟩ : BufTy).Contents (Elt F) → (⟨S16384x1, .f32⟩ : BufTy).Contents (Elt F)),
    StableHlo.unary main_v23 main_v24 (broadcastInDim S16384x2 ![0, 1] bcast_S16384x1_S16384x2_0_1 : (⟨S16384x1, .f32⟩ : BufTy).Contents (Elt F) → (⟨S16384x2, .f32⟩ : BufTy).Contents (Elt F)),
    StableHlo.binary main_values main_v24 main_v25 (subf : (⟨S16384x2, .f32⟩ : BufTy).Contents (Elt F) → (⟨S16384x2, .f32⟩ : BufTy).Contents (Elt F) → (⟨S16384x2, .f32⟩ : BufTy).Contents (Elt F)),
    StableHlo.unary main_v25 main_v26 (Host.exp : (⟨S16384x2, .f32⟩ : BufTy).Contents (Elt F) → (⟨S16384x2, .f32⟩ : BufTy).Contents (Elt F)),
    StableHlo.nullary main_cst_5 (constant S_ .f32 0x00000000#32),
    StableHlo.binary main_v26 main_cst_5 main_v27 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    StableHlo.unary main_v27 main_v28 (broadcastInDim S16384x1 ![0] bcast_S16384_S16384x1_0 : (⟨S16384, .f32⟩ : BufTy).Contents (Elt F) → (⟨S16384x1, .f32⟩ : BufTy).Contents (Elt F)),
    StableHlo.unary main_v28 main_v29 (broadcastInDim S16384x2 ![0, 1] bcast_S16384x1_S16384x2_0_1 : (⟨S16384x1, .f32⟩ : BufTy).Contents (Elt F) → (⟨S16384x2, .f32⟩ : BufTy).Contents (Elt F)),
    StableHlo.binary main_v26 main_v29 main_v30 (Host.divf : (⟨S16384x2, .f32⟩ : BufTy).Contents (Elt F) → (⟨S16384x2, .f32⟩ : BufTy).Contents (Elt F) → (⟨S16384x2, .f32⟩ : BufTy).Contents (Elt F)),
    StableHlo.unary main_v15 main_v31 (broadcastInDim S16384x2 ![0, 1] bcast_S16384x1_S16384x2_0_1 : (⟨S16384x1, .f32⟩ : BufTy).Contents (Elt F) → (⟨S16384x2, .f32⟩ : BufTy).Contents (Elt F)),
    StableHlo.binary main_v30 main_v31 main_v32 (mulf : (⟨S16384x2, .f32⟩ : BufTy).Contents (Elt F) → (⟨S16384x2, .f32⟩ : BufTy).Contents (Elt F) → (⟨S16384x2, .f32⟩ : BufTy).Contents (Elt F)),
    StableHlo.unary main_v2 main_v33 (broadcastInDim S16384x1 ![0] bcast_S16384_S16384x1_0 : (⟨S16384, .i32⟩ : BufTy).Contents (Elt F) → (⟨S16384x1, .i32⟩ : BufTy).Contents (Elt F)),
    StableHlo.nullary main_c (constantI S_ 32 8#32),
    StableHlo.unary main_c main_v34 (broadcastInDim S16384x1 ![] bcast_S_S16384x1 : (⟨S_, .i32⟩ : BufTy).Contents (Elt F) → (⟨S16384x1, .i32⟩ : BufTy).Contents (Elt F)),
    StableHlo.binary main_v33 main_v34 main_v35 (muli : (⟨S16384x1, .i32⟩ : BufTy).Contents (Elt F) → (⟨S16384x1, .i32⟩ : BufTy).Contents (Elt F) → (⟨S16384x1, .i32⟩ : BufTy).Contents (Elt F)),
    StableHlo.unary main_v35 main_v36 (broadcastInDim S16384x2 ![0, 1] bcast_S16384x1_S16384x2_0_1 : (⟨S16384x1, .i32⟩ : BufTy).Contents (Elt F) → (⟨S16384x2, .i32⟩ : BufTy).Contents (Elt F)),
    StableHlo.binary main_v36 main_indices main_v37 (addi : (⟨S16384x2, .i32⟩ : BufTy).Contents (Elt F) → (⟨S16384x2, .i32⟩ : BufTy).Contents (Elt F) → (⟨S16384x2, .i32⟩ : BufTy).Contents (Elt F)) ]

theorem ops4_sub : (ops4 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub ..⟩

/-- The reference's operations, stretch 5. -/
abbrev ops5 : List (HloOp τ sig (Elt F)) :=
  [ StableHlo.TRef.unary (.of main_v37 : StableHlo.TRef sig ⟨S16384x2, .i32⟩) (.of main_call2_v0 : StableHlo.TRef sig ⟨S16384x2x1, .i32⟩) (broadcastInDim S16384x2x1 ![0, 1] bcast_S16384x2_S16384x2x1_0_1),
    StableHlo.TRef.nullary (.of main_call2_v1 : StableHlo.TRef sig ⟨S1x1x32, .i32⟩) (iotaInDim S1x1x32 32 2),
    StableHlo.TRef.unary (.of main_call2_v0 : StableHlo.TRef sig ⟨S16384x2x1, .i32⟩) (.of main_call2_v2 : StableHlo.TRef sig ⟨S16384x2x32, .i32⟩) (broadcastInDim S16384x2x32 ![0, 1, 2] bcast_S16384x2x1_S16384x2x32_0_1_2),
    StableHlo.TRef.unary (.of main_call2_v1 : StableHlo.TRef sig ⟨S1x1x32, .i32⟩) (.of main_call2_v3 : StableHlo.TRef sig ⟨S16384x2x32, .i32⟩) (broadcastInDim S16384x2x32 ![0, 1, 2] bcast_S1x1x32_S16384x2x32_0_1_2),
    StableHlo.TRef.binary (.of main_call2_v2 : StableHlo.TRef sig ⟨S16384x2x32, .i32⟩) (.of main_call2_v3 : StableHlo.TRef sig ⟨S16384x2x32, .i32⟩) (.of main_call2_v4 : StableHlo.TRef sig ⟨S16384x2x32, .i1⟩) (cmpi .eq),
    StableHlo.TRef.unary (.of main_call2_v4 : StableHlo.TRef sig ⟨S16384x2x32, .i1⟩) (.of main_v38 : StableHlo.TRef sig ⟨S16384x2x32, .f32⟩) (uitofp .f32) ]

theorem ops5_sub : (ops5 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩

/-- The reference's operations, stretch 6. -/
abbrev ops6 : List (HloOp τ sig (Elt F)) :=
  [ StableHlo.unary main_v32 main_v39 (broadcastInDim S16384x2x1 ![0, 1] bcast_S16384x2_S16384x2x1_0_1 : (⟨S16384x2, .f32⟩ : BufTy).Contents (Elt F) → (⟨S16384x2x1, .f32⟩ : BufTy).Contents (Elt F)),
    StableHlo.unary main_v39 main_v40 (broadcastInDim S16384x2x32 ![0, 1, 2] bcast_S16384x2x1_S16384x2x32_0_1_2 : (⟨S16384x2x1, .f32⟩ : BufTy).Contents (Elt F) → (⟨S16384x2x32, .f32⟩ : BufTy).Contents (Elt F)),
    StableHlo.binary main_v38 main_v40 main_v41 (mulf : (⟨S16384x2x32, .f32⟩ : BufTy).Contents (Elt F) → (⟨S16384x2x32, .f32⟩ : BufTy).Contents (Elt F) → (⟨S16384x2x32, .f32⟩ : BufTy).Contents (Elt F)),
    StableHlo.nullary main_cst_6 (constant S_ .f32 0x00000000#32),
    StableHlo.binary main_v41 main_cst_6 main_v42 ((fun x v => Host.reduceAdd x v reducesTo_S16384x2x32_S16384x32_d1 h_S_) : (⟨S16384x2x32, .f32⟩ : BufTy).Contents (Elt F) → (⟨S_, .f32⟩ : BufTy).Contents (Elt F) → (⟨S16384x32, .f32⟩ : BufTy).Contents (Elt F)),
    StableHlo.reshape main_arg3 main_v43 (rfl : (.f32 : EltTy) = .f32) shapeCasts_S1x32x4096x1024_S32x4096x1024,
    StableHlo.binary main_v43 main_v0 main_v44 ((fun l r => Host.dotGeneral dot_S32x4096x1024_S16384x4096_S32x1024x16384_1_1_02_0_n_n none l r) : (⟨S32x4096x1024, .f32⟩ : BufTy).Contents (Elt F) → (⟨S16384x4096, .f32⟩ : BufTy).Contents (Elt F) → (⟨S32x1024x16384, .f32⟩ : BufTy).Contents (Elt F)),
    StableHlo.unary main_v44 main_v45 ((transpose S32x16384x1024 [0, 2, 1] · transposes_S32x1024x16384_S32x16384x1024_0_2_1) : (⟨S32x1024x16384, .f32⟩ : BufTy).Contents (Elt F) → (⟨S32x16384x1024, .f32⟩ : BufTy).Contents (Elt F)) ]

theorem ops6_sub : (ops6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.reshape_bufs_sub .., StableHlo.binary_bufs_sub .., StableHlo.unary_bufs_sub ..⟩

/-- The reference's operations, stretch 7. -/
abbrev ops7 : List (HloOp τ sig (Elt F)) :=
  [ StableHlo.TRef.unary (.of main_v45 : StableHlo.TRef sig ⟨S32x16384x1024, .f32⟩) (.of main_call3_v0 : StableHlo.TRef sig ⟨S32x16384x1024, .f32⟩) Host.negf,
    StableHlo.TRef.unary (.of main_call3_v0 : StableHlo.TRef sig ⟨S32x16384x1024, .f32⟩) (.of main_call3_v1 : StableHlo.TRef sig ⟨S32x16384x1024, .f32⟩) Host.exp,
    StableHlo.TRef.nullary (.of main_call3_cst : StableHlo.TRef sig ⟨S_, .f32⟩) (constant S_ .f32 0x3F800000#32),
    StableHlo.TRef.unary (.of main_call3_cst : StableHlo.TRef sig ⟨S_, .f32⟩) (.of main_call3_v2 : StableHlo.TRef sig ⟨S32x16384x1024, .f32⟩) (broadcastInDim S32x16384x1024 ![] bcast_S_S32x16384x1024),
    StableHlo.TRef.binary (.of main_call3_v2 : StableHlo.TRef sig ⟨S32x16384x1024, .f32⟩) (.of main_call3_v1 : StableHlo.TRef sig ⟨S32x16384x1024, .f32⟩) (.of main_call3_v3 : StableHlo.TRef sig ⟨S32x16384x1024, .f32⟩) addf,
    StableHlo.TRef.nullary (.of main_call3_cst_0 : StableHlo.TRef sig ⟨S_, .f32⟩) (constant S_ .f32 0x3F800000#32),
    StableHlo.TRef.unary (.of main_call3_cst_0 : StableHlo.TRef sig ⟨S_, .f32⟩) (.of main_call3_v4 : StableHlo.TRef sig ⟨S32x16384x1024, .f32⟩) (broadcastInDim S32x16384x1024 ![] bcast_S_S32x16384x1024),
    StableHlo.TRef.binary (.of main_call3_v4 : StableHlo.TRef sig ⟨S32x16384x1024, .f32⟩) (.of main_call3_v3 : StableHlo.TRef sig ⟨S32x16384x1024, .f32⟩) (.of main_call3_v5 : StableHlo.TRef sig ⟨S32x16384x1024, .f32⟩) Host.divf,
    StableHlo.TRef.binary (.of main_v45 : StableHlo.TRef sig ⟨S32x16384x1024, .f32⟩) (.of main_call3_v5 : StableHlo.TRef sig ⟨S32x16384x1024, .f32⟩) (.of main_v46 : StableHlo.TRef sig ⟨S32x16384x1024, .f32⟩) mulf ]

theorem ops7_sub : (ops7 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- The reference's operations, stretch 8. -/
abbrev ops8 : List (HloOp τ sig (Elt F)) :=
  [ StableHlo.reshape main_arg4 main_v47 (rfl : (.f32 : EltTy) = .f32) shapeCasts_S1x32x4096x1024_S32x4096x1024,
    StableHlo.binary main_v47 main_v0 main_v48 ((fun l r => Host.dotGeneral dot_S32x4096x1024_S16384x4096_S32x1024x16384_1_1_02_0_n_n none l r) : (⟨S32x4096x1024, .f32⟩ : BufTy).Contents (Elt F) → (⟨S16384x4096, .f32⟩ : BufTy).Contents (Elt F) → (⟨S32x1024x16384, .f32⟩ : BufTy).Contents (Elt F)) ]

theorem ops8_sub : (ops8 : List (HloOp τ sig (Elt F))).Forall fun op => op.bufs ⊆ StableHlo.tcRefs τ sig :=
  ⟨StableHlo.reshape_bufs_sub .., StableHlo.binary_bufs_sub ..⟩

/-- The reference's operations, stretch 9. -/
abbrev ops9 : List (HloOp τ sig (Elt F)) :=
  [ StableHlo.unary main_v48 main_v49 ((transpose S32x16384x1024 [0, 2, 1] · transposes_S32x1024x16384_S32x16384x1024_0_2_1) : (⟨S32x1024x16384, .f32⟩ : BufTy).Contents (Elt F) → (⟨S32x16384x1024, .f32⟩ : BufTy).Contents (Elt F)),
    StableHlo.binary main_v46 main_v49 main_v50 (mulf : (⟨S32x16384x1024, .f32⟩ : BufTy).Contents (Elt F) → (⟨S32x16384x1024, .f32⟩ : BufTy).Contents (Elt F) → (⟨S32x16384x1024, .f32⟩ : BufTy).Contents (Elt F)),
    StableHlo.unary main_v42 main_v51 ((transpose S32x16384 [1, 0] · transposes_S16384x32_S32x16384_1_0) : (⟨S16384x32, .f32⟩ : BufTy).Contents (Elt F) → (⟨S32x16384, .f32⟩ : BufTy).Contents (Elt F)),
    StableHlo.unary main_v51 main_v52 (broadcastInDim S32x16384x1 ![0, 1] bcast_S32x16384_S32x16384x1_0_1 : (⟨S32x16384, .f32⟩ : BufTy).Contents (Elt F) → (⟨S32x16384x1, .f32⟩ : BufTy).Contents (Elt F)),
    StableHlo.unary main_v52 main_v53 (broadcastInDim S32x16384x1024 ![0, 1, 2] bcast_S32x16384x1_S32x16384x1024_0_1_2 : (⟨S32x16384x1, .f32⟩ : BufTy).Contents (Elt F) → (⟨S32x16384x1024, .f32⟩ : BufTy).Contents (Elt F)),
    StableHlo.binary main_v50 main_v53 main_v54 (mulf : (⟨S32x16384x1024, .f32⟩ : BufTy).Contents (Elt F) → (⟨S32x16384x1024, .f32⟩ : BufTy).Contents (Elt F) → (⟨S32x16384x1024, .f32⟩ : BufTy).Contents (Elt F)),
    StableHlo.reshape main_arg5 main_v55 (rfl : (.f32 : EltTy) = .f32) shapeCasts_S1x32x1024x4096_S32x1024x4096,
    StableHlo.binary main_v54 main_v55 main_v56 ((fun l r => Host.dotGeneral dot_S32x16384x1024_S32x1024x4096_S32x16384x4096_2_1_1_2_0_0 none l r) : (⟨S32x16384x1024, .f32⟩ : BufTy).Contents (Elt F) → (⟨S32x1024x4096, .f32⟩ : BufTy).Contents (Elt F) → (⟨S32x16384x4096, .f32⟩ : BufTy).Contents (Elt F)),
    StableHlo.nullary main_cst_7 (constant S_ .f32 0x00000000#32),
    StableHlo.binary main_v56 main_cst_7 main_v57 ((fun x v => Host.reduceAdd x v reducesTo_S32x16384x4096_S16384x4096_d0 h_S_) : (⟨S32x16384x4096, .f32⟩ : BufTy).Contents (Elt F) → (⟨S_, .f32⟩ : BufTy).Contents (Elt F) → (⟨S16384x4096, .f32⟩ : BufTy).Contents (Elt F)),
    StableHlo.binary main_arg2 main_v57 main_v58 (addf : (⟨S16384x4096, .f32⟩ : BufTy).Contents (Elt F) → (⟨S16384x4096, .f32⟩ : BufTy).Contents (Elt F) → (⟨S16384x4096, .f32⟩ : BufTy).Contents (Elt F)),
    StableHlo.unary main_v58 main_v59 (broadcastInDim S1x16384x4096 ![1, 2] bcast_S16384x4096_S1x16384x4096_1_2 : (⟨S16384x4096, .f32⟩ : BufTy).Contents (Elt F) → (⟨S1x16384x4096, .f32⟩ : BufTy).Contents (Elt F)) ]

theorem ops9_sub : (ops9 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.reshape_bufs_sub .., StableHlo.binary_bufs_sub .., StableHlo.nullary_bufs_sub .., StableHlo.binary_bufs_sub .., StableHlo.binary_bufs_sub .., StableHlo.unary_bufs_sub ..⟩

abbrev ops0_W : List (Ref sig .tc) := [main_v0, main_v1]

theorem ops0_writes : (ops0 : List (HloOp τ sig (Elt F))).Forall fun op => op.writes ⊆ (ops0_W.map (Proc.devRef (τ := τ) .tc)).toFinset :=
  StableHlo.forall_writes_sub_of_map rfl

theorem ops0_fresh : (ops0 : List (HloOp τ sig (Elt F))).Forall fun op => op.fresh = ∅ := by
  simp only [List.Forall]; repeat' constructor

abbrev ops1_W : List (Ref sig .tc) := [main_call0_v0, main_call0_cst, main_call0_c, main_call0_v1_0, main_v2]

theorem ops1_writes : (ops1 : List (HloOp τ sig (Elt F))).Forall fun op => op.writes ⊆ (ops1_W.map (Proc.devRef (τ := τ) .tc)).toFinset :=
  StableHlo.forall_writes_sub_of_map rfl

theorem ops1_fresh : (ops1 : List (HloOp τ sig (Elt F))).Forall fun op => op.fresh = ∅ := by
  simp only [List.Forall]; repeat' constructor

abbrev ops2_W : List (Ref sig .tc) := [main_cst, main_v3, main_cst_0, main_v4, main_v5, main_v6, main_v7, main_v8, main_v9, main_cst_1, main_v10, main_v11, main_v12, main_v13, main_cst_2, main_v14, main_v15, main_v16, main_v17]

theorem ops2_writes : (ops2 : List (HloOp τ sig (Elt F))).Forall fun op => op.writes ⊆ (ops2_W.map (Proc.devRef (τ := τ) .tc)).toFinset :=
  StableHlo.forall_writes_sub_of_map rfl

theorem ops2_fresh : (ops2 : List (HloOp τ sig (Elt F))).Forall fun op => op.fresh = ∅ := by
  simp only [List.Forall]; repeat' constructor

abbrev ops3_W : List (Ref sig .tc) := [main_call1_v0, main_call1_v1, main_call1_v2, main_call1_v3, main_call1_v4, main_v18]

theorem ops3_writes : (ops3 : List (HloOp τ sig (Elt F))).Forall fun op => op.writes ⊆ (ops3_W.map (Proc.devRef (τ := τ) .tc)).toFinset :=
  StableHlo.forall_writes_sub_of_map rfl

theorem ops3_fresh : (ops3 : List (HloOp τ sig (Elt F))).Forall fun op => op.fresh = ∅ := by
  simp only [List.Forall]; repeat' constructor

abbrev ops4_W : List (Ref sig .tc) := [main_v19, main_values, main_indices, main_cst_3, main_v20, main_cst_4, main_v21, main_v22, main_v23, main_v24, main_v25, main_v26, main_cst_5, main_v27, main_v28, main_v29, main_v30, main_v31, main_v32, main_v33, main_c, main_v34, main_v35, main_v36, main_v37]

theorem ops4_writes : (ops4 : List (HloOp τ sig (Elt F))).Forall fun op => op.writes ⊆ (ops4_W.map (Proc.devRef (τ := τ) .tc)).toFinset :=
  StableHlo.forall_writes_sub_of_map rfl

theorem ops4_fresh : (ops4 : List (HloOp τ sig (Elt F))).Forall fun op => op.fresh = ∅ := by
  simp only [List.Forall]; repeat' constructor

abbrev ops5_W : List (Ref sig .tc) := [main_call2_v0, main_call2_v1, main_call2_v2, main_call2_v3, main_call2_v4, main_v38]

theorem ops5_writes : (ops5 : List (HloOp τ sig (Elt F))).Forall fun op => op.writes ⊆ (ops5_W.map (Proc.devRef (τ := τ) .tc)).toFinset :=
  StableHlo.forall_writes_sub_of_map rfl

theorem ops5_fresh : (ops5 : List (HloOp τ sig (Elt F))).Forall fun op => op.fresh = ∅ := by
  simp only [List.Forall]; repeat' constructor

abbrev ops6_W : List (Ref sig .tc) := [main_v39, main_v40, main_v41, main_cst_6, main_v42, main_v43, main_v44, main_v45]

theorem ops6_writes : (ops6 : List (HloOp τ sig (Elt F))).Forall fun op => op.writes ⊆ (ops6_W.map (Proc.devRef (τ := τ) .tc)).toFinset :=
  StableHlo.forall_writes_sub_of_map rfl

theorem ops6_fresh : (ops6 : List (HloOp τ sig (Elt F))).Forall fun op => op.fresh = ∅ := by
  simp only [List.Forall]; repeat' constructor

abbrev ops7_W : List (Ref sig .tc) := [main_call3_v0, main_call3_v1, main_call3_cst, main_call3_v2, main_call3_v3, main_call3_cst_0, main_call3_v4, main_call3_v5, main_v46]

theorem ops7_writes : (ops7 : List (HloOp τ sig (Elt F))).Forall fun op => op.writes ⊆ (ops7_W.map (Proc.devRef (τ := τ) .tc)).toFinset :=
  StableHlo.forall_writes_sub_of_map rfl

theorem ops7_fresh : (ops7 : List (HloOp τ sig (Elt F))).Forall fun op => op.fresh = ∅ := by
  simp only [List.Forall]; repeat' constructor

abbrev ops8_W : List (Ref sig .tc) := [main_v47, main_v48]

theorem ops8_writes : (ops8 : List (HloOp τ sig (Elt F))).Forall fun op => op.writes ⊆ (ops8_W.map (Proc.devRef (τ := τ) .tc)).toFinset :=
  StableHlo.forall_writes_sub_of_map rfl

theorem ops8_fresh : (ops8 : List (HloOp τ sig (Elt F))).Forall fun op => op.fresh = ∅ := by
  simp only [List.Forall]; repeat' constructor

abbrev ops9_W : List (Ref sig .tc) := [main_v49, main_v50, main_v51, main_v52, main_v53, main_v54, main_v55, main_v56, main_cst_7, main_v57, main_v58, main_v59]

theorem ops9_writes : (ops9 : List (HloOp τ sig (Elt F))).Forall fun op => op.writes ⊆ (ops9_W.map (Proc.devRef (τ := τ) .tc)).toFinset :=
  StableHlo.forall_writes_sub_of_map rfl

theorem ops9_fresh : (ops9 : List (HloOp τ sig (Elt F))).Forall fun op => op.fresh = ∅ := by
  simp only [List.Forall]; repeat' constructor

/-- All of the reference's operations. -/
def ops : List (HloOp τ sig (Elt F)) := List.flatten [ops0, ops1, ops2, ops3, ops4, ops5, ops6, ops7, ops8, ops9]

/-- Stretches run one after the other are all of their operations run in order. -/
theorem chain_seq (ls : List (List (HloOp τ sig (Elt F)))) :
    Pipeline.chain (ls.map fun l => (StableHlo.seq l : Prog (TpuEff nD τ sig (Elt F) (Pipeline.Sig Λ₀ (Fin 0) fun p => (pcfgs (F := F) p).Adm) .tc) PUnit))
      = StableHlo.seq ls.flatten := by
  induction ls with
  | nil => rfl
  | cons l ls ih => rw [List.map_cons, List.flatten_cons, Pipeline.chain_cons, StableHlo.seq_append, ih]

/-- The first window of the reference as the chain of its stretches. -/
theorem part0_chain (c : Dev nD) : main_part0 (F := F) c = Pipeline.chainK
    [StableHlo.seq ops0, StableHlo.seq ops1, StableHlo.seq ops2, StableHlo.seq ops3, StableHlo.seq ops4, StableHlo.seq ops5,
      StableHlo.seq ops6, StableHlo.seq ops7] (StableHlo.seq ops8) := by
  rewrite [StableHlo.chainK_seq_cons, Pipeline.chainK_cons, StableHlo.chainK_seq_cons, Pipeline.chainK_cons,
    StableHlo.chainK_seq_cons, Pipeline.chainK_cons, StableHlo.chainK_seq_cons, Pipeline.chainK_cons]
  chain_rfl

/-- The second window. -/
theorem part1_chain (c : Dev nD) : main_part1 (F := F) c = Pipeline.chain [StableHlo.seq ops9] := by
  rewrite [StableHlo.chain_seq_cons]
  chain_rfl

theorem main_eq (c : Dev nD) : main (F := F) c = StableHlo.seq ops := by
  show (main_part0 (F := F) c >>= fun _ => main_part1 (F := F) c) = _
  rewrite [part1_chain, part0_chain, Pipeline.chainK_bind_chain]
  exact chain_seq [ops0, ops1, ops2, ops3, ops4, ops5, ops6, ops7, ops8, ops9]

theorem ops_sub : (ops : List (HloOp τ sig (Elt F))).Forall fun op => op.bufs ⊆ StableHlo.tcRefs τ sig := by
  show List.Forall _ (ops0 ++ (ops1 ++ (ops2 ++ (ops3 ++ (ops4 ++ (ops5 ++ (ops6 ++ (ops7 ++ (ops8 ++ (ops9 ++ []))))))))))
  rewrite [List.forall_append, List.forall_append, List.forall_append, List.forall_append, List.forall_append, List.forall_append, List.forall_append, List.forall_append, List.forall_append, List.forall_append]
  exact ⟨ops0_sub, ops1_sub, ops2_sub, ops3_sub, ops4_sub, ops5_sub, ops6_sub, ops7_sub, ops8_sub, ops9_sub, trivial⟩

theorem ops_fresh : (ops : List (HloOp τ sig (Elt F))).Forall fun op => op.fresh = ∅ := by
  show List.Forall _ (ops0 ++ (ops1 ++ (ops2 ++ (ops3 ++ (ops4 ++ (ops5 ++ (ops6 ++ (ops7 ++ (ops8 ++ (ops9 ++ []))))))))))
  rewrite [List.forall_append, List.forall_append, List.forall_append, List.forall_append, List.forall_append, List.forall_append, List.forall_append, List.forall_append, List.forall_append, List.forall_append]
  exact ⟨ops0_fresh, ops1_fresh, ops2_fresh, ops3_fresh, ops4_fresh, ops5_fresh, ops6_fresh, ops7_fresh, ops8_fresh, ops9_fresh, trivial⟩

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ) (ρ : Dev nD → PrngReg)

/-- The buffers at launch. -/
def U0 (c : Dev nD) : Valuation τ sig (Elt F) := StableHlo.launchContents m c

/-- The buffers after stretch 0. -/
def U1 (c : Dev nD) : Valuation τ sig (Elt F) := StableHlo.after ops0 (U0 m c)

theorem U1_of (c : Dev nD) (r : Ref sig .tc) (h : r ∉ ops0_W) : U1 m c r = U0 m c r :=
  StableHlo.after_of_writes_sub ops0 _ ops0_writes h

/-- The buffers after stretch 1. -/
def U2 (c : Dev nD) : Valuation τ sig (Elt F) := StableHlo.after ops1 (U1 m c)

theorem U2_of (c : Dev nD) (r : Ref sig .tc) (h : r ∉ ops1_W) : U2 m c r = U1 m c r :=
  StableHlo.after_of_writes_sub ops1 _ ops1_writes h

/-- The buffers after stretch 2. -/
def U3 (c : Dev nD) : Valuation τ sig (Elt F) := StableHlo.after ops2 (U2 m c)

theorem U3_of (c : Dev nD) (r : Ref sig .tc) (h : r ∉ ops2_W) : U3 m c r = U2 m c r :=
  StableHlo.after_of_writes_sub ops2 _ ops2_writes h

/-- The buffers after stretch 3. -/
def U4 (c : Dev nD) : Valuation τ sig (Elt F) := StableHlo.after ops3 (U3 m c)

theorem U4_of (c : Dev nD) (r : Ref sig .tc) (h : r ∉ ops3_W) : U4 m c r = U3 m c r :=
  StableHlo.after_of_writes_sub ops3 _ ops3_writes h

/-- The buffers after stretch 4. -/
def U5 (c : Dev nD) : Valuation τ sig (Elt F) := StableHlo.after ops4 (U4 m c)

theorem U5_of (c : Dev nD) (r : Ref sig .tc) (h : r ∉ ops4_W) : U5 m c r = U4 m c r :=
  StableHlo.after_of_writes_sub ops4 _ ops4_writes h

/-- The buffers after stretch 5. -/
def U6 (c : Dev nD) : Valuation τ sig (Elt F) := StableHlo.after ops5 (U5 m c)

theorem U6_of (c : Dev nD) (r : Ref sig .tc) (h : r ∉ ops5_W) : U6 m c r = U5 m c r :=
  StableHlo.after_of_writes_sub ops5 _ ops5_writes h

/-- The buffers after stretch 6. -/
def U7 (c : Dev nD) : Valuation τ sig (Elt F) := StableHlo.after ops6 (U6 m c)

theorem U7_of (c : Dev nD) (r : Ref sig .tc) (h : r ∉ ops6_W) : U7 m c r = U6 m c r :=
  StableHlo.after_of_writes_sub ops6 _ ops6_writes h

/-- The buffers after stretch 7. -/
def U8 (c : Dev nD) : Valuation τ sig (Elt F) := StableHlo.after ops7 (U7 m c)

theorem U8_of (c : Dev nD) (r : Ref sig .tc) (h : r ∉ ops7_W) : U8 m c r = U7 m c r :=
  StableHlo.after_of_writes_sub ops7 _ ops7_writes h

/-- The buffers after stretch 8. -/
def U9 (c : Dev nD) : Valuation τ sig (Elt F) := StableHlo.after ops8 (U8 m c)

theorem U9_of (c : Dev nD) (r : Ref sig .tc) (h : r ∉ ops8_W) : U9 m c r = U8 m c r :=
  StableHlo.after_of_writes_sub ops8 _ ops8_writes h

/-- The buffers after stretch 9. -/
def U10 (c : Dev nD) : Valuation τ sig (Elt F) := StableHlo.after ops9 (U9 m c)

theorem U10_of (c : Dev nD) (r : Ref sig .tc) (h : r ∉ ops9_W) : U10 m c r = U9 m c r :=
  StableHlo.after_of_writes_sub ops9 _ ops9_writes h

theorem U10_arg0 (c : Dev nD) : U10 m c main_arg0 = m ((c.tc : Thread nD τ).loc main_arg0) :=
  (U10_of m c main_arg0 (by decide)).trans <| (U9_of m c main_arg0 (by decide)).trans <| (U8_of m c main_arg0 (by decide)).trans <| (U7_of m c main_arg0 (by decide)).trans <| (U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide)).trans <| rfl

theorem U10_arg1 (c : Dev nD) : U10 m c main_arg1 = m ((c.tc : Thread nD τ).loc main_arg1) :=
  (U10_of m c main_arg1 (by decide)).trans <| (U9_of m c main_arg1 (by decide)).trans <| (U8_of m c main_arg1 (by decide)).trans <| (U7_of m c main_arg1 (by decide)).trans <| (U6_of m c main_arg1 (by decide)).trans <| (U5_of m c main_arg1 (by decide)).trans <| (U4_of m c main_arg1 (by decide)).trans <| (U3_of m c main_arg1 (by decide)).trans <| (U2_of m c main_arg1 (by decide)).trans <| (U1_of m c main_arg1 (by decide)).trans <| rfl

theorem U10_arg2 (c : Dev nD) : U10 m c main_arg2 = m ((c.tc : Thread nD τ).loc main_arg2) :=
  (U10_of m c main_arg2 (by decide)).trans <| (U9_of m c main_arg2 (by decide)).trans <| (U8_of m c main_arg2 (by decide)).trans <| (U7_of m c main_arg2 (by decide)).trans <| (U6_of m c main_arg2 (by decide)).trans <| (U5_of m c main_arg2 (by decide)).trans <| (U4_of m c main_arg2 (by decide)).trans <| (U3_of m c main_arg2 (by decide)).trans <| (U2_of m c main_arg2 (by decide)).trans <| (U1_of m c main_arg2 (by decide)).trans <| rfl

theorem U10_arg3 (c : Dev nD) : U10 m c main_arg3 = m ((c.tc : Thread nD τ).loc main_arg3) :=
  (U10_of m c main_arg3 (by decide)).trans <| (U9_of m c main_arg3 (by decide)).trans <| (U8_of m c main_arg3 (by decide)).trans <| (U7_of m c main_arg3 (by decide)).trans <| (U6_of m c main_arg3 (by decide)).trans <| (U5_of m c main_arg3 (by decide)).trans <| (U4_of m c main_arg3 (by decide)).trans <| (U3_of m c main_arg3 (by decide)).trans <| (U2_of m c main_arg3 (by decide)).trans <| (U1_of m c main_arg3 (by decide)).trans <| rfl

theorem U10_arg4 (c : Dev nD) : U10 m c main_arg4 = m ((c.tc : Thread nD τ).loc main_arg4) :=
  (U10_of m c main_arg4 (by decide)).trans <| (U9_of m c main_arg4 (by decide)).trans <| (U8_of m c main_arg4 (by decide)).trans <| (U7_of m c main_arg4 (by decide)).trans <| (U6_of m c main_arg4 (by decide)).trans <| (U5_of m c main_arg4 (by decide)).trans <| (U4_of m c main_arg4 (by decide)).trans <| (U3_of m c main_arg4 (by decide)).trans <| (U2_of m c main_arg4 (by decide)).trans <| (U1_of m c main_arg4 (by decide)).trans <| rfl

theorem U10_arg5 (c : Dev nD) : U10 m c main_arg5 = m ((c.tc : Thread nD τ).loc main_arg5) :=
  (U10_of m c main_arg5 (by decide)).trans <| (U9_of m c main_arg5 (by decide)).trans <| (U8_of m c main_arg5 (by decide)).trans <| (U7_of m c main_arg5 (by decide)).trans <| (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide)).trans <| rfl

theorem after_app (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

theorem after_ops (c : Dev nD) : StableHlo.after ops (StableHlo.launchContents m c) = U10 m c := by
  show StableHlo.after (ops0 ++ (ops1 ++ (ops2 ++ (ops3 ++ (ops4 ++ (ops5 ++ (ops6 ++ (ops7 ++ (ops8 ++ (ops9 ++ [])))))))))) _ = _
  rewrite [after_app, after_app, after_app, after_app, after_app, after_app, after_app, after_app, after_app, after_app]
  rfl

/-- From any memory with zero counters every weakly fair execution of the reference terminates, and every final state has
    the arguments as launched, the result at the last valuation's contents and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v59) = U10 m c main_v59) ∧ r.2.sem = fun _ => 0) := by
  refine (θ_run defs _ _).mono (fun r h => ⟨fun c => ?_, sem_eq_zero_of_no_sems (by decide) r.2⟩)
    (StableHlo.run_seq scopedRefs_eq scopedSems_eq defs main (fun _ => ops) main_eq (fun _ => ops_sub) m ρ
      (fun _ => List.forall_iff_forall_mem.1 ops_fresh))
  have k : ∀ b : Ref sig .tc, r.2.mem ((c.tc : Thread nD τ).loc b) = U10 m c b := fun b => by
    rw [h c b, after_ops]
  exact ⟨⟨(k _).trans (U10_arg0 m c), (k _).trans (U10_arg1 m c), (k _).trans (U10_arg2 m c), (k _).trans (U10_arg3 m c),
    (k _).trans (U10_arg4 m c), (k _).trans (U10_arg5 m c)⟩, k _⟩

end Cert.MoeRef
-- ==== Proof.Frames.lean ====
/-
  The three frames: each program ends from any memory, its arguments unchanged and every counter at zero. The kernel's and
  its idealization's are one run, read at the words and at the extended reals.
-/
module

public import proofs.«01_k».proof.Defs
public import proofs.«01_k».proof.Proof.Gen.Kernel
public import proofs.«01_k».proof.Proof.Run
public import proofs.«01_k».proof.Proof.Reference

@[expose] public section

namespace Cert.Proof

open Idealize.ShloMosaic Idealize.SL.Sem

/-- The idealization's frame, at the words: the kernel's own, for the two programs have one text. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

theorem frameAtBits_eq : Cert.quiescent_Kernel = frameAtBits := by chain_rfl

theorem frame_kernel : Cert.quiescent_Kernel := by
  rewrite [frameAtBits_eq]
  exact fun m ρ _ => (θ_run Cert.KernelIdeal.defs _ _).mono (fun _ h => ⟨fun c => (h.1 c).1, h.2⟩) (Cert.Moe.run_main (F := Bits) m ρ)

theorem frame_kernelIdeal : Cert.quiescent_KernelIdeal := fun m ρ _ =>
  (θ_run Cert.KernelIdeal.defs _ _).mono (fun _ h => ⟨fun c => (h.1 c).1, h.2⟩) (Cert.Moe.run_main (F := Ideal) m ρ)

theorem frame_reference : Cert.quiescent_ReferenceIdeal := fun m ρ _ =>
  (θ_run Cert.ReferenceIdeal.defs _ _).mono (fun _ h => ⟨fun c => (h.1 c).1, h.2⟩) (Cert.MoeRef.run_main (F := Ideal) m ρ)

end Cert.Proof
-- ==== Proof.HostRead.lean ====
/-
  What the kernel's host operations compute, each stretch named as a function of what it reads: the group and its
  probability, the gates, the pairs' experts, the places of the pairs in the sorted rows, the rows' tokens.
-/
module

public import proofs.«01_k».proof.Proof.Tables
public import Idealize.ShloMosaic.Lib.Routing.OpsSearch

@[expose] public section

set_option maxRecDepth 8000

noncomputable section

namespace Cert.Moe

open Cert.KernelIdeal Cert.KernelIdeal.Gen
open Idealize.ShloMosaic Idealize.ShloMosaic.TcCoe Idealize.ShloMosaic.Routing

/-! ## The words -/

/-- The pairs' experts: eight times the token's group plus the chosen index within it. -/
def eidOf (grp : IVec S16384 32) (idx : IVec S16384x2 32) : IVec S16384x2 32 :=
  addi (broadcastInDim S16384x2 ![0, 1] bcast_S16384x1_S16384x2_0_1
    (muli (broadcastInDim S16384x1 ![0] bcast_S16384_S16384x1_0 grp)
      (broadcastInDim S16384x1 ![] bcast_S_S16384x1 (constantI S_ 32 8#32)))) idx

/-- The table of which pair goes to which expert. -/
def hotOf (eid : IVec S16384x2 32) : IVec S32768x32 32 :=
  extui 32 (cmpi .eq
    (broadcastInDim S32768x32 ![0, 1] bcast_S32768x1_S32768x32_0_1 (broadcastInDim S32768x1 ![0] bcast_S32768_S32768x1_0
      (shapeCast S32768 eid shapeCasts_S16384x2_S32768)))
    (broadcastInDim S32768x32 ![0, 1] bcast_S1x32_S32768x32_0_1 (broadcastInDim S1x32 ![1] bcast_S32_S1x32_1 (iotaInDim S32 32 0)))) natLt_1_32

/-- The running counts of the pairs of each expert. -/
def seenOf (hot : IVec S32768x32 32) : IVec S32768x32 32 :=
  Host.reduceWindow IntOp.addi ![32768, 1] ![1, 1] ![32767, 0] ![0, 0] hot
    (broadcastInDim S_ ![] bcast_S_S_ (constantI S_ 32 0#32)) reduceWindows_S32768x32_S32768x32_w32768s1p32767_0_w1s1p0_0 h_S_

/-- The experts' counts rounded up: the numerator of the division by a tile's rows. -/
def upOf (seen : IVec S32768x32 32) : IVec S32 32 :=
  subi (addi (shapeCast S32 (extractStridedSlice S1x32 ![32767, 0] seen slices_S32768x32_S1x32_32767_0) shapeCasts_S1x32_S32)
    (broadcastInDim S32 ![] bcast_S_S32 (constantI S_ 32 256#32))) (broadcastInDim S32 ![] bcast_S_S32 (constantI S_ 32 1#32))

/-- The experts' counts rounded up to whole tiles. -/
def padOf (up : IVec S32 32) : IVec S32 32 :=
  muli (pyDiv bcast_S_S32 up (constantI S_ 32 256#32)) (broadcastInDim S32 ![] bcast_S_S32 (constantI S_ 32 256#32))

/-- Where the experts' padded rows end. -/
def endOf (pad : IVec S32 32) : IVec S32 32 :=
  Host.reduceWindow IntOp.addi ![32] ![1] ![31] ![0] pad (broadcastInDim S_ ![] bcast_S_S_ (constantI S_ 32 0#32))
    reduceWindows_S32_S32_w32s1p31_0 h_S_

/-- The places of the pairs in the sorted rows. -/
def destOf (hot seen : IVec S32768x32 32) (pEnd pad : IVec S32 32) : IVec S32768 32 :=
  Host.reduce IntOp.addi
    (muli hot (subi (addi (broadcastInDim S32768x32 ![0, 1] bcast_S1x32_S32768x32_0_1 (broadcastInDim S1x32 ![1] bcast_S32_S1x32_1 (subi pEnd pad))) seen)
      (broadcastInDim S32768x32 ![] bcast_S_S32768x32 (constantI S_ 32 1#32))))
    (constantI S_ 32 0#32) reducesTo_S32768x32_S32768_d1 h_S_

/-- The pairs' tokens. -/
def tokOf : IVec S32768 32 := pyDiv bcast_S_S32768 (iotaInDim S32768 32 0) (constantI S_ 32 2#32)

/-- The rows' tokens: zero where no pair landed. -/
def srcOf (dest : IVec S32768 32) : IVec S40960 32 :=
  Host.scatter scatter_S40960_S32768x1_S32768_n_0_0_1 (fun _ b => b) (broadcastInDim S40960 ![] bcast_S_S40960 (constantI S_ 32 0#32))
    (broadcastInDim S32768x1 ![0] bcast_S32768_S32768x1_0
      (select (cmpi .slt dest (broadcastInDim S32768 ![] bcast_S_S32768 (constantI S_ 32 0#32)))
        (addi dest (broadcastInDim S32768 ![] bcast_S_S32768 (constantI S_ 32 40960#32))) dest)) tokOf

/-- The number of tiles in use. -/
def nUsedOf (pEnd : IVec S32 32) : IVec S_ 32 :=
  pyDiv0 (shapeCast S_ (extractStridedSlice S1 ![31] pEnd slices_S32_S1_31) shapeCasts_S1_S_) (constantI S_ 32 256#32)

/-! ## The gates -/

section Gates
variable {F : FTy → Type} [FloatOps F]

/-- The token's group. -/
def grpOf (gl : FVec F S16384x4 .f32) : IVec S16384 32 := fun j =>
  (Host.argReduce reducer_argmax_f32_i32 gl (iotaInDim S16384x4 32 1) (constant (F := F) S_ .f32 0xFF800000#32) (constantI S_ 32 0#32)
    reducesTo_S16384x4_S16384_d1 h_S_ j).2

/-- The exponentials of the group logits less their largest. -/
def pexpOf (gl : FVec F S16384x4 .f32) : FVec F S16384x4 .f32 :=
  Host.exp (subf gl (broadcastInDim S16384x4 ![0, 1] bcast_S16384x1_S16384x4_0_1 (broadcastInDim S16384x1 ![0] bcast_S16384_S16384x1_0
    (maximumf (broadcastInDim S16384 ![] bcast_S_S16384 (constant (F := F) S_ .f32 0xFF800000#32))
      (Host.reduce FloatOps.maximumf gl (constant (F := F) S_ .f32 0xFF800000#32) reducesTo_S16384x4_S16384_d1 h_S_)))))

/-- The softmax of the group logits. -/
def pallOf (gl : FVec F S16384x4 .f32) : FVec F S16384x4 .f32 :=
  Host.divf (pexpOf gl) (broadcastInDim S16384x4 ![0, 1] bcast_S16384x1_S16384x4_0_1 (broadcastInDim S16384x1 ![0] bcast_S16384_S16384x1_0
    (Host.reduceAdd (pexpOf gl) (constant (F := F) S_ .f32 0x00000000#32) reducesTo_S16384x4_S16384_d1 h_S_)))

/-- The chosen group's probability. -/
def pgOf (gl : FVec F S16384x4 .f32) : FVec F S16384x1 .f32 :=
  broadcastInDim S16384x1 ![0] bcast_S16384_S16384x1_0
    (Host.reduce FloatOps.maximumf (pallOf gl) (constant (F := F) S_ .f32 0xFF800000#32) reducesTo_S16384x4_S16384_d1 h_S_)

/-- The group's index as the selection uses it. -/
def fixOf (g : IVec S16384 32) : IVec S16384x1x1 32 :=
  select (cmpi .slt (broadcastInDim S16384x1x1 ![0] bcast_S16384_S16384x1x1_0 g) (broadcastInDim S16384x1x1 ![] bcast_S_S16384x1x1 (constantI S_ 32 0#32)))
    (addi (broadcastInDim S16384x1x1 ![0] bcast_S16384_S16384x1x1_0 g) (broadcastInDim S16384x1x1 ![] bcast_S_S16384x1x1 (constantI S_ 32 4#32)))
    (broadcastInDim S16384x1x1 ![0] bcast_S16384_S16384x1x1_0 g)

/-- Whether the index is in range. -/
def okOf (i : IVec S16384x1x1 32) : IVec S16384x1 1 :=
  Host.reduce IntOp.andi (andi (cmpi .sge i (broadcastInDim S16384x1x1 ![] bcast_S_S16384x1x1 (constantI S_ 32 0#32)))
    (cmpi .sle i (broadcastInDim S16384x1x1 ![0, 1, 2] bcast_S1x1x1_S16384x1x1_0_1_2 (broadcastInDim S1x1x1 ![2] bcast_S1_S1x1x1_2 (constantI S1 32 3#32)))))
    (constantI S_ 1 1#1) reducesTo_S16384x1x1_S16384x1_d2 h_S_

/-- The expert logits within the token's group. -/
def takeOf (x : FVec F S16384x4x8 .f32) (g : IVec S16384 32) : FVec F S16384x8 .f32 :=
  shapeCast S16384x8 (select (broadcastInDim S16384x1x8 ![0, 1] bcast_S16384x1_S16384x1x8_0_1 (okOf (fixOf g)))
    (Host.gather gather_S16384x4x8_S16384x1x1_S16384x1x8_2_1_0_0_1_2_118 x (fixOf g))
    (broadcastInDim S16384x1x8 ![] bcast_S_S16384x1x8 (constant (F := F) S_ .f32 0x7FC00000#32))) shapeCasts_S16384x1x8_S16384x8

/-- The two largest of them, and their indices. -/
def valOf (x : FVec F S16384x8 .f32) : FVec F S16384x2 .f32 :=
  (Host.topK S16384x2 1 (FloatOps.cmpfTotal .gt) x sliceFits_S16384x8_S16384x2).1
def idxOf (x : FVec F S16384x8 .f32) : IVec S16384x2 32 :=
  (Host.topK S16384x2 1 (FloatOps.cmpfTotal .gt) x sliceFits_S16384x8_S16384x2).2

/-- Their exponentials less the larger, and the gates: their softmax times the group's probability. -/
def wexpOf (v : FVec F S16384x2 .f32) : FVec F S16384x2 .f32 :=
  Host.exp (subf v (broadcastInDim S16384x2 ![0, 1] bcast_S16384x1_S16384x2_0_1 (broadcastInDim S16384x1 ![0] bcast_S16384_S16384x1_0
    (maximumf (broadcastInDim S16384 ![] bcast_S_S16384 (constant (F := F) S_ .f32 0xFF800000#32))
      (Host.reduce FloatOps.maximumf v (constant (F := F) S_ .f32 0xFF800000#32) reducesTo_S16384x2_S16384_d1 h_S_)))))

def gateOf (v : FVec F S16384x2 .f32) (pg : FVec F S16384x1 .f32) : FVec F S16384x2 .f32 :=
  mulf (Host.divf (wexpOf v) (broadcastInDim S16384x2 ![0, 1] bcast_S16384x1_S16384x2_0_1 (broadcastInDim S16384x1 ![0] bcast_S16384_S16384x1_0
    (Host.reduceAdd (wexpOf v) (constant (F := F) S_ .f32 0x00000000#32) reducesTo_S16384x2_S16384_d1 h_S_))))
    (broadcastInDim S16384x2 ![0, 1] bcast_S16384x1_S16384x2_0_1 pg)

/-- The group logits and the expert logits by group. -/
def glOf (l : FVec F S16384x128 .f32) : FVec F S16384x4 .f32 := extractStridedSlice S16384x4 ![0, 0] l slices_S16384x128_S16384x4_0_0
def elOf (l : FVec F S16384x128 .f32) : FVec F S16384x4x8 .f32 :=
  shapeCast S16384x4x8 (extractStridedSlice S16384x32 ![0, 4] l slices_S16384x128_S16384x32_0_4) shapeCasts_S16384x32_S16384x4x8

end Gates

/-! ## The reads -/

section Read
attribute [local irreducible] Host.reduceWindow Host.reduce Host.gather
variable {F : FTy → Type} [FloatOps F] (W : Valuation τ sig (Elt F))

theorem r0_v3 : (StableHlo.after hostOps0 W main_v3 : FVec F S16384x4 .f32) = glOf (W main_arg1 : FVec F S16384x128 .f32) := by
  after_reads_simp; rfl
theorem r0_v0 : (StableHlo.after hostOps0 W main_v0 : FVec F S32x4096x1024 .f32)
    = shapeCast S32x4096x1024 (W main_arg3 : FVec F S1x32x4096x1024 .f32) shapeCasts_S1x32x4096x1024_S32x4096x1024 := by
  after_reads_simp; rfl
theorem r0_v1 : (StableHlo.after hostOps0 W main_v1 : FVec F S32x4096x1024 .f32)
    = shapeCast S32x4096x1024 (W main_arg4 : FVec F S1x32x4096x1024 .f32) shapeCasts_S1x32x4096x1024_S32x4096x1024 := by
  after_reads_simp; rfl
theorem r0_v2 : (StableHlo.after hostOps0 W main_v2 : FVec F S32x1024x4096 .f32)
    = shapeCast S32x1024x4096 (W main_arg5 : FVec F S1x32x1024x4096 .f32) shapeCasts_S1x32x1024x4096_S32x1024x4096 := by
  after_reads_simp; rfl
theorem r1_v4 : (StableHlo.after hostOps0_1 W main_v4 : IVec S16384 32) = grpOf (W main_v3 : FVec F S16384x4 .f32) := by
  after_reads_simp; rfl
theorem r2_v11 : (StableHlo.after hostOps0_2 W main_v11 : FVec F S16384x4 .f32) = pexpOf (W main_v3 : FVec F S16384x4 .f32) := by
  after_reads_simp; rfl
theorem r2_v15 : (StableHlo.after hostOps0_2 W main_v15 : FVec F S16384x4 .f32) = pallOf (W main_v3 : FVec F S16384x4 .f32) := by
  after_reads_simp; rfl
theorem r2_v17 : (StableHlo.after hostOps0_2 W main_v17 : FVec F S16384x1 .f32) = pgOf (W main_v3 : FVec F S16384x4 .f32) := by
  after_reads_simp; rfl
theorem r2_v19 : (StableHlo.after hostOps0_2 W main_v19 : FVec F S16384x4x8 .f32) = elOf (W main_arg1 : FVec F S16384x128 .f32) := by
  after_reads_simp; rfl
theorem r2_v20 : (StableHlo.after hostOps0_2 W main_v20 : IVec S16384x1x1 32)
    = broadcastInDim S16384x1x1 ![0] bcast_S16384_S16384x1x1_0 (W main_v4 : IVec S16384 32) := by
  after_reads_simp
theorem r34_v22 (g : IVec S16384 32) (hg : (W main_v20 : IVec S16384x1x1 32) = broadcastInDim S16384x1x1 ![0] bcast_S16384_S16384x1x1_0 g) :
    shapeCast S16384x8 (StableHlo.after hostOps0_3 W main_v21 : FVec F S16384x1x8 .f32) shapeCasts_S16384x1x8_S16384x8
      = takeOf (W main_v19 : FVec F S16384x4x8 .f32) g := by
  unfold takeOf okOf fixOf
  rw [← hg]
  after_reads_simp; rfl
theorem r4_v35 : (StableHlo.after hostOps0_4 W main_v35 : FVec F S16384x2 .f32)
    = gateOf (valOf (shapeCast S16384x8 (W main_v21 : FVec F S16384x1x8 .f32) shapeCasts_S16384x1x8_S16384x8)) (W main_v17 : FVec F S16384x1 .f32) := by
  after_reads_simp; rfl
theorem r4_v40 : (StableHlo.after hostOps0_4 W main_v40 : IVec S16384x2 32)
    = eidOf (W main_v4 : IVec S16384 32) (idxOf (shapeCast S16384x8 (W main_v21 : FVec F S16384x1x8 .f32) shapeCasts_S16384x1x8_S16384x8)) := by
  after_reads_simp; rfl
theorem r4_v48 : (StableHlo.after hostOps0_4 W main_v48 : IVec S32768x32 32)
    = hotOf (eidOf (W main_v4 : IVec S16384 32) (idxOf (shapeCast S16384x8 (W main_v21 : FVec F S16384x1x8 .f32) shapeCasts_S16384x1x8_S16384x8))) := by
  after_reads_simp; rfl
theorem r5_v49 : (StableHlo.after hostOps0_5 W main_v49 : IVec S32768x32 32) = seenOf (W main_v48 : IVec S32768x32 32) := by
  after_reads_simp; rfl
theorem r6_v55 : (StableHlo.after hostOps0_6 W main_v55 : IVec S32 32) = upOf (W main_v49 : IVec S32768x32 32) := by
  after_reads_simp; rfl
theorem r6_c8 : (StableHlo.after hostOps0_6 W main_c_8 : IVec S_ 32) = constantI S_ 32 256#32 := by
  after_reads_simp
theorem r7_v56 : (StableHlo.after hostOps0_7 W main_v56 : IVec S32 32) = pyDiv bcast_S_S32 (W main_v55 : IVec S32 32) (W main_c_8 : IVec S_ 32) := by
  after_reads_simp; rfl
theorem r8_v58 : (StableHlo.after hostOps0_8 W main_v58 : IVec S32 32)
    = muli (W main_v56 : IVec S32 32) (broadcastInDim S32 ![] bcast_S_S32 (constantI S_ 32 256#32)) := by
  after_reads_simp
theorem r9_v59 : (StableHlo.after hostOps0_9 W main_v59 : IVec S32 32) = endOf (W main_v58 : IVec S32 32) := by
  after_reads_simp; rfl
theorem r10_v67 : (StableHlo.after hostOps0_10 W main_v67 : IVec S32768 32)
    = destOf (W main_v48 : IVec S32768x32 32) (W main_v49 : IVec S32768x32 32) (W main_v59 : IVec S32 32) (W main_v58 : IVec S32 32) := by
  after_reads_simp; rfl
theorem r10_v68 : (StableHlo.after hostOps0_10 W main_v68 : IVec S40960 32) = broadcastInDim S40960 ![] bcast_S_S40960 (constantI S_ 32 0#32) := by
  after_reads_simp
theorem r10_v69 : (StableHlo.after hostOps0_10 W main_v69 : IVec S32768 32) = iotaInDim S32768 32 0 := by
  after_reads_simp
theorem r10_c13 : (StableHlo.after hostOps0_10 W main_c_13 : IVec S_ 32) = constantI S_ 32 2#32 := by
  after_reads_simp
theorem r11_v70 : (StableHlo.after hostOps0_11 W main_v70 : IVec S32768 32)
    = pyDiv bcast_S_S32768 (W main_v69 : IVec S32768 32) (W main_c_13 : IVec S_ 32) := by
  after_reads_simp; rfl
theorem r12_v77 (h68 : (W main_v68 : IVec S40960 32) = broadcastInDim S40960 ![] bcast_S_S40960 (constantI S_ 32 0#32))
    (h70 : (W main_v70 : IVec S32768 32) = tokOf) :
    (StableHlo.after hostOps0_12 W main_v77 : IVec S40960 32) = srcOf (W main_v67 : IVec S32768 32) := by
  unfold srcOf
  rw [← h68, ← h70]
  after_reads_simp
theorem r12_v79 : (StableHlo.after hostOps0_12 W main_v79 : IVec S_ 32)
    = shapeCast S_ (extractStridedSlice S1 ![31] (W main_v59 : IVec S32 32) slices_S32_S1_31) shapeCasts_S1_S_ := by
  after_reads_simp; rfl
theorem r12_c16 : (StableHlo.after hostOps0_12 W main_c_16 : IVec S_ 32) = constantI S_ 32 256#32 := by
  after_reads_simp
theorem r13_v80 : (StableHlo.after hostOps0_13 W main_v80 : IVec S_ 32) = pyDiv0 (W main_v79 : IVec S_ 32) (W main_c_16 : IVec S_ 32) := by
  after_reads_simp; rfl
theorem r16_v104 : (StableHlo.after hostOps0_16 W main_v104 : IVec S16384x2 32)
    = shapeCast S16384x2 (W main_v67 : IVec S32768 32) shapeCasts_S32768_S16384x2 := by
  after_reads_simp; rfl
theorem r16_v105 : (StableHlo.after hostOps0_16 W main_v105 : IVec S1 32) = shapeCast S1 (W main_v80 : IVec S_ 32) shapeCasts_S_S1 := by
  after_reads_simp; rfl

/-- The rows' activations: the gather of the tokens' rows. -/
def rowsOf (x : FVec F S16384x4096 .bf16) (src : IVec S40960 32) : FVec F S40960x4096 .bf16 :=
  Host.gather gather_S16384x4096_S40960x1_S40960x4096_1_0_n_n_0_1_14096 x
    (broadcastInDim S40960x1 ![0] bcast_S40960_S40960x1_0
      (select (cmpi .slt src (broadcastInDim S40960 ![] bcast_S_S40960 (constantI S_ 32 0#32)))
        (addi src (broadcastInDim S40960 ![] bcast_S_S40960 (constantI S_ 32 16384#32))) src))

theorem r16_v112 : (StableHlo.after hostOps0_16 W main_v112 : FVec F S40960x4096 .bf16)
    = rowsOf (W main_arg0 : FVec F S16384x4096 .bf16) (W main_v77 : IVec S40960 32) := by
  after_reads_simp; rfl

end Read

end Cert.Moe
-- ==== Proof.KernelRead.lean ====
/-
  The kernel's host buffers as functions of its arguments: the stretches' reads put end to end.
-/
module

public import proofs.«01_k».proof.Proof.HostRead
public import proofs.«01_k».proof.Proof.Run
public import Idealize.ShloMosaic.Lib.Pointwise

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx

section Defs
variable {F : FTy → Type} [FloatOps F]

/-- The token's group, its expert logits, its gates and its two experts, from the logits. -/
def grpL (l : FVec F S16384x128 .f32) : IVec S16384 32 := grpOf (glOf l)
def selL (l : FVec F S16384x128 .f32) : FVec F S16384x8 .f32 := takeOf (elOf l) (grpL l)
def gateL (l : FVec F S16384x128 .f32) : FVec F S16384x2 .f32 := gateOf (valOf (selL l)) (pgOf (glOf l))
def eidL (l : FVec F S16384x128 .f32) : IVec S16384x2 32 := eidOf (grpL l) (idxOf (selL l))
/-- The padded counts, their ends and the pairs' places. -/
def padL (l : FVec F S16384x128 .f32) : IVec S32 32 := padOf (upOf (seenOf (hotOf (eidL l))))
def endL (l : FVec F S16384x128 .f32) : IVec S32 32 := endOf (padL l)
def destL (l : FVec F S16384x128 .f32) : IVec S32768 32 := destOf (hotOf (eidL l)) (seenOf (hotOf (eidL l))) (endL l) (padL l)

/-- The rows read back by the pairs of one column. -/
def backOf (rows : FVec F S40960x4096 .bf16) (pos : IVec S16384 32) : FVec F S16384x4096 .bf16 :=
  Host.gather gather_S40960x4096_S16384x1_S16384x4096_1_0_n_n_0_1_14096 rows
    (broadcastInDim S16384x1 ![0] bcast_S16384_S16384x1_0
      (select (cmpi .slt pos (broadcastInDim S16384 ![] bcast_S_S16384 (constantI S_ 32 0#32)))
        (addi pos (broadcastInDim S16384 ![] bcast_S_S16384 (constantI S_ 32 40960#32))) pos))

/-- The residual plus the two gated rows. -/
def outOf (h1 : FVec F S16384x4096 .f32) (g : FVec F S16384x2 .f32) (pos : IVec S16384x2 32) (rows : FVec F S40960x4096 .bf16) : FVec F S1x16384x4096 .f32 :=
  broadcastInDim S1x16384x4096 ![1, 2] bcast_S16384x4096_S1x16384x4096_1_2
    (addf h1 (addf
      (mulf (broadcastInDim S16384x4096 ![0, 1] bcast_S16384x1_S16384x4096_0_1 (extractStridedSlice S16384x1 ![0, 0] g slices_S16384x2_S16384x1_0_0))
        (extf .f32 (backOf rows (shapeCast S16384 (extractStridedSlice S16384x1 ![0, 0] pos slices_S16384x2_S16384x1_0_0) shapeCasts_S16384x1_S16384)) bitsLt_bf16_f32))
      (mulf (broadcastInDim S16384x4096 ![0, 1] bcast_S16384x1_S16384x4096_0_1 (extractStridedSlice S16384x1 ![0, 1] g slices_S16384x2_S16384x1_0_1))
        (extf .f32 (backOf rows (shapeCast S16384 (extractStridedSlice S16384x1 ![0, 1] pos slices_S16384x2_S16384x1_0_1) shapeCasts_S16384x1_S16384)) bitsLt_bf16_f32))))

attribute [local irreducible] Host.reduceWindow Host.reduce Host.gather in
theorem r20_v143 (W : Valuation τ sig (Elt F)) : (StableHlo.after hostOps2 W main_v143 : FVec F S1x16384x4096 .f32)
    = outOf (W main_arg2 : FVec F S16384x4096 .f32) (W main_v35 : FVec F S16384x2 .f32) (W main_v104 : IVec S16384x2 32) (W main_v114 : FVec F S40960x4096 .bf16) := by
  after_reads_simp; rfl

end Defs

section Chain
variable {F : FTy → Type} [FloatOps F] (m : (ℓ : Loc nD τ sig) → Buf (Elt F) ℓ) (c : Dev nD)

abbrev arg0 : FVec F S16384x4096 .bf16 := V0 m c main_arg0
abbrev arg1 : FVec F S16384x128 .f32 := V0 m c main_arg1
abbrev arg2 : FVec F S16384x4096 .f32 := V0 m c main_arg2
abbrev arg3 : FVec F S1x32x4096x1024 .f32 := V0 m c main_arg3
abbrev arg4 : FVec F S1x32x4096x1024 .f32 := V0 m c main_arg4
abbrev arg5 : FVec F S1x32x1024x4096 .f32 := V0 m c main_arg5

theorem k_v3 : (V1 m c main_v3 : FVec F S16384x4 .f32) = glOf (arg1 m c) := r0_v3 (V0 m c)
theorem k_v4 : (V2 m c main_v4 : IVec S16384 32) = grpL (F := F) (arg1 m c) := (r1_v4 (V1 m c)).trans (congrArg grpOf (k_v3 m c))
theorem k_v3' : (V2 m c main_v3 : FVec F S16384x4 .f32) = glOf (arg1 m c) := (V2_of m c main_v3 (by decide)).trans (k_v3 m c)
theorem k_v17 : (V3 m c main_v17 : FVec F S16384x1 .f32) = pgOf (glOf (arg1 m c)) := (r2_v17 (V2 m c)).trans (congrArg pgOf (k_v3' m c))
theorem k_arg1 : (V2 m c main_arg1 : FVec F S16384x128 .f32) = arg1 m c := (V2_of m c main_arg1 (by decide)).trans (V1_of m c main_arg1 (by decide))
theorem k_v19 : (V3 m c main_v19 : FVec F S16384x4x8 .f32) = elOf (arg1 m c) := (r2_v19 (V2 m c)).trans (congrArg elOf (k_arg1 m c))
theorem k_v20 : (V3 m c main_v20 : IVec S16384x1x1 32) = broadcastInDim S16384x1x1 ![0] bcast_S16384_S16384x1x1_0 (grpL (F := F) (arg1 m c)) := by
  refine (r2_v20 (V2 m c)).trans ?_
  rw [k_v4 m c]
theorem k_v22 : shapeCast S16384x8 (V4 m c main_v21 : FVec F S16384x1x8 .f32) shapeCasts_S16384x1x8_S16384x8 = selL (F := F) (arg1 m c) :=
  (r34_v22 (V3 m c) (grpL (F := F) (arg1 m c)) (k_v20 m c)).trans (congrArg (fun x => takeOf x (grpL (F := F) (arg1 m c))) (k_v19 m c))
theorem k_v35 : (V5 m c main_v35 : FVec F S16384x2 .f32) = gateL (F := F) (arg1 m c) := by
  refine (r4_v35 (V4 m c)).trans ?_
  have h : (V4 m c main_v17 : FVec F S16384x1 .f32) = pgOf (glOf (arg1 m c)) := (V4_of m c main_v17 (by decide)).trans (k_v17 m c)
  rw [k_v22 m c, h]; rfl
theorem k_v4' : (V4 m c main_v4 : IVec S16384 32) = grpL (F := F) (arg1 m c) :=
  (V4_of m c main_v4 (by decide)).trans ((V3_of m c main_v4 (by decide)).trans (k_v4 m c))
theorem k_v48 : (V5 m c main_v48 : IVec S32768x32 32) = hotOf (eidL (F := F) (arg1 m c)) := by
  refine (r4_v48 (V4 m c)).trans ?_
  rw [k_v22 m c, k_v4' m c]; rfl
theorem k_v49 : (V6 m c main_v49 : IVec S32768x32 32) = seenOf (hotOf (eidL (F := F) (arg1 m c))) :=
  (r5_v49 (V5 m c)).trans (congrArg seenOf (k_v48 m c))
theorem k_v55 : (V7 m c main_v55 : IVec S32 32) = upOf (seenOf (hotOf (eidL (F := F) (arg1 m c)))) :=
  (r6_v55 (V6 m c)).trans (congrArg upOf (k_v49 m c))
theorem k_v56 : (V8 m c main_v56 : IVec S32 32) = pyDiv bcast_S_S32 (upOf (seenOf (hotOf (eidL (F := F) (arg1 m c))))) (constantI S_ 32 256#32) := by
  refine (r7_v56 (V7 m c)).trans ?_
  rw [show (V7 m c main_c_8 : IVec S_ 32) = _ from r6_c8 (V6 m c), k_v55 m c]
theorem k_v58 : (V9 m c main_v58 : IVec S32 32) = padL (F := F) (arg1 m c) := by
  refine (r8_v58 (V8 m c)).trans ?_
  rw [k_v56 m c]; rfl
theorem k_v59 : (V10 m c main_v59 : IVec S32 32) = endL (F := F) (arg1 m c) := (r9_v59 (V9 m c)).trans (congrArg endOf (k_v58 m c))
theorem k_v67 : (V11 m c main_v67 : IVec S32768 32) = destL (F := F) (arg1 m c) := by
  refine (r10_v67 (V10 m c)).trans ?_
  have h48 : (V10 m c main_v48 : IVec S32768x32 32) = hotOf (eidL (F := F) (arg1 m c)) :=
    (V10_of m c main_v48 (by decide)).trans ((V9_of m c main_v48 (by decide)).trans ((V8_of m c main_v48 (by decide)).trans
      ((V7_of m c main_v48 (by decide)).trans ((V6_of m c main_v48 (by decide)).trans (k_v48 m c)))))
  have h49 : (V10 m c main_v49 : IVec S32768x32 32) = seenOf (hotOf (eidL (F := F) (arg1 m c))) :=
    (V10_of m c main_v49 (by decide)).trans ((V9_of m c main_v49 (by decide)).trans ((V8_of m c main_v49 (by decide)).trans
      ((V7_of m c main_v49 (by decide)).trans (k_v49 m c))))
  have h58 : (V10 m c main_v58 : IVec S32 32) = padL (F := F) (arg1 m c) := (V10_of m c main_v58 (by decide)).trans (k_v58 m c)
  rw [h48, h49, h58, k_v59 m c]; rfl
theorem k_v70 : (V12 m c main_v70 : IVec S32768 32) = tokOf := by
  refine (r11_v70 (V11 m c)).trans ?_
  rw [show (V11 m c main_v69 : IVec S32768 32) = _ from r10_v69 (V10 m c), show (V11 m c main_c_13 : IVec S_ 32) = _ from r10_c13 (V10 m c)]; rfl
theorem k_v77 : (V13 m c main_v77 : IVec S40960 32) = srcOf (destL (F := F) (arg1 m c)) :=
  (r12_v77 (V12 m c) ((V12_of m c main_v68 (by decide)).trans (r10_v68 (V10 m c))) (k_v70 m c)).trans
    (congrArg srcOf ((V12_of m c main_v67 (by decide)).trans (k_v67 m c)))
theorem k_v59' : (V12 m c main_v59 : IVec S32 32) = endL (F := F) (arg1 m c) :=
  (V12_of m c main_v59 (by decide)).trans ((V11_of m c main_v59 (by decide)).trans (k_v59 m c))
theorem k_v80 : (V14 m c main_v80 : IVec S_ 32) = nUsedOf (endL (F := F) (arg1 m c)) := by
  refine (r13_v80 (V13 m c)).trans ?_
  rw [show (V13 m c main_v79 : IVec S_ 32) = _ from r12_v79 (V12 m c), show (V13 m c main_c_16 : IVec S_ 32) = _ from r12_c16 (V12 m c), k_v59' m c]; rfl
theorem k_v103 : (V17 m c main_v103 : TeT) = teOf (endL (F := F) (arg1 m c)) (nUsedOf (endL (F := F) (arg1 m c))) := by
  refine (te_V17 m c).trans ?_
  rw [k_v80 m c, show (V14 m c main_v59 : IVec S32 32) = endL (F := F) (arg1 m c) from
    (V14_of m c main_v59 (by decide)).trans ((V13_of m c main_v59 (by decide)).trans (k_v59' m c))]
theorem k_v104 : (V17 m c main_v104 : IVec S16384x2 32) = shapeCast S16384x2 (destL (F := F) (arg1 m c)) shapeCasts_S32768_S16384x2 := by
  refine (r16_v104 (V16 m c)).trans (congrArg (fun x => shapeCast S16384x2 x shapeCasts_S32768_S16384x2) ?_)
  exact (V16_of m c main_v67 (by decide)).trans ((V15_of m c main_v67 (by decide)).trans ((V14_of m c main_v67 (by decide)).trans
    ((V13_of m c main_v67 (by decide)).trans ((V12_of m c main_v67 (by decide)).trans (k_v67 m c)))))
theorem k_v105 : (V17 m c main_v105 : IVec S1 32) = shapeCast S1 (nUsedOf (endL (F := F) (arg1 m c))) shapeCasts_S_S1 := by
  refine (r16_v105 (V16 m c)).trans (congrArg (fun x => shapeCast S1 x shapeCasts_S_S1) ?_)
  exact (V16_of m c main_v80 (by decide)).trans ((V15_of m c main_v80 (by decide)).trans (k_v80 m c))
theorem k_arg0 : (V16 m c main_arg0 : FVec F S16384x4096 .bf16) = arg0 m c :=
  (V16_of m c main_arg0 (by decide)).trans ((V15_of m c main_arg0 (by decide)).trans ((V14_of m c main_arg0 (by decide)).trans
    ((V13_of m c main_arg0 (by decide)).trans ((V12_of m c main_arg0 (by decide)).trans ((V11_of m c main_arg0 (by decide)).trans
    ((V10_of m c main_arg0 (by decide)).trans ((V9_of m c main_arg0 (by decide)).trans ((V8_of m c main_arg0 (by decide)).trans
    ((V7_of m c main_arg0 (by decide)).trans ((V6_of m c main_arg0 (by decide)).trans ((V5_of m c main_arg0 (by decide)).trans
    ((V4_of m c main_arg0 (by decide)).trans ((V3_of m c main_arg0 (by decide)).trans ((V2_of m c main_arg0 (by decide)).trans
    (V1_of m c main_arg0 (by decide))))))))))))))))
theorem k_v112 : (V17 m c main_v112 : FVec F S40960x4096 .bf16) = rowsOf (arg0 m c) (srcOf (destL (F := F) (arg1 m c))) := by
  refine (r16_v112 (V16 m c)).trans ?_
  rw [k_arg0 m c, show (V16 m c main_v77 : IVec S40960 32) = _ from
    (V16_of m c main_v77 (by decide)).trans ((V15_of m c main_v77 (by decide)).trans ((V14_of m c main_v77 (by decide)).trans (k_v77 m c)))]

/-- A buffer only the first stretch writes. -/
theorem k_back (r : Ref sig .tc) (h1 : r ∉ hostOps0_1_W) (h2 : r ∉ hostOps0_2_W) (h3 : r ∉ hostOps0_3_W) (h4 : r ∉ hostOps0_4_W) (h5 : r ∉ hostOps0_5_W)
    (h6 : r ∉ hostOps0_6_W) (h7 : r ∉ hostOps0_7_W) (h8 : r ∉ hostOps0_8_W) (h9 : r ∉ hostOps0_9_W) (h10 : r ∉ hostOps0_10_W) (h11 : r ∉ hostOps0_11_W)
    (h12 : r ∉ hostOps0_12_W) (h13 : r ∉ hostOps0_13_W) (h14 : r ∉ hostOps0_14_W) (h15 : r ∉ hostOps0_15_W) (h16 : r ∉ hostOps0_16_W) :
    V17 m c r = V1 m c r :=
  (V17_of m c r h16).trans ((V16_of m c r h15).trans ((V15_of m c r h14).trans ((V14_of m c r h13).trans ((V13_of m c r h12).trans ((V12_of m c r h11).trans
    ((V11_of m c r h10).trans ((V10_of m c r h9).trans ((V9_of m c r h8).trans ((V8_of m c r h7).trans ((V7_of m c r h6).trans ((V6_of m c r h5).trans
    ((V5_of m c r h4).trans ((V4_of m c r h3).trans ((V3_of m c r h2).trans (V2_of m c r h1)))))))))))))))

theorem k_v0 : (V17 m c main_v0 : FVec F S32x4096x1024 .f32) = shapeCast S32x4096x1024 (arg3 m c) shapeCasts_S1x32x4096x1024_S32x4096x1024 :=
  (k_back m c main_v0 (by decide) (by decide) (by decide) (by decide) (by decide) (by decide) (by decide) (by decide) (by decide) (by decide) (by decide) (by decide) (by decide) (by decide) (by decide) (by decide)).trans (r0_v0 (V0 m c))
theorem k_v1 : (V17 m c main_v1 : FVec F S32x4096x1024 .f32) = shapeCast S32x4096x1024 (arg4 m c) shapeCasts_S1x32x4096x1024_S32x4096x1024 :=
  (k_back m c main_v1 (by decide) (by decide) (by decide) (by decide) (by decide) (by decide) (by decide) (by decide) (by decide) (by decide) (by decide) (by decide) (by decide) (by decide) (by decide) (by decide)).trans (r0_v1 (V0 m c))
theorem k_v2 : (V17 m c main_v2 : FVec F S32x1024x4096 .f32) = shapeCast S32x1024x4096 (arg5 m c) shapeCasts_S1x32x1024x4096_S32x1024x4096 :=
  (k_back m c main_v2 (by decide) (by decide) (by decide) (by decide) (by decide) (by decide) (by decide) (by decide) (by decide) (by decide) (by decide) (by decide) (by decide) (by decide) (by decide) (by decide)).trans (r0_v2 (V0 m c))
theorem k_arg2 : (V17 m c main_arg2 : FVec F S16384x4096 .f32) = arg2 m c :=
  (k_back m c main_arg2 (by decide) (by decide) (by decide) (by decide) (by decide) (by decide) (by decide) (by decide) (by decide) (by decide) (by decide) (by decide) (by decide) (by decide) (by decide) (by decide)).trans (V1_of m c main_arg2 (by decide))
theorem k_v35' : (V17 m c main_v35 : FVec F S16384x2 .f32) = gateL (F := F) (arg1 m c) :=
  (V17_of m c main_v35 (by decide)).trans ((V16_of m c main_v35 (by decide)).trans ((V15_of m c main_v35 (by decide)).trans ((V14_of m c main_v35 (by decide)).trans
    ((V13_of m c main_v35 (by decide)).trans ((V12_of m c main_v35 (by decide)).trans ((V11_of m c main_v35 (by decide)).trans ((V10_of m c main_v35 (by decide)).trans
    ((V9_of m c main_v35 (by decide)).trans ((V8_of m c main_v35 (by decide)).trans ((V7_of m c main_v35 (by decide)).trans ((V6_of m c main_v35 (by decide)).trans (k_v35 m c))))))))))))

/-- The kernel's result, from the rows' array. -/
theorem k_out : (V20 m (outs m) c main_v143 : FVec F S1x16384x4096 .f32)
    = outOf (arg2 m c) (gateL (F := F) (arg1 m c)) (shapeCast S16384x2 (destL (F := F) (arg1 m c)) shapeCasts_S32768_S16384x2) (downArr m c : FVec F S40960x4096 .bf16) := by
  refine (r20_v143 (V19 m (outs m) c)).trans ?_
  rw [V19_eq]
  have e2 : (W19 m c main_arg2 : FVec F S16384x4096 .f32) = arg2 m c :=
    (W19_of m c _ (StableHlo.devRef_ne_of_ne (by decide))).trans ((W18_of m c _ (StableHlo.devRef_ne_of_ne (by decide))).trans (k_arg2 m c))
  have e35 : (W19 m c main_v35 : FVec F S16384x2 .f32) = gateL (F := F) (arg1 m c) :=
    (W19_of m c _ (StableHlo.devRef_ne_of_ne (by decide))).trans ((W18_of m c _ (StableHlo.devRef_ne_of_ne (by decide))).trans (k_v35' m c))
  have e104 : (W19 m c main_v104 : IVec S16384x2 32) = shapeCast S16384x2 (destL (F := F) (arg1 m c)) shapeCasts_S32768_S16384x2 :=
    (W19_of m c _ (StableHlo.devRef_ne_of_ne (by decide))).trans ((W18_of m c _ (StableHlo.devRef_ne_of_ne (by decide))).trans (k_v104 m c))
  rw [e2, e35, e104, W19_self]

end Chain

end Cert.Moe
-- ==== Proof.RefRead.lean ====
/-
  What the reference's operations compute, each stretch named as a function of what it reads. Where the reference and the
  kernel spell the same operations the kernel's name is used.
-/
module

public import proofs.«01_k».proof.Proof.Reference
public import proofs.«01_k».proof.Proof.KernelRead

@[expose] public section

set_option maxRecDepth 8000

noncomputable section

namespace Cert.MoeRef

open Cert.ReferenceIdeal Cert.ReferenceIdeal.Gen
open Idealize.ShloMosaic Idealize.ShloMosaic.TcCoe

section Defs
variable {F : FTy → Type} [FloatOps F]

/-- The token's group as a row of zeros and a one. -/
def hotG (g : IVec S16384 32) : FVec F S16384x4 .f32 :=
  uitofp .f32 (cmpi .eq
    (broadcastInDim S16384x4 ![0, 1] bcast_S16384x1_S16384x4_0_1 (broadcastInDim S16384x1 ![0] bcast_S16384_S16384x1_0 g))
    (broadcastInDim S16384x4 ![0, 1] bcast_S1x4_S16384x4_0_1 (iotaInDim S1x4 32 1)))

/-- The expert logits of the token's group, as a contraction with that row. -/
def selOf (el : FVec F S16384x4x8 .f32) (hot : FVec F S16384x4 .f32) : FVec F S16384x8 .f32 :=
  Host.dotGeneral dot_S16384x4x8_S16384x4_S16384x8_1_1_2_n_0_0 none el hot

/-- The pairs' experts as rows of zeros and a one. -/
def hotE (eid : IVec S16384x2 32) : FVec F S16384x2x32 .f32 :=
  uitofp .f32 (cmpi .eq
    (broadcastInDim S16384x2x32 ![0, 1, 2] bcast_S16384x2x1_S16384x2x32_0_1_2 (broadcastInDim S16384x2x1 ![0, 1] bcast_S16384x2_S16384x2x1_0_1 eid))
    (broadcastInDim S16384x2x32 ![0, 1, 2] bcast_S1x1x32_S16384x2x32_0_1_2 (iotaInDim S1x1x32 32 2)))

/-- The token's weight of each expert. -/
def combOf (hot : FVec F S16384x2x32 .f32) (g : FVec F S16384x2 .f32) : FVec F S16384x32 .f32 :=
  Host.reduceAdd (mulf hot (broadcastInDim S16384x2x32 ![0, 1, 2] bcast_S16384x2x1_S16384x2x32_0_1_2 (broadcastInDim S16384x2x1 ![0, 1] bcast_S16384x2_S16384x2x1_0_1 g)))
    (constant (F := F) S_ .f32 0x00000000#32) reducesTo_S16384x2x32_S16384x32_d1 h_S_

/-- The tokens through one of the experts' first matrices. -/
def preOf (w : FVec F S1x32x4096x1024 .f32) (x : FVec F S16384x4096 .f32) : FVec F S32x1024x16384 .f32 :=
  Host.dotGeneral dot_S32x4096x1024_S16384x4096_S32x1024x16384_1_1_02_0_n_n none (shapeCast S32x4096x1024 w shapeCasts_S1x32x4096x1024_S32x4096x1024) x

def turnOf (x : FVec F S32x1024x16384 .f32) : FVec F S32x16384x1024 .f32 :=
  transpose S32x16384x1024 [0, 2, 1] x transposes_S32x1024x16384_S32x16384x1024_0_2_1

def siluOf (x : FVec F S32x16384x1024 .f32) : FVec F S32x16384x1024 .f32 :=
  mulf x (Host.divf (broadcastInDim S32x16384x1024 ![] bcast_S_S32x16384x1024 (constant (F := F) S_ .f32 0x3F800000#32))
    (addf (broadcastInDim S32x16384x1024 ![] bcast_S_S32x16384x1024 (constant (F := F) S_ .f32 0x3F800000#32)) (Host.exp (Host.negf x))))

/-- The reference's result from the activations, the weights and the residual. -/
def outR (s : FVec F S32x16384x1024 .f32) (u : FVec F S32x1024x16384 .f32) (cb : FVec F S16384x32 .f32) (w : FVec F S1x32x1024x4096 .f32)
    (h : FVec F S16384x4096 .f32) : FVec F S1x16384x4096 .f32 :=
  broadcastInDim S1x16384x4096 ![1, 2] bcast_S16384x4096_S1x16384x4096_1_2
    (addf h (Host.reduceAdd
      (Host.dotGeneral dot_S32x16384x1024_S32x1024x4096_S32x16384x4096_2_1_1_2_0_0 none
        (mulf (mulf s (turnOf u)) (broadcastInDim S32x16384x1024 ![0, 1, 2] bcast_S32x16384x1_S32x16384x1024_0_1_2
          (broadcastInDim S32x16384x1 ![0, 1] bcast_S32x16384_S32x16384x1_0_1 (transpose S32x16384 [1, 0] cb transposes_S16384x32_S32x16384_1_0))))
        (shapeCast S32x1024x4096 w shapeCasts_S1x32x1024x4096_S32x1024x4096))
      (constant (F := F) S_ .f32 0x00000000#32) reducesTo_S32x16384x4096_S16384x4096_d0 h_S_))

end Defs

section Reads
variable {F : FTy → Type} [FloatOps F] (W : Valuation τ sig (Elt F))

attribute [local irreducible] Host.reduceWindow Host.reduce Host.gather

theorem r0_v0 : (StableHlo.after ops0 W main_v0 : FVec F S16384x4096 .f32) = extf .f32 (W main_arg0 : FVec F S16384x4096 .bf16) bitsLt_bf16_f32 := by
  after_reads_simp
theorem r0_v1 : (StableHlo.after ops0 W main_v1 : FVec F S16384x4 .f32) = Cert.Moe.glOf (W main_arg1 : FVec F S16384x128 .f32) := by
  after_reads_simp; rfl
theorem r1_v2 : (StableHlo.after ops1 W main_v2 : IVec S16384 32) = Cert.Moe.grpOf (W main_v1 : FVec F S16384x4 .f32) := by
  after_reads_simp; rfl
theorem r2_v15 : (StableHlo.after ops2 W main_v15 : FVec F S16384x1 .f32) = Cert.Moe.pgOf (W main_v1 : FVec F S16384x4 .f32) := by
  after_reads_simp; rfl
theorem r2_v17 : (StableHlo.after ops2 W main_v17 : FVec F S16384x4x8 .f32) = Cert.Moe.elOf (W main_arg1 : FVec F S16384x128 .f32) := by
  after_reads_simp; rfl
theorem r3_v18 : (StableHlo.after ops3 W main_v18 : FVec F S16384x4 .f32) = hotG (W main_v2 : IVec S16384 32) := by
  after_reads_simp; rfl
theorem r4_v32 : (StableHlo.after ops4 W main_v32 : FVec F S16384x2 .f32)
    = Cert.Moe.gateOf (Cert.Moe.valOf (selOf (W main_v17 : FVec F S16384x4x8 .f32) (W main_v18 : FVec F S16384x4 .f32))) (W main_v15 : FVec F S16384x1 .f32) := by
  after_reads_simp; rfl
theorem r4_v37 : (StableHlo.after ops4 W main_v37 : IVec S16384x2 32)
    = Cert.Moe.eidOf (W main_v2 : IVec S16384 32) (Cert.Moe.idxOf (selOf (W main_v17 : FVec F S16384x4x8 .f32) (W main_v18 : FVec F S16384x4 .f32))) := by
  after_reads_simp; rfl
theorem r5_v38 : (StableHlo.after ops5 W main_v38 : FVec F S16384x2x32 .f32) = hotE (W main_v37 : IVec S16384x2 32) := by
  after_reads_simp; rfl
theorem r6_v42 : (StableHlo.after ops6 W main_v42 : FVec F S16384x32 .f32)
    = combOf (W main_v38 : FVec F S16384x2x32 .f32) (W main_v32 : FVec F S16384x2 .f32) := by
  after_reads_simp; rfl
theorem r6_v45 : (StableHlo.after ops6 W main_v45 : FVec F S32x16384x1024 .f32)
    = turnOf (preOf (W main_arg3 : FVec F S1x32x4096x1024 .f32) (W main_v0 : FVec F S16384x4096 .f32)) := by
  after_reads_simp; rfl
theorem r7_v46 : (StableHlo.after ops7 W main_v46 : FVec F S32x16384x1024 .f32) = siluOf (W main_v45 : FVec F S32x16384x1024 .f32) := by
  after_reads_simp; rfl
theorem r8_v48 : (StableHlo.after ops8 W main_v48 : FVec F S32x1024x16384 .f32)
    = preOf (W main_arg4 : FVec F S1x32x4096x1024 .f32) (W main_v0 : FVec F S16384x4096 .f32) := by
  after_reads_simp; rfl
theorem r9_v59 : (StableHlo.after ops9 W main_v59 : FVec F S1x16384x4096 .f32)
    = outR (W main_v46 : FVec F S32x16384x1024 .f32) (W main_v48 : FVec F S32x1024x16384 .f32) (W main_v42 : FVec F S16384x32 .f32)
        (W main_arg5 : FVec F S1x32x1024x4096 .f32) (W main_arg2 : FVec F S16384x4096 .f32) := by
  after_reads_simp; rfl

end Reads

end Cert.MoeRef
-- ==== Proof.RefValue.lean ====
/-
  The reference's result as a function of its arguments, and its value at an index.
-/
module

public import proofs.«01_k».proof.Proof.RefRead
public import Idealize.ShloMosaic.Lib.Pointwise
public import Idealize.ShloMosaic.Lib.Routing.OpsSearch

@[expose] public section

set_option maxRecDepth 8000

noncomputable section

namespace Cert.MoeRef

open Cert.ReferenceIdeal Cert.ReferenceIdeal.Gen
open Idealize.ShloMosaic hiding ix0 ix1 ix2 ix3
open Idealize.ShloMosaic.TcCoe Idealize.ShloMosaic.ValueIdx Idealize.ShloMosaic.WordCmp

section Chain
variable {F : FTy → Type} [FloatOps F]

def selR (l : FVec F S16384x128 .f32) : FVec F S16384x8 .f32 := selOf (Cert.Moe.elOf l) (hotG (Cert.Moe.grpL l))
def gateR (l : FVec F S16384x128 .f32) : FVec F S16384x2 .f32 := Cert.Moe.gateOf (Cert.Moe.valOf (selR l)) (Cert.Moe.pgOf (Cert.Moe.glOf l))
def eidR (l : FVec F S16384x128 .f32) : IVec S16384x2 32 := Cert.Moe.eidOf (Cert.Moe.grpL l) (Cert.Moe.idxOf (selR l))

variable (m : (ℓ : Loc nD τ sig) → Buf (Elt F) ℓ) (c : Dev nD)

abbrev arg0 : FVec F S16384x4096 .bf16 := U0 m c main_arg0
abbrev arg1 : FVec F S16384x128 .f32 := U0 m c main_arg1
abbrev arg2 : FVec F S16384x4096 .f32 := U0 m c main_arg2
abbrev arg3 : FVec F S1x32x4096x1024 .f32 := U0 m c main_arg3
abbrev arg4 : FVec F S1x32x4096x1024 .f32 := U0 m c main_arg4
abbrev arg5 : FVec F S1x32x1024x4096 .f32 := U0 m c main_arg5

theorem u_v0 : (U1 m c main_v0 : FVec F S16384x4096 .f32) = extf .f32 (arg0 m c) bitsLt_bf16_f32 := r0_v0 (U0 m c)
theorem u_v1 : (U1 m c main_v1 : FVec F S16384x4 .f32) = Cert.Moe.glOf (arg1 m c) := r0_v1 (U0 m c)
theorem u_v2 : (U2 m c main_v2 : IVec S16384 32) = Cert.Moe.grpL (arg1 m c) := by
  refine (r1_v2 (U1 m c)).trans ?_
  rw [u_v1 m c]; rfl
theorem u_v1' : (U2 m c main_v1 : FVec F S16384x4 .f32) = Cert.Moe.glOf (arg1 m c) := (U2_of m c main_v1 (by decide)).trans (u_v1 m c)
theorem u_arg1 : (U2 m c main_arg1 : FVec F S16384x128 .f32) = arg1 m c := (U2_of m c main_arg1 (by decide)).trans (U1_of m c main_arg1 (by decide))
theorem u_v15 : (U4 m c main_v15 : FVec F S16384x1 .f32) = Cert.Moe.pgOf (Cert.Moe.glOf (arg1 m c)) := by
  refine (U4_of m c main_v15 (by decide)).trans ((r2_v15 (U2 m c)).trans ?_)
  rw [u_v1' m c]
theorem u_v17 : (U4 m c main_v17 : FVec F S16384x4x8 .f32) = Cert.Moe.elOf (arg1 m c) := by
  refine (U4_of m c main_v17 (by decide)).trans ((r2_v17 (U2 m c)).trans ?_)
  rw [u_arg1 m c]
theorem u_v2' : (U4 m c main_v2 : IVec S16384 32) = Cert.Moe.grpL (arg1 m c) :=
  (U4_of m c main_v2 (by decide)).trans ((U3_of m c main_v2 (by decide)).trans (u_v2 m c))
theorem u_v18 : (U4 m c main_v18 : FVec F S16384x4 .f32) = hotG (Cert.Moe.grpL (arg1 m c)) := by
  refine (r3_v18 (U3 m c)).trans ?_
  rw [show (U3 m c main_v2 : IVec S16384 32) = _ from (U3_of m c main_v2 (by decide)).trans (u_v2 m c)]
theorem u_v32 : (U5 m c main_v32 : FVec F S16384x2 .f32) = gateR (arg1 m c) := by
  refine (r4_v32 (U4 m c)).trans ?_
  rw [u_v17 m c, u_v18 m c, u_v15 m c]; rfl
theorem u_v37 : (U5 m c main_v37 : IVec S16384x2 32) = eidR (F := F) (arg1 m c) := by
  refine (r4_v37 (U4 m c)).trans ?_
  rw [u_v17 m c, u_v18 m c, u_v2' m c]; rfl
theorem u_v38 : (U6 m c main_v38 : FVec F S16384x2x32 .f32) = hotE (eidR (F := F) (arg1 m c)) := by
  refine (r5_v38 (U5 m c)).trans ?_
  rw [u_v37 m c]
theorem u_v42 : (U9 m c main_v42 : FVec F S16384x32 .f32) = combOf (hotE (eidR (F := F) (arg1 m c))) (gateR (arg1 m c)) := by
  refine (U9_of m c main_v42 (by decide)).trans ((U8_of m c main_v42 (by decide)).trans ((r6_v42 (U6 m c)).trans ?_))
  rw [u_v38 m c, show (U6 m c main_v32 : FVec F S16384x2 .f32) = _ from (U6_of m c main_v32 (by decide)).trans (u_v32 m c)]
theorem u_v0' : (U6 m c main_v0 : FVec F S16384x4096 .f32) = extf .f32 (arg0 m c) bitsLt_bf16_f32 :=
  (U6_of m c main_v0 (by decide)).trans ((U5_of m c main_v0 (by decide)).trans ((U4_of m c main_v0 (by decide)).trans ((U3_of m c main_v0 (by decide)).trans
    ((U2_of m c main_v0 (by decide)).trans (u_v0 m c)))))
theorem u_arg3 : (U6 m c main_arg3 : FVec F S1x32x4096x1024 .f32) = arg3 m c :=
  (U6_of m c main_arg3 (by decide)).trans ((U5_of m c main_arg3 (by decide)).trans ((U4_of m c main_arg3 (by decide)).trans ((U3_of m c main_arg3 (by decide)).trans
    ((U2_of m c main_arg3 (by decide)).trans (U1_of m c main_arg3 (by decide))))))
theorem u_arg4 : (U8 m c main_arg4 : FVec F S1x32x4096x1024 .f32) = arg4 m c :=
  (U8_of m c main_arg4 (by decide)).trans ((U7_of m c main_arg4 (by decide)).trans ((U6_of m c main_arg4 (by decide)).trans ((U5_of m c main_arg4 (by decide)).trans
    ((U4_of m c main_arg4 (by decide)).trans ((U3_of m c main_arg4 (by decide)).trans ((U2_of m c main_arg4 (by decide)).trans (U1_of m c main_arg4 (by decide))))))))
theorem u_arg5 : (U9 m c main_arg5 : FVec F S1x32x1024x4096 .f32) = arg5 m c :=
  (U9_of m c main_arg5 (by decide)).trans ((U8_of m c main_arg5 (by decide)).trans ((U7_of m c main_arg5 (by decide)).trans ((U6_of m c main_arg5 (by decide)).trans ((U5_of m c main_arg5 (by decide)).trans
    ((U4_of m c main_arg5 (by decide)).trans ((U3_of m c main_arg5 (by decide)).trans ((U2_of m c main_arg5 (by decide)).trans (U1_of m c main_arg5 (by decide)))))))))
theorem u_arg2 : (U9 m c main_arg2 : FVec F S16384x4096 .f32) = arg2 m c :=
  (U9_of m c main_arg2 (by decide)).trans ((U8_of m c main_arg2 (by decide)).trans ((U7_of m c main_arg2 (by decide)).trans ((U6_of m c main_arg2 (by decide)).trans ((U5_of m c main_arg2 (by decide)).trans
    ((U4_of m c main_arg2 (by decide)).trans ((U3_of m c main_arg2 (by decide)).trans ((U2_of m c main_arg2 (by decide)).trans (U1_of m c main_arg2 (by decide)))))))))
theorem u_v46 : (U9 m c main_v46 : FVec F S32x16384x1024 .f32) = siluOf (turnOf (preOf (arg3 m c) (extf .f32 (arg0 m c) bitsLt_bf16_f32))) := by
  refine (U9_of m c main_v46 (by decide)).trans ((r7_v46 (U7 m c)).trans ?_)
  rw [show (U7 m c main_v45 : FVec F S32x16384x1024 .f32) = _ from r6_v45 (U6 m c), u_arg3 m c, u_v0' m c]
theorem u_v48 : (U9 m c main_v48 : FVec F S32x1024x16384 .f32) = preOf (arg4 m c) (extf .f32 (arg0 m c) bitsLt_bf16_f32) := by
  refine (r8_v48 (U8 m c)).trans ?_
  rw [u_arg4 m c, show (U8 m c main_v0 : FVec F S16384x4096 .f32) = _ from
    (U8_of m c main_v0 (by decide)).trans ((U7_of m c main_v0 (by decide)).trans (u_v0' m c))]
/-- The reference's result. -/
theorem u_out : (U10 m c main_v59 : FVec F S1x16384x4096 .f32)
    = outR (siluOf (turnOf (preOf (arg3 m c) (extf .f32 (arg0 m c) bitsLt_bf16_f32)))) (preOf (arg4 m c) (extf .f32 (arg0 m c) bitsLt_bf16_f32))
        (combOf (hotE (eidR (F := F) (arg1 m c))) (gateR (arg1 m c))) (arg5 m c) (arg2 m c) := by
  refine (r9_v59 (U9 m c)).trans ?_
  rw [u_v46 m c, u_v48 m c, u_v42 m c, u_arg5 m c, u_arg2 m c]

end Chain

/-! ## At an index -/

theorem preOf_at (w : FVec Ideal S1x32x4096x1024 .f32) (x : FVec Ideal S16384x4096 .f32) (e : Fin 32) (f : Fin 1024) (t : Fin 16384) :
    (preOf w x (ix3 e f t) : EReal)
      = ∑ d : Fin 4096, ((shapeCast S32x4096x1024 w shapeCasts_S1x32x4096x1024_S32x4096x1024 : S32x4096x1024.Idx → EReal) (ix3 e d f)) * (x (ix2 t d) : EReal) := by
  unfold preOf
  generalize shapeCast S32x4096x1024 w shapeCasts_S1x32x4096x1024_S32x4096x1024 = w'
  pointwise
  rfl

theorem siluOf_at (p : FVec Ideal S32x1024x16384 .f32) (e : Fin 32) (t : Fin 16384) (f : Fin 1024) :
    (siluOf (turnOf p) (ix3 e t f) : EReal) = (p (ix3 e f t) : EReal) * Ideal.div 1 (1 + Ideal.exp (-(p (ix3 e f t) : EReal))) := by
  unfold siluOf turnOf
  pointwise
  rfl

theorem combOf_at (hot : FVec Ideal S16384x2x32 .f32) (g : FVec Ideal S16384x2 .f32) (t : Fin 16384) (e : Fin 32) :
    (combOf hot g (ix2 t e) : EReal) = ∑ k : Fin 2, (hot (ix3 t k e) : EReal) * (g (ix2 t k) : EReal) := by
  unfold combOf
  pointwise
  rfl

theorem outR_at (s : FVec Ideal S32x16384x1024 .f32) (u : FVec Ideal S32x1024x16384 .f32) (cb : FVec Ideal S16384x32 .f32) (w : FVec Ideal S1x32x1024x4096 .f32)
    (h : FVec Ideal S16384x4096 .f32) (t : Fin 16384) (d : Fin 4096) :
    (outR s u cb w h (ix3 0 t d) : EReal)
      = (h (ix2 t d) : EReal) + ∑ e : Fin 32, ∑ f : Fin 1024, ((s (ix3 e t f) : EReal) * (u (ix3 e f t) : EReal) * (cb (ix2 t e) : EReal))
          * ((shapeCast S32x1024x4096 w shapeCasts_S1x32x1024x4096_S32x1024x4096 : S32x1024x4096.Idx → EReal) (ix3 e f d)) := by
  unfold outR turnOf
  generalize shapeCast S32x1024x4096 w shapeCasts_S1x32x1024x4096_S32x1024x4096 = w'
  pointwise
  rfl

end Cert.MoeRef
-- ==== Proof.Places.lean ====
/-
  The places of the pairs among the sorted rows, over the naturals: every expert has its rows from a multiple of 256 on,
  a pair's place is within its expert's rows, and no two pairs have the same place.
-/
module

public import Mathlib.Data.Nat.Count
public import Mathlib.Algebra.BigOperators.Fin
public import Mathlib.Algebra.Order.BigOperators.Group.Finset

@[expose] public section

namespace Cert.Places

variable (ef : ℕ → ℕ)

/-- The pairs of expert `e` before pair `p`. -/
def cnt (p e : ℕ) : ℕ := Nat.count (fun q => ef q = e) p
/-- Expert `e`'s rows rounded up to whole tiles. -/
def pad (e : ℕ) : ℕ := (cnt ef 32768 e + 255) / 256 * 256
/-- Where expert `e`'s rows begin. -/
def start (e : ℕ) : ℕ := ((List.range e).map (pad ef)).sum
/-- The place of pair `p`. -/
def place (p : ℕ) : ℕ := start ef (ef p) + cnt ef p (ef p)

theorem start_succ (e : ℕ) : start ef (e + 1) = start ef e + pad ef e := by
  unfold start; rw [List.range_succ, List.map_append, List.sum_append]; simp

theorem start_mono {a b : ℕ} (h : a ≤ b) : start ef a ≤ start ef b := by
  induction h with
  | refl => exact le_rfl
  | step _ ih => exact ih.trans (by rw [Nat.succ_eq_add_one, start_succ]; omega)

theorem start_dvd (e : ℕ) : 256 ∣ start ef e := by
  induction e with
  | zero => exact ⟨0, rfl⟩
  | succ e ih => rw [start_succ]; exact Nat.dvd_add ih ⟨_, Nat.mul_comm _ _⟩

theorem cnt_le_pad (e : ℕ) : cnt ef 32768 e ≤ pad ef e := by unfold pad; omega
theorem pad_le (e : ℕ) : pad ef e ≤ cnt ef 32768 e + 255 := by unfold pad; omega

theorem cnt_succ (p e : ℕ) : cnt ef (p + 1) e = cnt ef p e + if ef p = e then 1 else 0 := by
  unfold cnt; rw [Nat.count_succ]

theorem cnt_le (p e : ℕ) : cnt ef p e ≤ p := Nat.count_le _

theorem cnt_total (hlt : ∀ p, ef p < 32) (p : ℕ) : ∑ e ∈ Finset.range 32, cnt ef p e = p := by
  induction p with
  | zero => simp [cnt]
  | succ p ih =>
    simp only [cnt_succ, Finset.sum_add_distrib, ih]
    rw [Finset.sum_ite_eq, if_pos (Finset.mem_range.2 (hlt p))]

theorem start_eq (e : ℕ) : start ef e = ∑ i ∈ Finset.range e, pad ef i := by
  induction e with
  | zero => rfl
  | succ e ih => rw [start_succ, Finset.sum_range_succ, ih]

theorem start_le (hlt : ∀ p, ef p < 32) : start ef 32 ≤ 40928 := by
  rw [start_eq]
  calc ∑ i ∈ Finset.range 32, pad ef i ≤ ∑ i ∈ Finset.range 32, (cnt ef 32768 i + 255) := Finset.sum_le_sum fun i _ => pad_le ef i
    _ = 40928 := by rw [Finset.sum_add_distrib, cnt_total ef hlt]; simp

theorem cnt_lt {p : ℕ} (hp : p < 32768) : cnt ef p (ef p) < cnt ef 32768 (ef p) :=
  Nat.count_strict_mono (p := fun q => ef q = ef p) rfl hp

theorem place_lt {p : ℕ} (hp : p < 32768) : place ef p < start ef (ef p + 1) := by
  rw [start_succ]; unfold place
  have := cnt_lt ef hp; have := cnt_le_pad ef (ef p); omega

theorem start_le_place (p : ℕ) : start ef (ef p) ≤ place ef p := Nat.le_add_right _ _

theorem place_lt_all (hlt : ∀ p, ef p < 32) {p : ℕ} (hp : p < 32768) : place ef p < start ef 32 :=
  (place_lt ef hp).trans_le (start_mono ef (hlt p))

theorem place_inj {p q : ℕ} (hp : p < 32768) (hq : q < 32768) (h : place ef p = place ef q) : p = q := by
  have e : ef p = ef q := by
    rcases Nat.lt_trichotomy (ef p) (ef q) with l | l | l
    · have := place_lt ef hp; have := start_mono ef (show ef p + 1 ≤ ef q from l); have := start_le_place ef q; omega
    · exact l
    · have := place_lt ef hq; have := start_mono ef (show ef q + 1 ≤ ef p from l); have := start_le_place ef p; omega
  have hc : cnt ef p (ef p) = cnt ef q (ef p) := by
    unfold place at h; rw [← e] at h; omega
  exact Nat.count_injective (p := fun r => ef r = ef p) rfl e.symm hc

/-- The tile of a pair's place is in use, -/
theorem tile_live (hlt : ∀ p, ef p < 32) {p : ℕ} (hp : p < 32768) : place ef p / 256 < start ef 32 / 256 := by
  have := place_lt_all ef hlt hp
  obtain ⟨k, hk⟩ := start_dvd ef 32
  omega

/-- and the experts whose rows end at or before its first row are those before the pair's. -/
theorem ends_iff {p : ℕ} (hp : p < 32768) (e : ℕ) : start ef (e + 1) ≤ place ef p / 256 * 256 ↔ e < ef p := by
  have h1 := start_le_place ef p
  have h2 := place_lt ef hp
  obtain ⟨k, hk⟩ := start_dvd ef (ef p)
  constructor
  · intro h
    by_contra hc
    have := start_mono ef (show ef p + 1 ≤ e + 1 by omega)
    omega
  · intro h
    have := start_mono ef (show e + 1 ≤ ef p from h)
    omega

theorem sum_indicator (e M : ℕ) : ((List.range M).map fun i => if ef i = e then 1 else 0).sum = cnt ef M e := by
  induction M with
  | zero => rfl
  | succ M ih => rw [List.range_succ, List.map_append, List.sum_append, ih, cnt_succ]; simp

theorem count_lt (e : ℕ) {M : ℕ} (h : e ≤ M) : Nat.count (fun i => i < e) M = e := by
  rw [Nat.count_eq_card_filter_range, show (Finset.range M).filter (fun i => i < e) = Finset.range e from ?_, Finset.card_range]
  ext i; simp only [Finset.mem_filter, Finset.mem_range]; omega

end Cert.Places
-- ==== Proof.Route.lean ====
/-
  What the routing words hold: given the experts of the pairs as naturals, the kernel's words are those of the sorted
  rows' starts, the pairs' places, the rows' tokens and the tiles' experts.
-/
module

public import proofs.«01_k».proof.Proof.HostRead
public import proofs.«01_k».proof.Proof.Places
public import Idealize.ShloMosaic.Lib.Pointwise

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx Idealize.ShloMosaic.WordCmp
open Cert.Places

/-- A fold of word addition from zero is the sum. -/
theorem fold_addi {ι : Type} (s : Finset ι) (f : ι → BitVec 32) : s.fold IntOp.addi 0#32 f = ∑ k ∈ s, f k := by
  induction s using Finset.cons_induction with
  | empty => rfl
  | cons a s ha ih => rw [Finset.fold_cons, Finset.sum_cons, ih]; rfl

variable (ef : ℕ → ℕ) (hlt : ∀ p, ef p < 32)

section Words
include hlt

theorem hot_at (eid : IVec S16384x2 32) (hE : ∀ (t : Fin 16384) (k : Fin 2), eid (ix2 t k) = BitVec.ofNat 32 (ef (t.val * 2 + k.val)))
    (p : Fin 32768) (e : Fin 32) : hotOf eid (ix2 p e) = BitVec.ofNat 32 (if ef p.val = e.val then 1 else 0) := by
  have hp := p.isLt
  have he := e.isLt
  have h1 := hlt p.val
  have e1 : shapeCast S32768 eid shapeCasts_S16384x2_S32768 (ix1 p) = BitVec.ofNat 32 (ef p.val) := by
    have := cast21 eid shapeCasts_S16384x2_S32768 ⟨p.val / 2, by omega⟩ ⟨p.val % 2, by omega⟩ p (by show p.val = p.val / 2 * 2 + p.val % 2; omega)
    refine this.trans ((hE _ _).trans ?_)
    show BitVec.ofNat 32 (ef (p.val / 2 * 2 + p.val % 2)) = _
    rw [show p.val / 2 * 2 + p.val % 2 = p.val by omega]
  unfold hotOf
  rw [extui_apply, cmpi_at]
  erw [bcRows bcast_S32768_S32768x1_0 bcast_S32768x1_S32768x32_0_1 _ p e, bcCols bcast_S32_S1x32_1 bcast_S1x32_S32768x32_0_1 _ p e]
  rw [e1]
  erw [iota1_ap e]
  rw [cmpi_eq_ofNat (w := 32) (by omega) (by omega), setWidth_ofBool]

omit hlt in
theorem seen_at (hot : IVec S32768x32 32) (hH : ∀ (p : Fin 32768) (e : Fin 32), hot (ix2 p e) = BitVec.ofNat 32 (if ef p.val = e.val then 1 else 0))
    (p : Fin 32768) (e : Fin 32) : seenOf hot (ix2 p e) = BitVec.ofNat 32 (cnt ef (p.val + 1) e.val) := by
  unfold seenOf
  refine (cumsum_rows (R := 32768) (Rm1 := 32767) (C := 32) rfl hot (fun i c => if ef i = c then 1 else 0) hH _ (by erw [bc0]; rfl) _ _ p e).trans ?_
  rw [sum_indicator]

omit hlt in
theorem up_at (seen : IVec S32768x32 32) (hS : ∀ (p : Fin 32768) (e : Fin 32), seen (ix2 p e) = BitVec.ofNat 32 (cnt ef (p.val + 1) e.val))
    (e : Fin 32) : upOf seen (ix1 e) = BitVec.ofNat 32 (cnt ef 32768 e.val + 255) := by
  have hs : shapeCast S32 (extractStridedSlice S1x32 ![32767, 0] seen slices_S32768x32_S1x32_32767_0) shapeCasts_S1x32_S32 (ix1 e)
      = BitVec.ofNat 32 (cnt ef 32768 e.val) := by
    refine (cast21 (a := 1) (b := 32) _ shapeCasts_S1x32_S32 0 e e (by simp)).trans ?_
    refine Eq.trans ?_ (hS ⟨32767, by norm_num⟩ e)
    unfold extractStridedSlice
    refine congrArg seen (funext fun a => Fin.ext ?_)
    match a with
    | ⟨0, _⟩ => rfl
    | ⟨1, _⟩ => exact Nat.zero_add _
  unfold upOf
  rw [subi_ap, addi_ap, hs, bc0, bc0]
  show BitVec.ofNat 32 _ + BitVec.ofNat 32 256 - BitVec.ofNat 32 1 = _
  rw [← BitVec.ofNat_add, ofNat32_sub (by omega)]
  rfl

omit hlt in
theorem pad_at (up : IVec S32 32) (hU : ∀ e : Fin 32, up (ix1 e) = BitVec.ofNat 32 (cnt ef 32768 e.val + 255)) (e : Fin 32) :
    padOf up (ix1 e) = BitVec.ofNat 32 (pad ef e.val) := by
  have := cnt_le ef 32768 e.val
  unfold padOf
  rw [muli_ap, pyDiv_ap bcast_S_S32 up (constantI S_ 32 256#32) (ix1 e) (hU e) (b := 256) rfl (by omega) (by norm_num) (by norm_num), bc0]
  show BitVec.ofNat 32 _ * BitVec.ofNat 32 256 = _
  rw [← BitVec.ofNat_mul]
  rfl

omit hlt in
theorem end_at (pd : IVec S32 32) (hP : ∀ e : Fin 32, pd (ix1 e) = BitVec.ofNat 32 (pad ef e.val)) (e : Fin 32) :
    endOf pd (ix1 e) = BitVec.ofNat 32 (start ef (e.val + 1)) := by
  unfold endOf
  exact cumsum1 (N := 32) (Nm1 := 31) rfl pd (pad ef) hP _ (by erw [bc0]; rfl) _ _ e

theorem dest_at (hot seen : IVec S32768x32 32) (pEnd pd : IVec S32 32)
    (hH : ∀ (p : Fin 32768) (e : Fin 32), hot (ix2 p e) = BitVec.ofNat 32 (if ef p.val = e.val then 1 else 0))
    (hS : ∀ (p : Fin 32768) (e : Fin 32), seen (ix2 p e) = BitVec.ofNat 32 (cnt ef (p.val + 1) e.val))
    (hD : ∀ e : Fin 32, pEnd (ix1 e) = BitVec.ofNat 32 (start ef (e.val + 1)))
    (hP : ∀ e : Fin 32, pd (ix1 e) = BitVec.ofNat 32 (pad ef e.val)) (p : Fin 32768) :
    destOf hot seen pEnd pd (ix1 p) = BitVec.ofNat 32 (place ef p.val) := by
  unfold destOf
  rw [Host.reduce_eq_fold]
  erw [Shape.ReducesTo.fold_fiber_r2_a1]
  refine (fold_addi _ _).trans ?_
  rw [Finset.sum_eq_single (⟨ef p.val, hlt _⟩ : Fin 32)]
  · show hot (ix2 p _) * (broadcastInDim S32768x32 ![0, 1] bcast_S1x32_S32768x32_0_1 (broadcastInDim S1x32 ![1] bcast_S32_S1x32_1 (subi pEnd pd)) (ix2 p _)
      + seen (ix2 p _) - _) = _
    erw [bcCols bcast_S32_S1x32_1 bcast_S1x32_S32768x32_0_1 _ p _, bc0]
    rw [hH, hS, subi_ap, hD, hP, if_pos rfl]
    show BitVec.ofNat 32 1 * (_ - _ + _ - BitVec.ofNat 32 1) = _
    rw [start_succ, ofNat32_sub (by omega), cnt_succ, if_pos rfl, ← BitVec.ofNat_add, ofNat32_sub (by omega), ← BitVec.ofNat_mul]
    congr 1
    unfold place
    show 1 * (start ef (ef p.val) + pad ef (ef p.val) - pad ef (ef p.val) + (cnt ef p.val (ef p.val) + 1) - 1) = _
    omega
  · intro e _ hne
    show hot (ix2 p e) * _ = _
    rw [hH, if_neg fun h => hne (Fin.ext h.symm)]
    exact BitVec.zero_mul
  · intro h; exact absurd (Finset.mem_univ _) h

omit hlt in
theorem tok_at (p : Fin 32768) : tokOf (ix1 p) = BitVec.ofNat 32 (p.val / 2) := by
  have := p.isLt
  exact pyDiv_ap bcast_S_S32768 _ _ (ix1 p) (iota1_ap p) (b := 2) rfl (by omega) (by norm_num) (by norm_num)

theorem place_lt' (p : Fin 32768) : place ef p.val < 40960 :=
  lt_of_lt_of_le (place_lt_all ef hlt p.isLt) (by have := start_le ef hlt; omega)

theorem src_at (dest : IVec S32768 32) (hD : ∀ p : Fin 32768, dest (ix1 p) = BitVec.ofNat 32 (place ef p.val)) (p : Fin 32768) :
    srcOf dest (ix1 ⟨place ef p.val, place_lt' ef hlt p⟩) = BitVec.ofNat 32 (p.val / 2) := by
  have hidx : ∀ q : Fin 32768, (broadcastInDim S32768x1 ![0] bcast_S32768_S32768x1_0
      (select (cmpi .slt dest (broadcastInDim S32768 ![] bcast_S_S32768 (constantI S_ 32 0#32)))
        (addi dest (broadcastInDim S32768 ![] bcast_S_S32768 (constantI S_ 32 40960#32))) dest) : IVec S32768x1 32) (ix2 q (0 : Fin 1))
      = BitVec.ofNat 32 (place ef q.val) := by
    intro q
    have := place_lt' ef hlt q
    erw [bcCol bcast_S32768_S32768x1_0 _ q]
    rw [select_at, cmpi_at, bc0, hD]
    exact wrap_of_lt _ _ (by rw [BitVec.toNat_ofNat, Nat.mod_eq_of_lt (by omega)]; norm_num; omega)
  unfold srcOf
  generalize (broadcastInDim S32768x1 ![0] bcast_S32768_S32768x1_0
      (select (cmpi .slt dest (broadcastInDim S32768 ![] bcast_S_S32768 (constantI S_ 32 0#32)))
        (addi dest (broadcastInDim S32768 ![] bcast_S_S32768 (constantI S_ 32 40960#32))) dest) : IVec S32768x1 32) = idx at hidx ⊢
  have hl : ∀ (q : Fin 32768) (x : Fin 40960),
      scatter_S40960_S32768x1_S32768_n_0_0_1.resultIdx? (ix1 q) idx = some (ix1 x) ↔ place ef q.val = x.val := by
    intro q x
    have hb := place_lt' ef hlt q
    generalize hd : scatter_S40960_S32768x1_S32768_n_0_0_1 = d
    have hiw : d.insertedWindowDims = [0] := by rw [← hd]; rfl
    have hsd : d.scatterDimsToOperandDims = [0] := by rw [← hd]; rfl
    have hivd : d.indexVectorDim = 1 := by rw [← hd]; rfl
    have hm : (0 : Fin 1) ∈ d.scatterDimsToOperandDims := by rw [hsd]; exact List.mem_singleton.2 rfl
    have hwin : d.window (ix1 q) 0 = 0 := by
      unfold ScatterDims.window
      rw [dif_neg fun h => (of_decide_eq_true (List.mem_filter.1 h).2) (by rw [hiw]; exact List.mem_singleton.2 rfl)]
    have hsi : d.siIdx (ix1 q) ⟨d.scatterDimsToOperandDims.idxOf 0, List.idxOf_lt_length_iff.2 hm⟩ = ix2 q (0 : Fin 1) := by
      funext b
      apply Fin.ext
      match b with
      | ⟨0, _⟩ =>
        unfold ScatterDims.siIdx
        rw [dif_neg (by rw [hivd]; exact Nat.zero_ne_one)]
        unfold ScatterDims.siCoord
        simp only [Fin.val_cast]
        exact congrArg (fun z : Fin 1 => ((ix1 q : S32768.Idx) z).val) (Subsingleton.elim _ 0)
      | ⟨1, _⟩ => exact congrArg Fin.val (Subsingleton.elim (α := Fin 1) _ 0)
    have hstart : d.start (ix1 q) idx 0 = (place ef q.val : Int) := by
      unfold ScatterDims.start
      rw [dif_pos hm, hsi, hidx, StableHlo.Predicate.toInt_ofNat_small _ (by omega)]
    refine (resultIdx?_ix1 d (ix1 q) idx x).trans ?_
    rw [hstart, hwin]
    omega
  refine scatter_set_hit _ _ idx tokOf _ _ ?_ (ix1 p) ((hl p _).2 rfl)
  intro k hk
  obtain ⟨q, rfl⟩ : ∃ q : Fin 32768, k = ix1 q := ⟨k 0, ix1_eta k⟩
  have e := (hl q _).1 hk
  have : q = p := Fin.ext (place_inj ef q.isLt p.isLt e)
  rw [this]
  exact tok_at p

omit hlt in
theorem rows_at {F : FTy → Type} [FloatOps F] (x : FVec F S16384x4096 .bf16) (src : IVec S40960 32) (r : Fin 40960) (t : Fin 16384)
    (h : src (ix1 r) = BitVec.ofNat 32 t.val) (d : Fin 4096) : rowsOf x src (ix2 r d) = x (ix2 t d) := by
  have ht := t.isLt
  unfold rowsOf
  refine gather_row gather_S16384x4096_S40960x1_S40960x4096_1_0_n_n_0_1_14096 rfl rfl rfl rfl rfl x _ r d t ?_ (by norm_num)
  erw [bcCol bcast_S40960_S40960x1_0 _ r]
  rw [select_at, cmpi_at, bc0, h]
  exact wrap_of_lt _ _ (by rw [BitVec.toNat_ofNat, Nat.mod_eq_of_lt (by omega)]; norm_num; omega)

theorem used_at (pEnd : IVec S32 32) (hD : ∀ e : Fin 32, pEnd (ix1 e) = BitVec.ofNat 32 (start ef (e.val + 1))) :
    nUsedOf pEnd ix0 = BitVec.ofNat 32 (start ef 32 / 256) := by
  have h := start_le ef hlt
  unfold nUsedOf
  refine pyDiv0_ap _ _ ?_ (b := 256) rfl (by omega) (by norm_num) (by norm_num)
  refine Eq.trans ?_ (hD 31)
  refine (shapeCast_apply _ shapeCasts_S1_S_ _ (ix1 (0 : Fin 1)) rfl).trans ?_
  exact slice1 (m := 32) (n := 1) 31 pEnd slices_S32_S1_31 0 (by norm_num)

theorem te_at (pEnd : IVec S32 32) (nu : IVec S_ 32) (hD : ∀ e : Fin 32, pEnd (ix1 e) = BitVec.ofNat 32 (start ef (e.val + 1)))
    (hN : nu ix0 = BitVec.ofNat 32 (start ef 32 / 256)) (p : Fin 32768) (i : Fin 160) (hi : i.val = place ef p.val / 256) :
    teOf pEnd nu (ix1 i) = BitVec.ofNat 32 (ef p.val) := by
  have hs := start_le ef hlt
  have hb := place_lt' ef hlt p
  have hl := tile_live ef hlt p.isLt
  have h32 := hlt p.val
  have hcnt : tileCount pEnd (ix1 i) = BitVec.ofNat 32 (ef p.val) := by
    have e := reduce_count (n := 160) (m := 32) (by norm_num) (cmpi .sle
        (broadcastInDim S160x32 ![0, 1] bcast_S1x32_S160x32_0_1 (broadcastInDim S1x32 ![1] bcast_S32_S1x32_1 pEnd))
        (broadcastInDim S160x32 ![0, 1] bcast_S160x1_S160x32_0_1 (broadcastInDim S160x1 ![0] bcast_S160_S160x1_0
          (muli (iotaInDim S160 32 0) (broadcastInDim S160 ![] bcast_S_S160 (constantI S_ 32 256#32))))))
        natLt_1_32 reducesTo_S160x32_S160_d1 h_S_ i (fun q => q < ef p.val) ?_
    · rw [count_lt _ h32.le] at e
      show IntOp.minsi (Host.reduce IntOp.addi _ _ reducesTo_S160x32_S160_d1 h_S_ (ix1 i)) _ = _
      rw [e, bc0]
      have : ∀ n : Fin 32, IntOp.minsi (BitVec.ofNat 32 n.val) 31#32 = BitVec.ofNat 32 n.val := by decide
      exact this ⟨_, h32⟩
    · intro q
      have hq := start_mono ef (show q.val + 1 ≤ 32 from q.isLt)
      rw [cmpi_at]
      erw [bcCols bcast_S32_S1x32_1 bcast_S1x32_S160x32_0_1 _ i q, bcRows bcast_S160_S160x1_0 bcast_S160x1_S160x32_0_1 _ i q]
      rw [hD, muli_ap, bc0]
      erw [iota1_ap i]
      show IntOp.cmpi .sle _ (_ * BitVec.ofNat 32 256) = 1#1 ↔ _
      rw [← BitVec.ofNat_mul, StableHlo.Predicate.sle_iff_toNat, BitVec.toNat_ofNat, BitVec.toNat_ofNat, Nat.mod_eq_of_lt (by omega), Nat.mod_eq_of_lt (by omega), hi]
      · exact ends_iff ef p.isLt q.val
      all_goals (rw [BitVec.toNat_ofNat, Nat.mod_eq_of_lt (by omega)]; omega)
  unfold teOf
  rw [select_at, cmpi_at, bc0, hN, hcnt]
  erw [iota1_ap i]
  rw [cmpi_slt_ofNat (w := 32) (by have := i.isLt; omega) (by omega), select_decide, if_pos (by omega)]

end Words

end Cert.Moe
-- ==== Proof.Choice.lean ====
/-
  The router's choices: the chosen group is one of the four, the two chosen indices are among the eight and their values
  are the row's at them.
-/
module

public import proofs.«01_k».proof.Proof.RefValue
public import proofs.«01_k».proof.Proof.Route

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx Idealize.ShloMosaic.WordCmp

/-- A fold whose body keeps one of the two indices keeps any property the indices have. -/
theorem foldl_keeps {α β : Type} (f : α × β → α × β → α × β) (P : β → Prop) (hf : ∀ a b, (f a b).2 = a.2 ∨ (f a b).2 = b.2)
    (l : List (α × β)) (hl : ∀ p ∈ l, P p.2) (i : α × β) (hi : P i.2) : P (l.foldl f i).2 := by
  induction l generalizing i with
  | nil => exact hi
  | cons a l ih =>
    refine ih (fun p hp => hl p (List.mem_cons_of_mem _ hp)) _ ?_
    rcases hf i a with h | h
    · rw [h]; exact hi
    · rw [h]; exact hl a List.mem_cons_self

/-- The chosen group is one of the four. -/
theorem grp_lt (gl : FVec Ideal S16384x4 .f32) (j : S16384.Idx) : ∃ g : Fin 4, grpOf gl j = BitVec.ofNat 32 g.val := by
  unfold grpOf
  rw [Ideal.argReduce_eq_reduce2, Host.reduce2_eq_foldl_fiber]
  refine foldl_keeps _ (fun w => ∃ g : Fin 4, w = BitVec.ofNat 32 g.val) (fun a b => ?_) _ (fun p hp => ?_) _ ⟨0, rfl⟩
  · unfold reducer_argmax_f32_i32
    dsimp only
    unfold Scalar.select
    split
    · exact Or.inl rfl
    · exact Or.inr rfl
  · unfold Host.argReduceFiber at hp
    rw [List.mem_map] at hp
    obtain ⟨n, _, rfl⟩ := hp
    exact ⟨(S16384x4.rowMajor.symm n) 1, rfl⟩

/-- The chosen values are the row's at the chosen indices. -/
theorem top_at (x : FVec Ideal S16384x8 .f32) (t : Fin 16384) (k : Fin 2) :
    ∃ j : Fin 8, idxOf x (ix2 t k) = BitVec.ofNat 32 j.val ∧ valOf x (ix2 t k) = x (ix2 t j) := by
  unfold idxOf valOf Host.topK Host.sort2
  dsimp only
  have h1 : (1 : ℕ) < S16384x8.rank := by decide
  rw [dif_pos h1]
  refine ⟨_, rfl, ?_⟩
  show x _ = x _
  congr 1
  funext a
  match a with
  | ⟨0, _⟩ => exact Fin.ext (Nat.zero_add _)
  | ⟨1, _⟩ => rfl

end Cert.Moe
-- ==== Proof.Select.lean ====
/-
  The kernel's selection of a token's group of expert logits is the reference's contraction with the group's indicator.
-/
module

public import proofs.«01_k».proof.Proof.Choice

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx Idealize.ShloMosaic.WordCmp

abbrev GD : GatherDims S16384x4x8 S16384x1x1 S16384x1x8 := gather_S16384x4x8_S16384x1x1_S16384x1x8_2_1_0_0_1_2_118

/-- The group's logits, gathered. -/
theorem gather_grp {α : Type} (x : S16384x4x8.Idx → α) (i : IVec S16384x1x1 32) (t : Fin 16384) (g : Fin 4)
    (h : i (ix3 t 0 0) = BitVec.ofNat 32 g.val) (j : Fin 8) : Host.gather GD x i (ix3 t 0 j) = x (ix3 t g j) := by
  have hg := g.isLt
  unfold Host.gather
  refine congrArg x (funext fun a => Fin.ext ?_)
  match a with
  | ⟨0, _⟩ =>
    show GD.start (ix3 t 0 j) i 0 + GD.batchCoord (ix3 t 0 j) 0 + GD.offCoord (ix3 t 0 j) 0 = t.val
    rw [GD.start_batching _ _ 0 (by decide), GD.offCoord_eq_zero _ 0 (by decide)]
    unfold GatherDims.batchCoord
    rw [dif_pos (by decide)]
    simp only [Nat.zero_add, Nat.add_zero]
    rfl
  | ⟨1, _⟩ =>
    show GD.start (ix3 t 0 j) i 1 + GD.batchCoord (ix3 t 0 j) 1 + GD.offCoord (ix3 t 0 j) 1 = g.val
    rw [GD.batchCoord_eq_zero _ 1 (by decide), GD.offCoord_eq_zero _ 1 (by decide)]
    unfold GatherDims.start
    rw [dif_pos (by decide)]
    have hs : GD.siIdx (ix3 t 0 j) ⟨GD.startIndexMap.idxOf 1, List.idxOf_lt_length_iff.2 (by decide)⟩ = ix3 t 0 0 := by
      funext b
      match b with
      | ⟨0, _⟩ => rfl
      | ⟨1, _⟩ => rfl
      | ⟨2, _⟩ => rfl
    rw [hs, h, StableHlo.Predicate.toInt_ofNat_small _ (by omega)]
    show min ((g.val : Int)).toNat (4 - 1) + 0 + 0 = g.val
    omega
  | ⟨2, _⟩ =>
    show GD.start (ix3 t 0 j) i 2 + GD.batchCoord (ix3 t 0 j) 2 + GD.offCoord (ix3 t 0 j) 2 = j.val
    rw [GD.batchCoord_eq_zero _ 2 (by decide)]
    unfold GatherDims.start GatherDims.offCoord
    rw [dif_neg (by decide), dif_pos (by decide)]
    simp only [Nat.zero_add, Nat.add_zero]
    rfl

theorem fix_at (gr : IVec S16384 32) (t : Fin 16384) (g : Fin 4) (h : gr (ix1 t) = BitVec.ofNat 32 g.val) :
    fixOf gr (ix3 t 0 0) = BitVec.ofNat 32 g.val := by
  have hg := g.isLt
  have hb : broadcastInDim S16384x1x1 ![0] bcast_S16384_S16384x1x1_0 gr (ix3 t 0 0) = BitVec.ofNat 32 g.val := by
    rw [← h]
    refine congrArg gr ?_
    funext a
    match a with
    | ⟨0, _⟩ => rfl
  unfold fixOf
  rw [select_at, cmpi_at, bc0, hb]
  exact wrap_of_lt _ _ (by rw [BitVec.toNat_ofNat, Nat.mod_eq_of_lt (by omega)]; norm_num; omega)

theorem ok_at (i : IVec S16384x1x1 32) (t : Fin 16384) (g : Fin 4) (h : i (ix3 t 0 0) = BitVec.ofNat 32 g.val) :
    okOf i (ix2 t 0) = 1#1 := by
  unfold okOf
  pointwise
  refine (Finset.fold_singleton (op := IntOp.andi) (a := (0 : Fin 1))).trans ?_
  have e : i (ix3 (ix2 t (0 : Fin 1) 0) (0 : Fin 1) (0 : Fin 1)) = BitVec.ofNat 32 g.val := h
  refine (congrArg (fun w => IntOp.andi (IntOp.andi (IntOp.cmpi .sge w 0#32) (IntOp.cmpi .sle w 3#32)) 1#1) e).trans ?_
  clear e h
  revert g
  decide

theorem take_at (x : FVec Ideal S16384x4x8 .f32) (gr : IVec S16384 32) (t : Fin 16384) (g : Fin 4) (h : gr (ix1 t) = BitVec.ofNat 32 g.val)
    (j : Fin 8) : takeOf x gr (ix2 t j) = x (ix3 t g j) := by
  unfold takeOf
  refine (shapeCast_apply _ shapeCasts_S16384x1x8_S16384x8 _ (ix3 t 0 j) ?_).trans ?_
  · rw [Shape.rowMajor_val_two, Shape.rowMajor_val_three]
    show (t.val * 1 + 0) * 8 + j.val = t.val * 8 + j.val
    omega
  · rw [select_at]
    have hk : broadcastInDim S16384x1x8 ![0, 1] bcast_S16384x1_S16384x1x8_0_1 (okOf (fixOf gr)) (ix3 t 0 j) = 1#1 := by
      refine Eq.trans (congrArg (okOf (fixOf gr)) ?_) (ok_at _ t g (fix_at gr t g h))
      funext a
      match a with
      | ⟨0, _⟩ => rfl
      | ⟨1, _⟩ => rfl
    rw [hk]
    exact gather_grp x _ t g (fix_at gr t g h) j

/-- The indicator of two equal words. -/
theorem hot_word (a b : ℕ) (ha : a < 2 ^ 32) (hb : b < 2 ^ 32) :
    (FloatOps.uitofp (F := Ideal) .f32 (IntOp.cmpi .eq (BitVec.ofNat 32 a) (BitVec.ofNat 32 b)) : EReal) = if a = b then 1 else 0 := by
  rw [cmpi_eq_ofNat ha hb]
  by_cases h : a = b
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

theorem sel_at (x : FVec Ideal S16384x4x8 .f32) (gr : IVec S16384 32) (t : Fin 16384) (g : Fin 4) (h : gr (ix1 t) = BitVec.ofNat 32 g.val)
    (j : Fin 8) : (Cert.MoeRef.selOf x (Cert.MoeRef.hotG gr) (ix2 t j) : EReal) = x (ix3 t g j) := by
  have hh : ∀ k : Fin 4, (Cert.MoeRef.hotG (F := Ideal) gr (ix2 t k) : EReal) = if k = g then 1 else 0 := by
    intro k
    unfold Cert.MoeRef.hotG
    pointwise
    have e : gr (ix1 (ix2 t k (0 : Fin 2))) = BitVec.ofNat 32 g.val := h
    refine (congrArg (fun w => (FloatOps.uitofp (F := Ideal) .f32 (IntOp.cmpi .eq w (BitVec.ofNat 32 k.val)) : EReal)) e).trans ?_
    refine (hot_word g.val k.val (by have := g.isLt; omega) (by have := k.isLt; omega)).trans ?_
    by_cases hkg : k = g
    · rw [if_pos hkg, if_pos (congrArg Fin.val hkg).symm]
    · rw [if_neg hkg, if_neg fun e => hkg (Fin.ext e.symm)]
  have hs : (Cert.MoeRef.selOf x (Cert.MoeRef.hotG gr) (ix2 t j) : EReal) = ∑ k : Fin 4, (x (ix3 t k j) : EReal) * (Cert.MoeRef.hotG (F := Ideal) gr (ix2 t k) : EReal) := by
    unfold Cert.MoeRef.selOf
    generalize Cert.MoeRef.hotG (F := Ideal) gr = hot
    pointwise
    rfl
  rw [hs]
  rw [Finset.sum_eq_single g]
  · rw [hh, if_pos rfl, mul_one]
  · intro k _ hk
    rw [hh, if_neg hk, mul_zero]
  · intro hn; exact absurd (Finset.mem_univ _) hn

/-- The two selections agree. -/
theorem sel_eq (l : FVec Ideal S16384x128 .f32) : Cert.MoeRef.selR l = selL l := by
  funext i
  obtain ⟨t, j, rfl⟩ : ∃ (t : Fin 16384) (j : Fin 8), i = ix2 t j := ⟨i 0, i 1, ix2_eta i⟩
  obtain ⟨g, hg⟩ := grp_lt (glOf l) (ix1 t)
  exact (sel_at (elOf l) (grpL l) t g hg j).trans (take_at (elOf l) (grpL l) t g hg j).symm

end Cert.Moe
-- ==== Proof.Gates.lean ====
/-
  The gates are nonnegative reals when the router's logits are reals.
-/
module

public import proofs.«01_k».proof.Pre_finite_logits
public import proofs.«01_k».proof.Proof.Select

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx Idealize.ShloMosaic.WordCmp

/-! ## Reals among the extended reals -/

def IsR (x : EReal) : Prop := ∃ r : ℝ, x = (r : EReal)
def IsPos (x : EReal) : Prop := ∃ r : ℝ, 0 < r ∧ x = (r : EReal)
def IsNn (x : EReal) : Prop := ∃ r : ℝ, 0 ≤ r ∧ x = (r : EReal)

theorem IsPos.nn {x : EReal} (h : IsPos x) : IsNn x := h.elim fun r hr => ⟨r, hr.1.le, hr.2⟩

/-- The largest of some values has any property they all have. -/
theorem fold_max_keeps {ι : Type} (P : EReal → Prop) (v : ι → EReal) (s : Finset ι) (hne : s.Nonempty) (h : ∀ k ∈ s, P (v k)) :
    P (s.fold max ⊥ v) := by
  classical
  induction hne using Finset.Nonempty.cons_induction with
  | singleton a =>
    rw [Finset.fold_singleton, max_eq_left bot_le]
    exact h a (Finset.mem_singleton_self a)
  | cons a s ha hs ih =>
    rw [Finset.fold_cons]
    rcases max_choice (v a) (s.fold max ⊥ v) with e | e
    · rw [e]; exact h a (Finset.mem_cons_self a s)
    · rw [e]; exact ih fun k hk => h k (Finset.mem_cons_of_mem hk)

theorem sum_pos_keeps {ι : Type} (v : ι → EReal) (s : Finset ι) (hne : s.Nonempty) (h : ∀ k ∈ s, IsPos (v k)) : IsPos (∑ k ∈ s, v k) := by
  refine Finset.sum_induction_nonempty v IsPos (fun a b ha hb => ?_) hne h
  obtain ⟨r, hr, rfl⟩ := ha
  obtain ⟨q, hq, rfl⟩ := hb
  exact ⟨r + q, add_pos hr hq, (EReal.coe_add r q).symm⟩

theorem exp_sub_pos {x y : EReal} (hx : IsR x) (hy : IsR y) : IsPos (Ideal.exp (x - y)) := by
  obtain ⟨r, rfl⟩ := hx
  obtain ⟨q, rfl⟩ := hy
  refine ⟨Real.exp (r - q), Real.exp_pos _, ?_⟩
  rw [← EReal.coe_sub, Ideal.exp_coe]

theorem div_pos_pos {x y : EReal} (hx : IsPos x) (hy : IsPos y) : IsPos (Ideal.div x y) := by
  obtain ⟨r, hr, rfl⟩ := hx
  obtain ⟨q, hq, rfl⟩ := hy
  refine ⟨r * (1 / q), mul_pos hr (one_div_pos.2 hq), ?_⟩
  rw [Ideal.div_coe hq.ne', EReal.coe_mul]

theorem mul_pos_pos {x y : EReal} (hx : IsPos x) (hy : IsPos y) : IsPos (x * y) := by
  obtain ⟨r, hr, rfl⟩ := hx
  obtain ⟨q, hq, rfl⟩ := hy
  exact ⟨r * q, mul_pos hr hq, (EReal.coe_mul r q).symm⟩

theorem bits_bot : Ideal.ofBits .f32 4286578688#32 = (⊥ : EReal) := by simp [Ideal.ofBits, Ideal.ieee]
theorem bits_top : Ideal.ofBits .f32 2139095040#32 = (⊤ : EReal) := by simp [Ideal.ofBits, Ideal.ieee]

/-! ## The two softmaxes -/

theorem wexp_at (v : FVec Ideal S16384x2 .f32) (t : Fin 16384) (k : Fin 2) :
    (wexpOf v (ix2 t k) : EReal) = Ideal.exp ((v (ix2 t k) : EReal) - max (Ideal.ofBits .f32 4286578688#32 : EReal)
      (Finset.fold max (Ideal.ofBits .f32 4286578688#32 : EReal) (fun x : Fin 2 => (v (ix2 t x) : EReal)) Finset.univ)) := by
  unfold wexpOf
  pointwise
  rfl

theorem gate_at (v : FVec Ideal S16384x2 .f32) (pg : FVec Ideal S16384x1 .f32) (t : Fin 16384) (k : Fin 2) :
    (gateOf v pg (ix2 t k) : EReal)
      = Ideal.div (wexpOf v (ix2 t k) : EReal) (∑ x : Fin 2, (wexpOf v (ix2 t x) : EReal)) * (pg (ix2 t 0) : EReal) := by
  unfold gateOf
  generalize wexpOf v = w
  pointwise
  rfl

theorem pexp_at (v : FVec Ideal S16384x4 .f32) (t : Fin 16384) (k : Fin 4) :
    (pexpOf v (ix2 t k) : EReal) = Ideal.exp ((v (ix2 t k) : EReal) - max (Ideal.ofBits .f32 4286578688#32 : EReal)
      (Finset.fold max (Ideal.ofBits .f32 4286578688#32 : EReal) (fun x : Fin 4 => (v (ix2 t x) : EReal)) Finset.univ)) := by
  unfold pexpOf
  pointwise
  rfl

theorem pall_at (v : FVec Ideal S16384x4 .f32) (t : Fin 16384) (k : Fin 4) :
    (pallOf v (ix2 t k) : EReal) = Ideal.div (pexpOf v (ix2 t k) : EReal) (∑ x : Fin 4, (pexpOf v (ix2 t x) : EReal)) := by
  unfold pallOf
  generalize pexpOf v = w
  pointwise
  rfl

theorem pg_at (v : FVec Ideal S16384x4 .f32) (t : Fin 16384) :
    (pgOf v (ix2 t 0) : EReal)
      = Finset.fold max (Ideal.ofBits .f32 4286578688#32 : EReal) (fun x : Fin 4 => (pallOf v (ix2 t x) : EReal)) Finset.univ := by
  unfold pgOf
  generalize pallOf v = w
  pointwise
  rfl

theorem gl_at (l : FVec Ideal S16384x128 .f32) (t : Fin 16384) (k : Fin 4) :
    glOf l (ix2 t k) = l (ix2 t ⟨k.val, by have := k.isLt; omega⟩) := by
  unfold glOf
  pointwise
  rfl

theorem el_at (l : FVec Ideal S16384x128 .f32) (t : Fin 16384) (g : Fin 4) (k : Fin 8) :
    elOf l (ix3 t g k) = l (ix2 t ⟨4 + (g.val * 8 + k.val), by have := g.isLt; have := k.isLt; omega⟩) := by
  unfold elOf
  pointwise
  rfl

theorem wexp_pos (v : FVec Ideal S16384x2 .f32) (t : Fin 16384) (h : ∀ k : Fin 2, IsR (v (ix2 t k))) (k : Fin 2) : IsPos (wexpOf v (ix2 t k)) := by
  rw [wexp_at, bits_bot, max_eq_right bot_le]
  exact exp_sub_pos (h k) (fold_max_keeps IsR _ _ Finset.univ_nonempty fun j _ => h j)

theorem pexp_pos (v : FVec Ideal S16384x4 .f32) (t : Fin 16384) (h : ∀ k : Fin 4, IsR (v (ix2 t k))) (k : Fin 4) : IsPos (pexpOf v (ix2 t k)) := by
  rw [pexp_at, bits_bot, max_eq_right bot_le]
  exact exp_sub_pos (h k) (fold_max_keeps IsR _ _ Finset.univ_nonempty fun j _ => h j)

theorem pg_pos (v : FVec Ideal S16384x4 .f32) (t : Fin 16384) (h : ∀ k : Fin 4, IsR (v (ix2 t k))) : IsPos (pgOf v (ix2 t 0)) := by
  rw [pg_at, bits_bot]
  refine fold_max_keeps IsPos _ _ Finset.univ_nonempty fun j _ => ?_
  rw [pall_at]
  exact div_pos_pos (pexp_pos v t h j) (sum_pos_keeps _ _ Finset.univ_nonempty fun x _ => pexp_pos v t h x)

theorem gate_pos (v : FVec Ideal S16384x2 .f32) (pg : FVec Ideal S16384x1 .f32) (t : Fin 16384) (h : ∀ k : Fin 2, IsR (v (ix2 t k)))
    (hp : IsPos (pg (ix2 t 0))) (k : Fin 2) : IsPos (gateOf v pg (ix2 t k)) := by
  rw [gate_at]
  exact mul_pos_pos (div_pos_pos (wexp_pos v t h k) (sum_pos_keeps _ _ Finset.univ_nonempty fun x _ => wexp_pos v t h x)) hp

/-- Real logits give positive real gates. -/
theorem gateL_pos (l : FVec Ideal S16384x128 .f32) (t : Fin 16384) (h : ∀ j : Fin 36, IsR (l (ix2 t ⟨j.val, by have := j.isLt; omega⟩))) (k : Fin 2) :
    IsPos (gateL l (ix2 t k)) := by
  unfold gateL
  refine gate_pos _ _ t (fun k => ?_) (pg_pos _ t fun k => ?_) k
  · obtain ⟨j, -, hj⟩ := top_at (selL l) t k
    obtain ⟨g, hg⟩ := grp_lt (glOf l) (ix1 t)
    rw [hj]
    unfold selL
    rw [take_at (elOf l) (grpL l) t g hg j, el_at]
    exact h ⟨4 + (g.val * 8 + j.val), by have := g.isLt; have := j.isLt; omega⟩
  · rw [gl_at]
    exact h ⟨k.val, by have := k.isLt; omega⟩

/-! ## The precondition -/

instance preFacts : Cert.Pre_finite_logits.Facts := ⟨by decide, by decide⟩

theorem and_ones {a b : BitVec 1} (h : IntOp.andi a b = 1#1) : a = 1#1 ∧ b = 1#1 := by
  revert h; revert a b; decide

theorem pre_real (a0 : FVec Ideal S16384x4096 .bf16) (a1 : FVec Ideal S16384x128 .f32) (a2 : FVec Ideal S16384x4096 .f32)
    (a3 a4 : FVec Ideal S1x32x4096x1024 .f32) (a5 : FVec Ideal S1x32x1024x4096 .f32)
    (h : Cert.Pre_finite_logits.fn (F := Ideal) a0 a1 a2 a3 a4 a5 = fun _ => 1#1) (t : Fin 16384) (j : Fin 36) :
    IsR (a1 (ix2 t ⟨j.val, by have := j.isLt; omega⟩)) := by
  have hp := congrFun h (ix2 t j)
  have hs : extractStridedSlice Cert.Pre_finite_logits.S16384x36 ![0, 0] a1 Cert.Pre_finite_logits.Facts.slices_S16384x128_S16384x36_0_0 (ix2 t j)
      = a1 (ix2 t ⟨j.val, by have := j.isLt; omega⟩) := by
    pointwise
    rfl
  have hc : IntOp.andi (Ideal.cmp .ogt (a1 (ix2 t ⟨j.val, by have := j.isLt; omega⟩) : EReal) ⊥) (Ideal.cmp .olt (a1 (ix2 t ⟨j.val, by have := j.isLt; omega⟩) : EReal) ⊤) = 1#1 := by
    rw [← hs, ← bits_bot, ← bits_top]
    exact hp
  obtain ⟨h1, h2⟩ := and_ones hc
  generalize (a1 (ix2 t ⟨j.val, by have := j.isLt; omega⟩) : EReal) = x at h1 h2
  unfold Ideal.cmp at h1 h2
  have g1 : ⊥ < x := by
    by_contra hn
    rw [decide_eq_false hn] at h1
    exact absurd (show BitVec.ofBool false = 1#1 from h1) (by decide)
  have g2 : x < ⊤ := by
    by_contra hn
    rw [decide_eq_false hn] at h2
    exact absurd (show BitVec.ofBool false = 1#1 from h2) (by decide)
  exact ⟨x.toReal, (EReal.coe_toReal g2.ne g1.ne').symm⟩

end Cert.Moe
-- ==== Proof.Mixing.lean ====
/-
  A weighted sum over the experts in which only the chosen two weigh anything is the two chosen experts' weighted values.
-/
module

public import proofs.«01_k».proof.Proof.Gates

@[expose] public section

set_option maxRecDepth 8000

noncomputable section

namespace Cert.Moe

open Idealize.ShloMosaic

/-- A nonnegative real factor moves across a sum. -/
theorem mul_sum_nn {ι : Type} (c : EReal) (hc : IsNn c) (s : Finset ι) (v : ι → EReal) : ∑ k ∈ s, c * v k = c * ∑ k ∈ s, v k := by
  classical
  obtain ⟨r, hr, rfl⟩ := hc
  induction s using Finset.induction_on with
  | empty => rw [Finset.sum_empty, Finset.sum_empty, mul_zero]
  | insert a s ha ih =>
    rw [Finset.sum_insert ha, Finset.sum_insert ha, ih,
      EReal.left_distrib_of_nonneg_of_ne_top (EReal.coe_nonneg.2 hr) (EReal.coe_ne_top r)]

theorem nn_ite {a b : ℕ} {g : EReal} (hg : IsNn g) : IsNn ((if a = b then (1 : EReal) else 0) * g) := by
  by_cases h : a = b
  · rw [if_pos h, one_mul]; exact hg
  · rw [if_neg h, zero_mul]; exact ⟨0, le_refl _, EReal.coe_zero.symm⟩

theorem nn_add {x y : EReal} (hx : IsNn x) (hy : IsNn y) : IsNn (x + y) := by
  obtain ⟨r, hr, rfl⟩ := hx
  obtain ⟨q, hq, rfl⟩ := hy
  exact ⟨r + q, add_nonneg hr hq, (EReal.coe_add r q).symm⟩

theorem IsNn.nonneg {x : EReal} (h : IsNn x) : 0 ≤ x := by
  obtain ⟨r, hr, rfl⟩ := h
  exact EReal.coe_nonneg.2 hr

/-- One chosen expert's part of the sum over the experts. -/
theorem pick (a : ℕ) (ha : a < 32) (g : EReal) (F : Fin 32 → EReal) :
    ∑ e : Fin 32, ((if a = e.val then (1 : EReal) else 0) * g) * F e = g * F ⟨a, ha⟩ := by
  rw [Finset.sum_eq_single (⟨a, ha⟩ : Fin 32)]
  · rw [if_pos rfl, one_mul]
  · intro e _ he
    rw [if_neg fun h => he (Fin.ext h.symm), zero_mul, zero_mul]
  · intro hn; exact absurd (Finset.mem_univ _) hn

/-- The sum over the experts. -/
theorem mixing (a b : ℕ) (ha : a < 32) (hb : b < 32) (g0 g1 : EReal) (h0 : IsNn g0) (h1 : IsNn g1) (p : Fin 32 → Fin 1024 → EReal) (w : Fin 32 → Fin 1024 → EReal) :
    ∑ e : Fin 32, ∑ f : Fin 1024, (p e f * (((if a = e.val then (1 : EReal) else 0) * g0) + ((if b = e.val then (1 : EReal) else 0) * g1))) * w e f
      = g0 * (∑ f : Fin 1024, p ⟨a, ha⟩ f * w ⟨a, ha⟩ f) + g1 * (∑ f : Fin 1024, p ⟨b, hb⟩ f * w ⟨b, hb⟩ f) := by
  rw [← pick a ha g0 fun e => ∑ f : Fin 1024, p e f * w e f, ← pick b hb g1 fun e => ∑ f : Fin 1024, p e f * w e f, ← Finset.sum_add_distrib]
  refine Finset.sum_congr rfl fun e _ => ?_
  have n0 := nn_ite (a := a) (b := e.val) h0
  have n1 := nn_ite (a := b) (b := e.val) h1
  generalize (if a = e.val then (1 : EReal) else 0) * g0 = c0 at n0 ⊢
  generalize (if b = e.val then (1 : EReal) else 0) * g1 = c1 at n1 ⊢
  rw [← EReal.right_distrib_of_nonneg n0.nonneg n1.nonneg, ← mul_sum_nn _ (nn_add n0 n1)]
  refine Finset.sum_congr rfl fun f _ => ?_
  rw [mul_comm (p e f), mul_assoc]

end Cert.Moe
-- ==== Proof.Pays.lean ====
/-
  The two kernels' stored values at an index, over the extended reals.
-/
module

public import proofs.«01_k».proof.Proof.UpRegion
public import proofs.«01_k».proof.Proof.DownRegion
public import Idealize.ShloMosaic.Lib.Pointwise
public import Idealize.ShloMosaic.Lib.Pipeline.ValueKit

@[expose] public section

set_option maxRecDepth 8000

noncomputable section

namespace Cert.Moe

open Cert.KernelIdeal Cert.KernelIdeal.Gen
open Idealize.ShloMosaic Idealize.ShloMosaic.TcCoe Idealize.ShloMosaic.ValueIdx

/-- The kernel's gated product of two projections. -/
def glu (g u : EReal) : EReal := g * Ideal.div 1 (1 + Ideal.exp (0 - g)) * u

theorem pay_up (x : Vec Ideal S256x4096 .bf16) (a b : Vec Ideal S1x4096x512 .f32) (i : Fin 256) (j : Fin 512) :
    (k0_pay3 (F := Ideal) x (k0_pay1 (F := Ideal) a) (k0_pay2 (F := Ideal) b) : FVec Ideal S256x512 .bf16) (ix2 i j)
      = glu (∑ d : Fin 4096, (x (ix2 i d) : EReal) * a (ix3 (0 : Fin 1) d j)) (∑ d : Fin 4096, (x (ix2 i d) : EReal) * b (ix3 (0 : Fin 1) d j)) := by
  unfold glu
  pointwise [k0_pay3, k0_pay1, k0_pay2]
  rfl

theorem pay_down (x : Vec Ideal S256x1024 .bf16) (a : Vec Ideal S1x1024x4096 .f32) (i : Fin 256) (j : Fin 4096) :
    (k1_pay2 (F := Ideal) x (k1_pay1 (F := Ideal) a) : FVec Ideal S256x4096 .bf16) (ix2 i j) = (∑ f : Fin 1024, (x (ix2 i f) : EReal) * a (ix3 (0 : Fin 1) f j)) := by
  pointwise [k1_pay2, k1_pay1]
  rfl

end Cert.Moe
-- ==== Proof.Arrays.lean ====
/-
  The two regions' arrays, row by row at the tiles in use.
-/
module

public import proofs.«01_k».proof.Proof.Pays

@[expose] public section

set_option maxRecDepth 8000

noncomputable section

namespace Cert.Moe

open Cert.KernelIdeal Cert.KernelIdeal.Gen
open Idealize.ShloMosaic Idealize.ShloMosaic.TcCoe Idealize.ShloMosaic.ValueIdx
open Idealize.ShloMosaic.Pipeline (Dat Cfg Window)

theorem zmul (n k m : ℕ) (h : n = 0) : n * k + m = m := by rw [h, Nat.zero_mul, Nat.zero_add]

variable (V : (c : Dev nD) → (b : Ref sig .tc) → Buf (Elt Ideal) ((c : Thread nD τ).loc b))
variable (a : (p : Fin 2) → (pcfgs (F := Ideal) p).Adm)

namespace Up

theorem flush3 (t : Fin grid0.N) : ((cfg a).win 3).flush t = true := by
  have ht := lt_of_lt_of_eq t.isLt N_0
  unfold Window.flush
  refine Bool.and_eq_true_iff.2 ⟨rfl, ?_⟩
  by_cases h : t.val + 1 = grid0.N
  · exact Bool.or_eq_true_iff.2 (Or.inl (decide_eq_true h))
  · refine Bool.or_eq_true_iff.2 (Or.inr (decide_eq_true ⟨by have := t.isLt; show t.val + 1 < grid0.N; omega, fun e => ?_⟩))
    rw [index3, index3] at e
    have e0 := congrFun e 0
    have : (t.val + 1) % 160 = t.val % 160 := e0
    omega

theorem lt_row (t : Fin grid0.N) (i : Fin 256) : t.val % 160 * 256 + i.val < 40960 := by omega
theorem lt_col (t : Fin grid0.N) (j : Fin 512) : t.val / 160 * 512 + j.val < 1024 := by
  have ht := lt_of_lt_of_eq t.isLt N_0; omega

theorem emb0 (t : Fin grid0.N) (i : Fin 256) (d : Fin 4096) :
    (((cfg a).win 0).blk t).view.emb (ix2 i d : S256x4096.Idx) = (ix2 ⟨t.val % 160 * 256 + i.val, lt_row t i⟩ d : S40960x4096.Idx) := by
  funext x
  refine Fin.ext ((Window.rect_emb_val ((cfg a).win 0) t (ix2 i d : S256x4096.Idx) x rfl).trans ?_)
  rw [index0]
  match x with
  | ⟨0, _⟩ => rfl
  | ⟨1, _⟩ => exact zmul _ _ _ rfl

theorem emb3 (t : Fin grid0.N) (i : Fin 256) (j : Fin 512) :
    (((cfg a).win 3).blk t).view.emb (ix2 i j : S256x512.Idx)
      = (ix2 ⟨t.val % 160 * 256 + i.val, lt_row t i⟩ ⟨t.val / 160 * 512 + j.val, lt_col t j⟩ : S40960x1024.Idx) := by
  funext x
  refine Fin.ext ((Window.rect_emb_val ((cfg a).win 3) t (ix2 i j : S256x512.Idx) x rfl).trans ?_)
  rw [index3]
  match x with
  | ⟨0, _⟩ => rfl
  | ⟨1, _⟩ => rfl

theorem emb1 (t : Fin grid0.N) (e : Fin 32) (he : (te a (ix1 (tl t))).toNat = e.val) (d : Fin 4096) (j : Fin 512) :
    (((cfg a).win 1).blk t).view.emb (ix3 (0 : Fin 1) d j : S1x4096x512.Idx)
      = (ix3 e d ⟨t.val / 160 * 512 + j.val, lt_col t j⟩ : S32x4096x1024.Idx) := by
  funext x
  refine Fin.ext ((Window.rect_emb_val ((cfg a).win 1) t (ix3 (0 : Fin 1) d j : S1x4096x512.Idx) x rfl).trans ?_)
  rw [index1, he]
  match x with
  | ⟨0, _⟩ => exact (Nat.mul_one e.val)
  | ⟨1, _⟩ => exact zmul _ _ _ rfl
  | ⟨2, _⟩ => rfl

theorem emb2 (t : Fin grid0.N) (e : Fin 32) (he : (te a (ix1 (tl t))).toNat = e.val) (d : Fin 4096) (j : Fin 512) :
    (((cfg a).win 2).blk t).view.emb (ix3 (0 : Fin 1) d j : S1x4096x512.Idx)
      = (ix3 e d ⟨t.val / 160 * 512 + j.val, lt_col t j⟩ : S32x4096x1024.Idx) := by
  funext x
  refine Fin.ext ((Window.rect_emb_val ((cfg a).win 2) t (ix3 (0 : Fin 1) d j : S1x4096x512.Idx) x rfl).trans ?_)
  rw [index2, he]
  match x with
  | ⟨0, _⟩ => exact (Nat.mul_one e.val)
  | ⟨1, _⟩ => exact zmul _ _ _ rfl
  | ⟨2, _⟩ => rfl

theorem cover3 (i : S40960x1024.Idx) : ∃ t : Fin grid0.N, ((cfg a).win 3).flush t = true ∧ i ∈ (((cfg a).win 3).blk t).view.set := by
  have h0 : (i 0).val < 40960 := (i 0).isLt
  have h1 : (i 1).val < 1024 := (i 1).isLt
  let t : Fin grid0.N := ⟨(i 1).val / 512 * 160 + (i 0).val / 256, by rw [N_0]; omega⟩
  refine ⟨t, flush3 a t, (((cfg a).win 3).emb_mem_blk_iff t i rfl).2 fun x => ?_⟩
  rw [index3]
  match x with
  | ⟨0, _⟩ =>
    show ((i 1).val / 512 * 160 + (i 0).val / 256) % 160 * 256 ≤ (i 0).val ∧ (i 0).val < ((i 1).val / 512 * 160 + (i 0).val / 256) % 160 * 256 + 256
    omega
  | ⟨1, _⟩ =>
    show ((i 1).val / 512 * 160 + (i 0).val / 256) / 160 * 512 ≤ (i 1).val ∧ (i 1).val < ((i 1).val / 512 * 160 + (i 0).val / 256) / 160 * 512 + 512
    omega

/-- A tile's expert's activation at a row. -/
def act (x : S40960x4096.Idx → EReal) (w0 w1 : S32x4096x1024.Idx → EReal) (r : Fin 40960) (e : Fin 32) (f : Fin 1024) : EReal :=
  glu (∑ d : Fin 4096, x (ix2 r d) * w0 (ix3 e d f)) (∑ d : Fin 4096, x (ix2 r d) * w1 (ix3 e d f))

/-- What an entry of the activations' array is, where its tile is in use. -/
def P (x : S40960x4096.Idx → EReal) (w0 w1 : S32x4096x1024.Idx → EReal) (i : S40960x1024.Idx) (v : EReal) : Prop :=
  ∀ (q : Fin 160), q.val = (i 0).val / 256 → Live (nu a) q → ∀ e : Fin 32, (te a (ix1 q)).toNat = e.val → v = act x w0 w1 (i 0) e (i 1)

theorem P_out (c : Dev nD) (t : Fin grid0.N) (i : Fin 256) (j : Fin 512) :
    P a (V c main_v112) (V c main_v0) (V c main_v1) (ix2 ⟨t.val % 160 * 256 + i.val, lt_row t i⟩ ⟨t.val / 160 * 512 + j.val, lt_col t j⟩)
      ((out V a c t : S256x512.Idx → EReal) (ix2 i j)) := by
  intro q hq hl e he
  have hqt : q = tl t := by
    apply Fin.ext
    rw [hq, tl_val]
    show (t.val % 160 * 256 + i.val) / 256 = t.val % 160
    omega
  subst hqt
  unfold out
  rw [if_pos hl]
  refine (pay_up (xB V a c t) (wgB V a c t) (wuB V a c t) i j).trans ?_
  unfold act
  congr 1
  · exact Finset.sum_congr rfl fun d _ => congrArg₂ (fun x y : EReal => x * y) (congrArg (V c main_v112) (emb0 a t i d)) (congrArg (V c main_v0) (emb1 a t e he d j))
  · exact Finset.sum_congr rfl fun d _ => congrArg₂ (fun x y : EReal => x * y) (congrArg (V c main_v112) (emb0 a t i d)) (congrArg (V c main_v1) (emb2 a t e he d j))

/-- The activations' array at the tiles in use. -/
theorem arr (c : Dev nD) (r : Fin 40960) (f : Fin 1024) (q : Fin 160) (hq : q.val = r.val / 256) (hl : Live (nu a) q) (e : Fin 32)
    (he : (te a (ix1 q)).toNat = e.val) :
    ((dat V a c).arrAt 3 (cfg a).N : S40960x1024.Idx → EReal) (ix2 r f) = act (V c main_v112) (V c main_v0) (V c main_v1) r e f := by
  refine (dat V a c).arrAt_forall_of_cover 3 (P a (V c main_v112) (V c main_v0) (V c main_v1)) (fun t _ y => ?_) (cover3 a) (ix2 r f) q hq hl e he
  have key : ∀ y : S256x512.Idx, P a (V c main_v112) (V c main_v0) (V c main_v1) ((((cfg a).win 3).blk t).view.emb y) ((out V a c t : S256x512.Idx → EReal) y) := by
    intro y
    obtain ⟨i, j, rfl⟩ : ∃ (i : Fin 256) (j : Fin 512), y = ix2 i j := ⟨y 0, y 1, ix2_eta y⟩
    exact (congrArg (fun z : S40960x1024.Idx => P a (V c main_v112) (V c main_v0) (V c main_v1) z ((out V a c t : S256x512.Idx → EReal) (ix2 i j))) (emb3 a t i j)).mpr
      (P_out V a c t i j)
  exact key y

end Up

namespace Down

theorem flush2 (t : Fin grid1.N) : ((cfg a).win 2).flush t = true := by
  unfold Window.flush
  refine Bool.and_eq_true_iff.2 ⟨rfl, ?_⟩
  by_cases h : t.val + 1 = grid1.N
  · exact Bool.or_eq_true_iff.2 (Or.inl (decide_eq_true h))
  · refine Bool.or_eq_true_iff.2 (Or.inr (decide_eq_true ⟨by have := t.isLt; show t.val + 1 < grid1.N; omega, fun e => ?_⟩))
    rw [index2, index2] at e
    have : t.val + 1 = t.val := congrFun e 0
    omega

theorem cover2 (i : S40960x4096.Idx) : ∃ t : Fin grid1.N, ((cfg a).win 2).flush t = true ∧ i ∈ (((cfg a).win 2).blk t).view.set := by
  have h0 : (i 0).val < 40960 := (i 0).isLt
  have h1 : (i 1).val < 4096 := (i 1).isLt
  let t : Fin grid1.N := ⟨(i 0).val / 256, by rw [N_1]; omega⟩
  refine ⟨t, flush2 a t, (((cfg a).win 2).emb_mem_blk_iff t i rfl).2 fun x => ?_⟩
  rw [index2]
  match x with
  | ⟨0, _⟩ =>
    show (i 0).val / 256 * 256 ≤ (i 0).val ∧ (i 0).val < (i 0).val / 256 * 256 + 256
    omega
  | ⟨1, _⟩ =>
    show 0 * 4096 ≤ (i 1).val ∧ (i 1).val < 0 * 4096 + 4096
    omega

theorem lt_row (t : Fin grid1.N) (i : Fin 256) : t.val * 256 + i.val < 40960 := by have := point_lt t; omega

theorem emb0 (t : Fin grid1.N) (i : Fin 256) (f : Fin 1024) :
    (((cfg a).win 0).blk t).view.emb (ix2 i f : S256x1024.Idx) = (ix2 ⟨t.val * 256 + i.val, lt_row t i⟩ f : S40960x1024.Idx) := by
  funext x
  refine Fin.ext ((Window.rect_emb_val ((cfg a).win 0) t (ix2 i f : S256x1024.Idx) x rfl).trans ?_)
  rw [index0]
  match x with
  | ⟨0, _⟩ => rfl
  | ⟨1, _⟩ => exact zmul _ _ _ rfl

theorem emb2 (t : Fin grid1.N) (i : Fin 256) (d : Fin 4096) :
    (((cfg a).win 2).blk t).view.emb (ix2 i d : S256x4096.Idx) = (ix2 ⟨t.val * 256 + i.val, lt_row t i⟩ d : S40960x4096.Idx) := by
  funext x
  refine Fin.ext ((Window.rect_emb_val ((cfg a).win 2) t (ix2 i d : S256x4096.Idx) x rfl).trans ?_)
  rw [index2]
  match x with
  | ⟨0, _⟩ => rfl
  | ⟨1, _⟩ => exact zmul _ _ _ rfl

theorem emb1 (t : Fin grid1.N) (e : Fin 32) (he : (te a (ix1 (tl t))).toNat = e.val) (f : Fin 1024) (d : Fin 4096) :
    (((cfg a).win 1).blk t).view.emb (ix3 (0 : Fin 1) f d : S1x1024x4096.Idx) = (ix3 e f d : S32x1024x4096.Idx) := by
  funext x
  refine Fin.ext ((Window.rect_emb_val ((cfg a).win 1) t (ix3 (0 : Fin 1) f d : S1x1024x4096.Idx) x rfl).trans ?_)
  rw [index1, he]
  match x with
  | ⟨0, _⟩ => exact (Nat.mul_one e.val)
  | ⟨1, _⟩ => exact zmul _ _ _ rfl
  | ⟨2, _⟩ => exact zmul _ _ _ rfl

/-- A row of the result: the activations times the expert's weights. -/
def row (x : S40960x1024.Idx → EReal) (w : S32x1024x4096.Idx → EReal) (r : Fin 40960) (e : Fin 32) (d : Fin 4096) : EReal :=
  ∑ f : Fin 1024, x (ix2 r f) * w (ix3 e f d)

/-- What an entry of the rows' array is, where its tile is in use. -/
def P (x : S40960x1024.Idx → EReal) (w : S32x1024x4096.Idx → EReal) (i : S40960x4096.Idx) (v : EReal) : Prop :=
  ∀ (q : Fin 160), q.val = (i 0).val / 256 → Live (nu a) q → ∀ e : Fin 32, (te a (ix1 q)).toNat = e.val → v = row x w (i 0) e (i 1)

theorem P_out (c : Dev nD) (t : Fin grid1.N) (i : Fin 256) (j : Fin 4096) :
    P a (V c main_v113) (V c main_v2) (ix2 ⟨t.val * 256 + i.val, lt_row t i⟩ j) ((out V a c t : S256x4096.Idx → EReal) (ix2 i j)) := by
  intro q hq hl e he
  have hqt : q = tl t := by
    apply Fin.ext
    rw [hq, tl_val]
    show (t.val * 256 + i.val) / 256 = t.val
    omega
  subst hqt
  unfold out
  rw [if_pos hl]
  refine (pay_down (xB V a c t) (wdB V a c t) i j).trans ?_
  exact Finset.sum_congr rfl fun f _ => congrArg₂ (fun x y : EReal => x * y) (congrArg (V c main_v113) (emb0 a t i f)) (congrArg (V c main_v2) (emb1 a t e he f j))

/-- The rows' array at the tiles in use. -/
theorem arr (c : Dev nD) (r : Fin 40960) (d : Fin 4096) (q : Fin 160) (hq : q.val = r.val / 256) (hl : Live (nu a) q) (e : Fin 32)
    (he : (te a (ix1 q)).toNat = e.val) :
    ((dat V a c).arrAt 2 (cfg a).N : S40960x4096.Idx → EReal) (ix2 r d) = row (V c main_v113) (V c main_v2) r e d := by
  refine (dat V a c).arrAt_forall_of_cover 2 (P a (V c main_v113) (V c main_v2)) (fun t _ y => ?_) (cover2 a) (ix2 r d) q hq hl e he
  have key : ∀ y : S256x4096.Idx, P a (V c main_v113) (V c main_v2) ((((cfg a).win 2).blk t).view.emb y) ((out V a c t : S256x4096.Idx → EReal) y) := by
    intro y
    obtain ⟨i, j, rfl⟩ : ∃ (i : Fin 256) (j : Fin 4096), y = ix2 i j := ⟨y 0, y 1, ix2_eta y⟩
    exact (congrArg (fun z : S40960x4096.Idx => P a (V c main_v113) (V c main_v2) z ((out V a c t : S256x4096.Idx → EReal) (ix2 i j))) (emb2 a t i j)).mpr
      (P_out V a c t i j)
  exact key y

end Down
end Cert.Moe
-- ==== Proof.KernelValue.lean ====
/-
  The kernel's result at an index: the residual plus the two gated outputs of the token's experts.
-/
module

public import proofs.«01_k».proof.Proof.KernelRead
public import proofs.«01_k».proof.Proof.Route
public import proofs.«01_k».proof.Proof.Arrays

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx Idealize.ShloMosaic.WordCmp
open Cert.Places

/-- The gathered row of a token's pair. -/
theorem backOf_at (rows : FVec Ideal S40960x4096 .bf16) (pos : IVec S16384 32) (t : Fin 16384) (r : Fin 40960)
    (h : pos (ix1 t) = BitVec.ofNat 32 r.val) (d : Fin 4096) : backOf rows pos (ix2 t d) = rows (ix2 r d) := by
  have hr := r.isLt
  unfold backOf
  refine gather_row gather_S40960x4096_S16384x1_S16384x4096_1_0_n_n_0_1_14096 rfl rfl rfl rfl rfl rows _ t d r ?_ (by norm_num)
  erw [bcCol bcast_S16384_S16384x1_0 _ t]
  rw [select_at, cmpi_at, bc0, h]
  exact wrap_of_lt _ _ (by rw [BitVec.toNat_ofNat, Nat.mod_eq_of_lt (by omega)]; norm_num; omega)

/-- One column of the pairs' places. -/
theorem col_at {α : Type} (pos : S16384x2.Idx → α) (k : Fin 2) (h : S16384x2.Slices ![0, k.val] S16384x1) (t : Fin 16384) :
    shapeCast S16384 (extractStridedSlice S16384x1 ![0, k.val] pos h) shapeCasts_S16384x1_S16384 (ix1 t) = pos (ix2 t k) := by
  have hk := k.isLt
  refine (shapeCast_apply _ shapeCasts_S16384x1_S16384 _ (ix2 t (0 : Fin 1)) ?_).trans ?_
  · rw [Shape.rowMajor_val_two, Shape.rowMajor_val_one]; exact Nat.mul_one _
  · show pos _ = pos _
    congr 1
    funext a
    match a with
    | ⟨0, _⟩ => exact Fin.ext (Nat.zero_add _)
    | ⟨1, _⟩ => exact Fin.ext (Nat.add_zero _)

theorem outOf_at (h1 : FVec Ideal S16384x4096 .f32) (g : FVec Ideal S16384x2 .f32) (pos : IVec S16384x2 32) (rows : FVec Ideal S40960x4096 .bf16)
    (t : Fin 16384) (d : Fin 4096) (r0 r1 : Fin 40960) (p0 : pos (ix2 t 0) = BitVec.ofNat 32 r0.val) (p1 : pos (ix2 t 1) = BitVec.ofNat 32 r1.val) :
    (outOf h1 g pos rows (ix3 0 t d) : EReal)
      = (h1 (ix2 t d) : EReal) + ((g (ix2 t 0) : EReal) * (rows (ix2 r0 d) : EReal) + (g (ix2 t 1) : EReal) * (rows (ix2 r1 d) : EReal)) := by
  have e0 := backOf_at rows _ t r0 ((col_at pos 0 slices_S16384x2_S16384x1_0_0 t).trans p0) d
  have e1 := backOf_at rows _ t r1 ((col_at pos 1 slices_S16384x2_S16384x1_0_1 t).trans p1) d
  have key : (outOf h1 g pos rows (ix3 0 t d) : EReal)
      = (h1 (ix2 t d) : EReal) + ((g (ix2 t 0) : EReal) * (backOf rows (shapeCast S16384 (extractStridedSlice S16384x1 ![0, 0] pos slices_S16384x2_S16384x1_0_0) shapeCasts_S16384x1_S16384) (ix2 t d) : EReal)
        + (g (ix2 t 1) : EReal) * (backOf rows (shapeCast S16384 (extractStridedSlice S16384x1 ![0, 1] pos slices_S16384x2_S16384x1_0_1) shapeCasts_S16384x1_S16384) (ix2 t d) : EReal)) := by
    unfold outOf
    generalize backOf rows (shapeCast S16384 (extractStridedSlice S16384x1 ![0, 0] pos slices_S16384x2_S16384x1_0_0) shapeCasts_S16384x1_S16384) = b0
    generalize backOf rows (shapeCast S16384 (extractStridedSlice S16384x1 ![0, 1] pos slices_S16384x2_S16384x1_0_1) shapeCasts_S16384x1_S16384) = b1
    pointwise
    rfl
  rw [key]
  exact congrArg₂ (fun x y : EReal => (h1 (ix2 t d) : EReal) + ((g (ix2 t 0) : EReal) * x + (g (ix2 t 1) : EReal) * y)) e0 e1

/-- A token's activations through one expert. -/
def hid (x : S16384x4096.Idx → EReal) (w0 w1 : S32x4096x1024.Idx → EReal) (t : Fin 16384) (e : Fin 32) (f : Fin 1024) : EReal :=
  glu (∑ d : Fin 4096, x (ix2 t d) * w0 (ix3 e d f)) (∑ d : Fin 4096, x (ix2 t d) * w1 (ix3 e d f))

/-- A token's output through one expert. -/
def ffn (x : S16384x4096.Idx → EReal) (w0 w1 : S32x4096x1024.Idx → EReal) (w2 : S32x1024x4096.Idx → EReal) (t : Fin 16384) (e : Fin 32)
    (d : Fin 4096) : EReal := ∑ f : Fin 1024, hid x w0 w1 t e f * w2 (ix3 e f d)

section Value
variable (m : (ℓ : Loc nD τ sig) → Buf (Elt Ideal) ℓ) (c : Dev nD) (ef : ℕ → ℕ) (hlt : ∀ p, ef p < 32)
  (hE : ∀ (t : Fin 16384) (k : Fin 2), eidL (F := Ideal) (arg1 m c) (ix2 t k) = BitVec.ofNat 32 (ef (t.val * 2 + k.val)))

/-- The arguments as arrays of numbers. -/
abbrev xA : S16384x4096.Idx → EReal := arg0 m c
abbrev w0A : S32x4096x1024.Idx → EReal := shapeCast S32x4096x1024 (arg3 m c) shapeCasts_S1x32x4096x1024_S32x4096x1024
abbrev w1A : S32x4096x1024.Idx → EReal := shapeCast S32x4096x1024 (arg4 m c) shapeCasts_S1x32x4096x1024_S32x4096x1024
abbrev w2A : S32x1024x4096.Idx → EReal := shapeCast S32x1024x4096 (arg5 m c) shapeCasts_S1x32x1024x4096_S32x1024x4096

include hlt hE

theorem endL_at (e : Fin 32) : endL (F := Ideal) (arg1 m c) (ix1 e) = BitVec.ofNat 32 (start ef (e.val + 1)) :=
  end_at ef _ (pad_at ef _ (up_at ef _ (seen_at ef _ (hot_at ef hlt _ hE)))) e

theorem destL_at (p : Fin 32768) : destL (F := Ideal) (arg1 m c) (ix1 p) = BitVec.ofNat 32 (place ef p.val) :=
  dest_at ef hlt _ _ _ _ (hot_at ef hlt _ hE) (seen_at ef _ (hot_at ef hlt _ hE)) (endL_at m c ef hlt hE)
    (pad_at ef _ (up_at ef _ (seen_at ef _ (hot_at ef hlt _ hE)))) p

/-- The row at a pair's place is the token's output through the pair's expert. -/
theorem pair_row (p : Fin 32768) (t : Fin 16384) (ht : p.val / 2 = t.val) (d : Fin 4096) :
    (downArr m c : S40960x4096.Idx → EReal) (ix2 ⟨place ef p.val, place_lt' ef hlt p⟩ d)
      = ffn (xA m c) (w0A m c) (w1A m c) (w2A m c) t ⟨ef p.val, hlt _⟩ d := by
  have hs := start_le ef hlt
  have hb := place_lt' ef hlt p
  have hl := tile_live ef hlt p.isLt
  have hx := hlt p.val
  have hN := used_at ef hlt _ (endL_at m c ef hlt hE)
  have hc : c = c0 := Subsingleton.elim _ _
  let q : Fin 160 := ⟨place ef p.val / 256, by omega⟩
  let r : Fin 40960 := ⟨place ef p.val, hb⟩
  let e : Fin 32 := ⟨ef p.val, hx⟩
  have hnu : Up.nu (adm m) (ix1 0) = BitVec.ofNat 32 (start ef 32 / 256) := by
    have h1 : Up.nu (adm m) = (V17 m c main_v105 : IVec S1 32) := (tbl17 m c 1).trans rfl
    rw [h1, k_v105 m c]
    exact (shapeCast_apply _ shapeCasts_S_S1 _ ix0 rfl).trans hN
  have hte : Up.te (adm m) (ix1 q) = BitVec.ofNat 32 (ef p.val) := by
    have h1 : Up.te (adm m) = (V17 m c main_v103 : TeT) := (tbl17 m c 0).trans rfl
    rw [h1, k_v103 m c]
    exact te_at ef hlt _ _ (endL_at m c ef hlt hE) hN p q rfl
  have hlive : Live (Up.nu (adm m)) q := by
    show (q.val : Int) < _
    rw [hnu, StableHlo.Predicate.toInt_ofNat_small _ (by omega)]
    exact_mod_cast hl
  have hee : (Up.te (adm m) (ix1 q)).toNat = e.val := by
    rw [hte, BitVec.toNat_ofNat, Nat.mod_eq_of_lt (by omega)]
  have hrow : ∀ d', (V17 m c main_v112 : S40960x4096.Idx → EReal) (ix2 r d') = xA m c (ix2 t d') := by
    intro d'
    rw [k_v112 m c]
    refine rows_at _ _ r t ?_ d'
    rw [← ht]
    exact src_at ef hlt _ (destL_at m c ef hlt hE) p
  have hup : ∀ f, (upArr m c : S40960x1024.Idx → EReal) (ix2 r f) = hid (xA m c) (w0A m c) (w1A m c) t e f := by
    intro f
    refine (Up.arr (B17 m) (adm m) c r f q rfl hlive e hee).trans ?_
    unfold Up.act hid
    have h0 := k_v0 m c
    have h1 := k_v1 m c
    exact congrArg₂ glu
      (Finset.sum_congr rfl fun d' _ => congrArg₂ (fun x y : EReal => x * y) (hrow d') (congrFun h0 (ix3 e d' f)))
      (Finset.sum_congr rfl fun d' _ => congrArg₂ (fun x y : EReal => x * y) (hrow d') (congrFun h1 (ix3 e d' f)))
  have h113 : (B18 m c main_v113 : S40960x1024.Idx → EReal) = upArr m c := W18_self m c
  have h2 : (B18 m c main_v2 : S32x1024x4096.Idx → EReal) = w2A m c :=
    (W18_of m c _ (StableHlo.devRef_ne_of_ne (by decide))).trans (k_v2 m c)
  have hfin : Down.row (upArr m c) (w2A m c) r e d = ffn (xA m c) (w0A m c) (w1A m c) (w2A m c) t e d := by
    unfold Down.row ffn
    exact Finset.sum_congr rfl fun f _ => congrArg (fun x : EReal => x * w2A m c (ix3 e f d)) (hup f)
  have harr := Down.arr (B18 m) (adm m) c r d q rfl hlive e hee
  rw [h113, h2] at harr
  exact harr.trans hfin

/-- The kernel's result. -/
theorem value (t : Fin 16384) (d : Fin 4096) :
    ((V20 m (outs m) c main_v143 : FVec Ideal S1x16384x4096 .f32) (ix3 0 t d) : EReal)
      = (arg2 m c (ix2 t d) : EReal)
        + ((gateL (F := Ideal) (arg1 m c) (ix2 t 0) : EReal) * ffn (xA m c) (w0A m c) (w1A m c) (w2A m c) t ⟨ef (t.val * 2 + 0), hlt _⟩ d
          + (gateL (F := Ideal) (arg1 m c) (ix2 t 1) : EReal) * ffn (xA m c) (w0A m c) (w1A m c) (w2A m c) t ⟨ef (t.val * 2 + 1), hlt _⟩ d) := by
  have ht := t.isLt
  have hpos : ∀ (k : Fin 2) (h : t.val * 2 + k.val < 32768), shapeCast S16384x2 (destL (F := Ideal) (arg1 m c)) shapeCasts_S32768_S16384x2 (ix2 t k)
      = BitVec.ofNat 32 (place ef (t.val * 2 + k.val)) := by
    intro k h
    refine (shapeCast_apply _ shapeCasts_S32768_S16384x2 _ (ix1 ⟨t.val * 2 + k.val, h⟩) ?_).trans (destL_at m c ef hlt hE ⟨_, h⟩)
    rw [Shape.rowMajor_val_two, Shape.rowMajor_val_one]; rfl
  rw [k_out m c]
  have h0 : t.val * 2 + 0 < 32768 := by omega
  have h1 : t.val * 2 + 1 < 32768 := by omega
  refine (outOf_at _ _ _ _ t d ⟨_, place_lt' ef hlt ⟨_, h0⟩⟩ ⟨_, place_lt' ef hlt ⟨_, h1⟩⟩ (hpos 0 h0) (hpos 1 h1)).trans ?_
  exact congrArg₂ (fun x y : EReal => (arg2 m c (ix2 t d) : EReal) + ((gateL (F := Ideal) (arg1 m c) (ix2 t 0) : EReal) * x + (gateL (F := Ideal) (arg1 m c) (ix2 t 1) : EReal) * y))
    (pair_row m c ef hlt hE ⟨_, h0⟩ t (by show (t.val * 2 + 0) / 2 = t.val; omega) d)
    (pair_row m c ef hlt hE ⟨_, h1⟩ t (by show (t.val * 2 + 1) / 2 = t.val; omega) d)

end Value
end Cert.Moe
-- ==== Proof.Equal.lean ====
/-
  At the extended reals the kernel's result is the reference's.
-/
module

public import proofs.«01_k».proof.Proof.Mixing
public import proofs.«01_k».proof.Proof.KernelValue

@[expose] public section

set_option maxRecDepth 8000

noncomputable section

namespace Cert.Moe

open Cert.KernelIdeal Cert.KernelIdeal.Gen
open Idealize.ShloMosaic Idealize.ShloMosaic.TcCoe Idealize.ShloMosaic.Routing Idealize.ShloMosaic.ValueIdx Idealize.ShloMosaic.WordCmp

/-- A pair's expert is one of the thirty-two. -/
theorem eid_lt (l : FVec Ideal S16384x128 .f32) (t : Fin 16384) (k : Fin 2) : (eidL (F := Ideal) l (ix2 t k)).toNat < 32 := by
  obtain ⟨g, hg⟩ := grp_lt (glOf l) (ix1 t)
  obtain ⟨j, hj, -⟩ := top_at (selL l) t k
  have h : eidL (F := Ideal) l (ix2 t k) = BitVec.ofNat 32 g.val * 8#32 + BitVec.ofNat 32 j.val := by
    have e : eidL (F := Ideal) l (ix2 t k) = grpL (F := Ideal) l (ix1 t) * 8#32 + idxOf (selL l) (ix2 t k) := by
      unfold eidL eidOf
      generalize grpL (F := Ideal) l = gr
      generalize idxOf (selL l) = ix
      pointwise
      rfl
    rw [e, hj]
    exact congrArg (fun w => w * 8#32 + BitVec.ofNat 32 j.val) hg
  rw [h]
  clear hg hj h
  revert g j
  decide

/-- The pairs' experts as numbers. -/
def expert (l : FVec Ideal S16384x128 .f32) (p : ℕ) : ℕ :=
  if h : p < 32768 then (eidL (F := Ideal) l (ix2 ⟨p / 2, by omega⟩ ⟨p % 2, by omega⟩)).toNat else 0

theorem expert_lt (l : FVec Ideal S16384x128 .f32) (p : ℕ) : expert l p < 32 := by
  unfold expert
  split
  · exact eid_lt l _ _
  · omega

theorem expert_eq (l : FVec Ideal S16384x128 .f32) (t : Fin 16384) (k : Fin 2) :
    eidL (F := Ideal) l (ix2 t k) = BitVec.ofNat 32 (expert l (t.val * 2 + k.val)) := by
  have ht := t.isLt
  have hk := k.isLt
  unfold expert
  rw [dif_pos (by omega)]
  have h1 : (⟨(t.val * 2 + k.val) / 2, by omega⟩ : Fin 16384) = t := Fin.ext (by show (t.val * 2 + k.val) / 2 = t.val; omega)
  have h2 : (⟨(t.val * 2 + k.val) % 2, by omega⟩ : Fin 2) = k := Fin.ext (by show (t.val * 2 + k.val) % 2 = k.val; omega)
  rw [h1, h2, BitVec.ofNat_toNat, BitVec.setWidth_eq]

theorem hotE_at (eid : IVec S16384x2 32) (t : Fin 16384) (k : Fin 2) (e : Fin 32) (a : ℕ) (ha : a < 32) (h : eid (ix2 t k) = BitVec.ofNat 32 a) :
    (Cert.MoeRef.hotE (F := Ideal) eid (ix3 t k e) : EReal) = if a = e.val then 1 else 0 := by
  unfold Cert.MoeRef.hotE
  pointwise
  have he := e.isLt
  refine (congrArg (fun w => (FloatOps.uitofp (F := Ideal) .f32 (IntOp.cmpi .eq w (BitVec.ofNat 32 e.val)) : EReal)) h).trans ?_
  exact hot_word a e.val (by omega) (by omega)

theorem eid_ref (l : FVec Ideal S16384x128 .f32) : Cert.MoeRef.eidR (F := Ideal) l = eidL (F := Ideal) l := by
  unfold Cert.MoeRef.eidR eidL
  rw [sel_eq]

theorem gate_ref (l : FVec Ideal S16384x128 .f32) : Cert.MoeRef.gateR l = gateL l := by
  unfold Cert.MoeRef.gateR gateL
  rw [sel_eq]

/-- The weight of each expert: the gates of the pairs that chose it. -/
theorem comb_at (l : FVec Ideal S16384x128 .f32) (t : Fin 16384) (e : Fin 32) :
    (Cert.MoeRef.combOf (Cert.MoeRef.hotE (Cert.MoeRef.eidR (F := Ideal) l)) (Cert.MoeRef.gateR l) (ix2 t e) : EReal)
      = ((if expert l (t.val * 2 + 0) = e.val then (1 : EReal) else 0) * (gateL l (ix2 t 0) : EReal))
        + ((if expert l (t.val * 2 + 1) = e.val then (1 : EReal) else 0) * (gateL l (ix2 t 1) : EReal)) := by
  rw [Cert.MoeRef.combOf_at, Fin.sum_univ_two, eid_ref, gate_ref,
    hotE_at _ t 0 e _ (expert_lt l _) (expert_eq l t 0), hotE_at _ t 1 e _ (expert_lt l _) (expert_eq l t 1)]
  rfl

/-- The reference's activations times the second projection are the gated linear unit. -/
theorem hid_ref (a0 : FVec Ideal S16384x4096 .bf16) (a3 a4 : FVec Ideal S1x32x4096x1024 .f32) (t : Fin 16384) (e : Fin 32) (f : Fin 1024) :
    (Cert.MoeRef.siluOf (Cert.MoeRef.turnOf (Cert.MoeRef.preOf a3 (extf .f32 a0 bitsLt_bf16_f32))) (ix3 e t f) : EReal)
        * (Cert.MoeRef.preOf a4 (extf .f32 a0 bitsLt_bf16_f32) (ix3 e f t) : EReal)
      = hid a0 (shapeCast S32x4096x1024 a3 shapeCasts_S1x32x4096x1024_S32x4096x1024) (shapeCast S32x4096x1024 a4 shapeCasts_S1x32x4096x1024_S32x4096x1024) t e f := by
  have hp : ∀ w : FVec Ideal S1x32x4096x1024 .f32, (Cert.MoeRef.preOf w (extf .f32 a0 bitsLt_bf16_f32) (ix3 e f t) : EReal)
      = ∑ d : Fin 4096, (a0 (ix2 t d) : EReal) * ((shapeCast S32x4096x1024 w shapeCasts_S1x32x4096x1024_S32x4096x1024 : S32x4096x1024.Idx → EReal) (ix3 e d f)) := by
    intro w
    refine (Cert.MoeRef.preOf_at w _ e f t).trans ?_
    exact Finset.sum_congr rfl fun d _ => mul_comm _ _
  rw [Cert.MoeRef.siluOf_at, hp a3, hp a4]
  unfold hid glu
  rw [zero_sub]

/-- The reference's result at an index. -/
theorem ref_value (a0 : FVec Ideal S16384x4096 .bf16) (a1 : FVec Ideal S16384x128 .f32) (a2 : FVec Ideal S16384x4096 .f32)
    (a3 a4 : FVec Ideal S1x32x4096x1024 .f32) (a5 : FVec Ideal S1x32x1024x4096 .f32) (t : Fin 16384) (d : Fin 4096)
    (h : ∀ j : Fin 36, IsR (a1 (ix2 t ⟨j.val, by have := j.isLt; omega⟩))) :
    (Cert.MoeRef.outR (Cert.MoeRef.siluOf (Cert.MoeRef.turnOf (Cert.MoeRef.preOf a3 (extf .f32 a0 bitsLt_bf16_f32))))
        (Cert.MoeRef.preOf a4 (extf .f32 a0 bitsLt_bf16_f32)) (Cert.MoeRef.combOf (Cert.MoeRef.hotE (Cert.MoeRef.eidR (F := Ideal) a1)) (Cert.MoeRef.gateR a1)) a5 a2 (ix3 0 t d) : EReal)
      = (a2 (ix2 t d) : EReal)
        + ((gateL (F := Ideal) a1 (ix2 t 0) : EReal) * ffn a0 (shapeCast S32x4096x1024 a3 shapeCasts_S1x32x4096x1024_S32x4096x1024)
              (shapeCast S32x4096x1024 a4 shapeCasts_S1x32x4096x1024_S32x4096x1024) (shapeCast S32x1024x4096 a5 shapeCasts_S1x32x1024x4096_S32x1024x4096)
              t ⟨expert a1 (t.val * 2 + 0), expert_lt a1 _⟩ d
          + (gateL (F := Ideal) a1 (ix2 t 1) : EReal) * ffn a0 (shapeCast S32x4096x1024 a3 shapeCasts_S1x32x4096x1024_S32x4096x1024)
              (shapeCast S32x4096x1024 a4 shapeCasts_S1x32x4096x1024_S32x4096x1024) (shapeCast S32x1024x4096 a5 shapeCasts_S1x32x1024x4096_S32x1024x4096)
              t ⟨expert a1 (t.val * 2 + 1), expert_lt a1 _⟩ d) := by
  refine (Cert.MoeRef.outR_at _ _ _ a5 a2 t d).trans (congrArg (fun z : EReal => (a2 (ix2 t d) : EReal) + z) ?_)
  refine Eq.trans (Finset.sum_congr rfl fun e _ => Finset.sum_congr rfl fun f _ => ?_)
    (mixing (expert a1 (t.val * 2 + 0)) (expert a1 (t.val * 2 + 1)) (expert_lt a1 _) (expert_lt a1 _) (gateL a1 (ix2 t 0)) (gateL a1 (ix2 t 1))
      (gateL_pos a1 t h 0).nn (gateL_pos a1 t h 1).nn
      (fun e f => hid a0 (shapeCast S32x4096x1024 a3 shapeCasts_S1x32x4096x1024_S32x4096x1024) (shapeCast S32x4096x1024 a4 shapeCasts_S1x32x4096x1024_S32x4096x1024) t e f)
      (fun e f => (shapeCast S32x1024x4096 a5 shapeCasts_S1x32x1024x4096_S32x1024x4096 : S32x1024x4096.Idx → EReal) (ix3 e f d)))
  rw [hid_ref a0 a3 a4 t e f, comb_at a1 t e]

/-- The two results are one array. -/
theorem results_eq (m : (ℓ : Loc nD τ sig) → Buf (Elt Ideal) ℓ) (c : Dev nD)
    (h : ∀ (t : Fin 16384) (j : Fin 36), IsR (arg1 m c (ix2 t ⟨j.val, by have := j.isLt; omega⟩))) :
    (Cert.MoeRef.outR (Cert.MoeRef.siluOf (Cert.MoeRef.turnOf (Cert.MoeRef.preOf (arg3 m c) (extf .f32 (arg0 m c) bitsLt_bf16_f32))))
        (Cert.MoeRef.preOf (arg4 m c) (extf .f32 (arg0 m c) bitsLt_bf16_f32))
        (Cert.MoeRef.combOf (Cert.MoeRef.hotE (Cert.MoeRef.eidR (F := Ideal) (arg1 m c))) (Cert.MoeRef.gateR (arg1 m c))) (arg5 m c) (arg2 m c) : FVec Ideal S1x16384x4096 .f32)
      = (V20 m (outs m) c main_v143 : FVec Ideal S1x16384x4096 .f32) := by
  funext i
  obtain ⟨z, t, d, rfl⟩ : ∃ (z : Fin 1) (t : Fin 16384) (d : Fin 4096), i = ix3 z t d := ⟨i 0, i 1, i 2, ix3_eta i⟩
  obtain rfl : z = 0 := Subsingleton.elim _ _
  exact (ref_value (arg0 m c) (arg1 m c) (arg2 m c) (arg3 m c) (arg4 m c) (arg5 m c) t d (h t)).trans
    (value m c (expert (arg1 m c)) (expert_lt (arg1 m c)) (expert_eq (arg1 m c)) t d).symm

end Cert.Moe
-- ==== Proof.Equality.lean ====
/-
  The claim of values: from one set of arguments the two programs end with one result.
-/
module

public import proofs.«01_k».proof.Defs
public import proofs.«01_k».proof.Proof.Frames
public import proofs.«01_k».proof.Proof.Equal

@[expose] public section

namespace Cert.Proof

open Idealize.ShloMosaic Idealize.SL.Sem Idealize.ShloMosaic.TcCoe

theorem frame_kernelIdeal_pre : Cert.quiescent_KernelIdeal_pre_finite_logits := fun m ρ _ =>
  (θ_run Cert.KernelIdeal.defs _ _).mono (fun _ h => ⟨fun c => (h.1 c).1, h.2⟩) (Cert.Moe.run_main (F := Ideal) m ρ)

theorem frame_reference_pre : Cert.quiescent_ReferenceIdeal_pre_finite_logits := fun m ρ _ =>
  (θ_run Cert.ReferenceIdeal.defs _ _).mono (fun _ h => ⟨fun c => (h.1 c).1, h.2⟩) (Cert.MoeRef.run_main (F := Ideal) m ρ)

/-- The reference's result, its arguments being the kernel's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_finite_logits m)
    (h0 : Cert.MoeRef.arg0 m' c = Cert.Moe.arg0 m c) (h1 : Cert.MoeRef.arg1 m' c = Cert.Moe.arg1 m c) (h2 : Cert.MoeRef.arg2 m' c = Cert.Moe.arg2 m c)
    (h3 : Cert.MoeRef.arg3 m' c = Cert.Moe.arg3 m c) (h4 : Cert.MoeRef.arg4 m' c = Cert.Moe.arg4 m c) (h5 : Cert.MoeRef.arg5 m' c = Cert.Moe.arg5 m c) :
    (Cert.MoeRef.U10 m' c Cert.ReferenceIdeal.main_v59 : FVec Ideal Cert.KernelIdeal.S1x16384x4096 .f32)
      = (Cert.KernelIdeal.Gen.V20 m (Cert.Moe.outs m) c Cert.KernelIdeal.main_v143 : FVec Ideal Cert.KernelIdeal.S1x16384x4096 .f32) := by
  refine (Cert.MoeRef.u_out m' c).trans ?_
  rw [h0, h1, h2, h3, h4, h5]
  exact Cert.Moe.results_eq m c fun t j => Cert.Moe.pre_real _ _ _ _ _ _ (hp c) t j

theorem algebraic : Cert.algebraic_KernelIdeal_ReferenceIdeal_pre_finite_logits := fun m ρ m' ρ' hp ha =>
  ⟨fun c => Cert.KernelIdeal.Gen.V20 m (Cert.Moe.outs m) c (Proc.devRef .tc Cert.KernelIdeal.main_v143),
    (θ_run Cert.KernelIdeal.defs _ _).mono (fun _ h c => ⟨(h.1 c).2, (h.1 c).1⟩) (Cert.Moe.run_main (F := Ideal) m ρ),
    (θ_run Cert.ReferenceIdeal.defs _ _).mono
      (fun _ h c => ⟨(h.1 c).2.trans (reference_result m m' c hp (ha c).1 (ha c).2.1 (ha c).2.2.1 (ha c).2.2.2.1 (ha c).2.2.2.2.1 (ha c).2.2.2.2.2), (h.1 c).1⟩)
      (Cert.MoeRef.run_main (F := Ideal) m' ρ')⟩

end Cert.Proof
-- ==== Proof.OutValue.lean ====
/-
  The call `out_proj`: its result is the residual plus the two halves' products, the halves of one product with the whole
  matrix.
-/
module

public import proofs.«01_k».proof.Proof.Gen.KernelOutIdeal.Value
public import proofs.«01_k».proof.Proof.Gen.ReferenceOutIdeal.Run
public import Idealize.ShloMosaic.Lib.Pointwise
public import Idealize.ShloMosaic.Lib.Pipeline.ValueKit
public import Idealize.ShloMosaic.Lib.ValueIdx

@[expose] public section

set_option maxRecDepth 8000

noncomputable section

namespace Cert.OutProj

open Cert.KernelOutIdeal Cert.KernelOutIdeal.Gen
open Idealize.ShloMosaic hiding ix0 ix1 ix2 ix3 ix2_eta
open Idealize.ShloMosaic.TcCoe Idealize.ShloMosaic.ValueIdx Idealize.SL.Sem
open Idealize.ShloMosaic.Pipeline (Dat Cfg Window)

theorem zmul (n k m : ℕ) (h : n = 0) : n * k + m = m := by rw [h, Nat.zero_mul, Nat.zero_add]

theorem index0 : ∀ t : Fin grid0.N, (win0 0).index t = ![t.val % 64 + 1, 0] := by decide +kernel
theorem index1 : ∀ t : Fin grid0.N, (win0 1).index t = ![t.val % 64 + 1, 0] := by decide +kernel
theorem index2 : ∀ t : Fin grid0.N, (win0 2).index t = ![0, t.val / 64] := by decide +kernel
theorem index3 : ∀ t : Fin grid0.N, (win0 3).index t = ![0, t.val / 64] := by decide +kernel
theorem index4 : ∀ t : Fin grid0.N, (win0 4).index t = ![t.val % 64 + 1, t.val / 64] := by decide +kernel
theorem index5 : ∀ t : Fin grid0.N, (win0 5).index t = ![t.val % 64, t.val / 64] := by decide +kernel

theorem flush5 (t : Fin grid0.N) : (win0 5).flush t = true := flush0_5 t

theorem lt_row (t : Fin grid0.N) (i : Fin 256) : t.val % 64 * 256 + i.val < 16384 := by omega
theorem lt_row' (t : Fin grid0.N) (i : Fin 256) : (t.val % 64 + 1) * 256 + i.val < 16640 := by omega
theorem lt_col (t : Fin grid0.N) (j : Fin 1024) : t.val / 64 * 1024 + j.val < 4096 := by
  have ht := lt_of_lt_of_eq t.isLt N_0; omega

theorem emb0 (t : Fin grid0.N) (i : Fin 256) (k : Fin 2048) :
    ((win0 0).blk t).view.emb (ix2 i k : S256x2048.Idx) = (ix2 ⟨(t.val % 64 + 1) * 256 + i.val, lt_row' t i⟩ k : S16640x2048.Idx) := by
  funext x
  refine Fin.ext ((Window.rect_emb_val (win0 0) t (ix2 i k : S256x2048.Idx) x rfl).trans ?_)
  rw [index0]
  match x with
  | ⟨0, _⟩ => rfl
  | ⟨1, _⟩ => exact zmul _ _ _ rfl

theorem emb1 (t : Fin grid0.N) (i : Fin 256) (k : Fin 2048) :
    ((win0 1).blk t).view.emb (ix2 i k : S256x2048.Idx) = (ix2 ⟨(t.val % 64 + 1) * 256 + i.val, lt_row' t i⟩ k : S16640x2048.Idx) := by
  funext x
  refine Fin.ext ((Window.rect_emb_val (win0 1) t (ix2 i k : S256x2048.Idx) x rfl).trans ?_)
  rw [index1]
  match x with
  | ⟨0, _⟩ => rfl
  | ⟨1, _⟩ => exact zmul _ _ _ rfl

theorem emb2 (t : Fin grid0.N) (k : Fin 2048) (j : Fin 1024) :
    ((win0 2).blk t).view.emb (ix2 k j : S2048x1024.Idx) = (ix2 k ⟨t.val / 64 * 1024 + j.val, lt_col t j⟩ : S2048x4096.Idx) := by
  funext x
  refine Fin.ext ((Window.rect_emb_val (win0 2) t (ix2 k j : S2048x1024.Idx) x rfl).trans ?_)
  rw [index2]
  match x with
  | ⟨0, _⟩ => exact zmul _ _ _ rfl
  | ⟨1, _⟩ => rfl

theorem emb3 (t : Fin grid0.N) (k : Fin 2048) (j : Fin 1024) :
    ((win0 3).blk t).view.emb (ix2 k j : S2048x1024.Idx) = (ix2 k ⟨t.val / 64 * 1024 + j.val, lt_col t j⟩ : S2048x4096.Idx) := by
  funext x
  refine Fin.ext ((Window.rect_emb_val (win0 3) t (ix2 k j : S2048x1024.Idx) x rfl).trans ?_)
  rw [index3]
  match x with
  | ⟨0, _⟩ => exact zmul _ _ _ rfl
  | ⟨1, _⟩ => rfl

theorem emb4 (t : Fin grid0.N) (i : Fin 256) (j : Fin 1024) :
    ((win0 4).blk t).view.emb (ix2 i j : S256x1024.Idx)
      = (ix2 ⟨(t.val % 64 + 1) * 256 + i.val, lt_row' t i⟩ ⟨t.val / 64 * 1024 + j.val, lt_col t j⟩ : S16640x4096.Idx) := by
  funext x
  refine Fin.ext ((Window.rect_emb_val (win0 4) t (ix2 i j : S256x1024.Idx) x rfl).trans ?_)
  rw [index4]
  match x with
  | ⟨0, _⟩ => rfl
  | ⟨1, _⟩ => rfl

theorem emb5 (t : Fin grid0.N) (i : Fin 256) (j : Fin 1024) :
    ((win0 5).blk t).view.emb (ix2 i j : S256x1024.Idx)
      = (ix2 ⟨t.val % 64 * 256 + i.val, lt_row t i⟩ ⟨t.val / 64 * 1024 + j.val, lt_col t j⟩ : S16384x4096.Idx) := by
  funext x
  refine Fin.ext ((Window.rect_emb_val (win0 5) t (ix2 i j : S256x1024.Idx) x rfl).trans ?_)
  rw [index5]
  match x with
  | ⟨0, _⟩ => rfl
  | ⟨1, _⟩ => rfl

theorem cover5 (i : S16384x4096.Idx) : ∃ t : Fin grid0.N, (win0 5).flush t = true ∧ i ∈ ((win0 5).blk t).view.set := by
  have h0 : (i 0).val < 16384 := (i 0).isLt
  have h1 : (i 1).val < 4096 := (i 1).isLt
  let t : Fin grid0.N := ⟨(i 1).val / 1024 * 64 + (i 0).val / 256, by rw [N_0]; omega⟩
  refine ⟨t, flush5 t, ((win0 5).emb_mem_blk_iff t i rfl).2 fun x => ?_⟩
  rw [index5]
  match x with
  | ⟨0, _⟩ =>
    show ((i 1).val / 1024 * 64 + (i 0).val / 256) % 64 * 256 ≤ (i 0).val ∧ (i 0).val < ((i 1).val / 1024 * 64 + (i 0).val / 256) % 64 * 256 + 256
    omega
  | ⟨1, _⟩ =>
    show ((i 1).val / 1024 * 64 + (i 0).val / 256) / 64 * 1024 ≤ (i 1).val ∧ (i 1).val < ((i 1).val / 1024 * 64 + (i 0).val / 256) / 64 * 1024 + 1024
    omega

theorem pay (h : Vec Ideal S256x1024 .f32) (y : Vec Ideal S256x2048 .bf16) (w : Vec Ideal S2048x1024 .bf16) (z : Vec Ideal S256x2048 .bf16)
    (v : Vec Ideal S2048x1024 .bf16) (i : Fin 256) (j : Fin 1024) :
    (k0_pay1 (F := Ideal) h y w z v : FVec Ideal S256x1024 .f32) (ix2 i j)
      = ((h (ix2 i j) : EReal) + ∑ k : Fin 2048, (y (ix2 i k) : EReal) * w (ix2 k j)) + ∑ k : Fin 2048, (z (ix2 i k) : EReal) * v (ix2 k j) := by
  pointwise [k0_pay1]
  rfl

variable (m : (ℓ : Loc nD τ sig) → Buf (Elt Ideal) ℓ)

theorem hz : (![0, 0] : Fin 2 → Nat) = fun _ => 0 := by funext x; match x with | ⟨0, _⟩ => rfl | ⟨1, _⟩ => rfl

theorem out_apply (h : Vec Ideal S256x1024 .f32) (y : Vec Ideal S256x2048 .bf16) (w : Vec Ideal S2048x1024 .bf16) (z : Vec Ideal S256x2048 .bf16)
    (v : Vec Ideal S2048x1024 .bf16) : out0_5 (F := Ideal) y z w v h = k0_pay1 (F := Ideal) h y w z v := by
  unfold out0_5
  rw [View.canon_unit_zero hz, View.ld_unit_zero hz, View.ld_unit_zero hz, View.ld_unit_zero hz, View.ld_unit_zero hz, View.ld_unit_zero hz]

/-- The result at an entry, of the mixers' rows, the weights' halves and the padded residual. -/
def res (y z : S16640x2048.Idx → EReal) (w v : S2048x4096.Idx → EReal) (h : S16640x4096.Idx → EReal) (t : Fin 16384) (d : Fin 4096) : EReal :=
  (h (ix2 ⟨t.val + 256, by omega⟩ d) + ∑ k : Fin 2048, y (ix2 ⟨t.val + 256, by omega⟩ k) * w (ix2 k d))
    + ∑ k : Fin 2048, z (ix2 ⟨t.val + 256, by omega⟩ k) * v (ix2 k d)

theorem out_at (c : Dev nD) (t : Fin grid0.N) (i : Fin 256) (j : Fin 1024) :
    (out0_5 (F := Ideal) (iblk m c 0 t) (iblk m c 1 t) (iblk m c 2 t) (iblk m c 3 t) (iblk m c 4 t) : S256x1024.Idx → EReal) (ix2 i j)
      = res (V m c main_arg0) (V m c main_arg1) (V m c main_v2) (V m c main_v4) (V m c main_arg3) ⟨t.val % 64 * 256 + i.val, lt_row t i⟩
          ⟨t.val / 64 * 1024 + j.val, lt_col t j⟩ := by
  refine (congrFun (out_apply (iblk m c 4 t) (iblk m c 0 t) (iblk m c 2 t) (iblk m c 1 t) (iblk m c 3 t)) (ix2 i j)).trans ?_
  refine (pay (iblk m c 4 t) (iblk m c 0 t) (iblk m c 2 t) (iblk m c 1 t) (iblk m c 3 t) i j).trans ?_
  have e : (⟨(t.val % 64 + 1) * 256 + i.val, lt_row' t i⟩ : Fin 16640) = ⟨t.val % 64 * 256 + i.val + 256, by omega⟩ := Fin.ext (by show (t.val % 64 + 1) * 256 + i.val = t.val % 64 * 256 + i.val + 256; omega)
  unfold res
  refine congrArg₂ (· + ·) (congrArg₂ (· + ·) ?_ ?_) ?_
  · exact congrArg (V m c main_arg3) ((emb4 t i j).trans (congrArg (fun r : Fin 16640 => (ix2 r _ : S16640x4096.Idx)) e))
  · exact Finset.sum_congr rfl fun k _ => congrArg₂ (fun x y : EReal => x * y)
      (congrArg (V m c main_arg0) ((emb0 t i k).trans (congrArg (fun r : Fin 16640 => (ix2 r _ : S16640x2048.Idx)) e))) (congrArg (V m c main_v2) (emb2 t k j))
  · exact Finset.sum_congr rfl fun k _ => congrArg₂ (fun x y : EReal => x * y)
      (congrArg (V m c main_arg1) ((emb1 t i k).trans (congrArg (fun r : Fin 16640 => (ix2 r _ : S16640x2048.Idx)) e))) (congrArg (V m c main_v4) (emb3 t k j))

/-- What point `t` leaves in its block is the result at the block's entries. -/
theorem out_emb (c : Dev nD) (t : Fin grid0.N) (y : S256x1024.Idx) :
    (out0_5 (F := Ideal) (iblk m c 0 t) (iblk m c 1 t) (iblk m c 2 t) (iblk m c 3 t) (iblk m c 4 t) : S256x1024.Idx → EReal) y
      = res (V m c main_arg0) (V m c main_arg1) (V m c main_v2) (V m c main_v4) (V m c main_arg3)
          ((((win0 5).blk t).view.emb y : S16384x4096.Idx) 0) ((((win0 5).blk t).view.emb y : S16384x4096.Idx) 1) := by
  obtain ⟨i, j, rfl⟩ : ∃ (i : Fin 256) (j : Fin 1024), y = ix2 i j := ⟨y 0, y 1, by funext x; match x with | ⟨0, _⟩ => rfl | ⟨1, _⟩ => rfl⟩
  rw [emb5 t i j]
  exact out_at m c t i j

/-- The result's array. -/
theorem arr (c : Dev nD) (t : Fin 16384) (d : Fin 4096) :
    ((dats m 0 c).arrAt 5 cfg0.N : S16384x4096.Idx → EReal) (ix2 t d)
      = res (V m c main_arg0) (V m c main_arg1) (V m c main_v2) (V m c main_v4) (V m c main_arg3) t d := by
  refine (dats m 0 c).arrAt_forall_of_cover 5 (fun (i : S16384x4096.Idx) (v : EReal) =>
    v = res (V m c main_arg0) (V m c main_arg1) (V m c main_v2) (V m c main_v4) (V m c main_arg3) (i 0) (i 1)) (fun t _ y => ?_) cover5 (ix2 t d)
  refine (congrFun (Cert.KernelOutIdeal.Value.flushed5 m c t) y).trans ?_
  exact out_emb m c t y

end Cert.OutProj
-- ==== Proof.OutEqual.lean ====
/-
  The call `out_proj` and its reference, entry by entry: the product with the whole matrix is the sum of the two halves'.
-/
module

public import proofs.«01_k».proof.Defs
public import proofs.«01_k».proof.Proof.OutValue

@[expose] public section

set_option maxRecDepth 8000

noncomputable section

namespace Cert.OutProj

open Cert.KernelOutIdeal Cert.KernelOutIdeal.Gen
open Idealize.ShloMosaic hiding ix0 ix1 ix2 ix3 ix2_eta
open Idealize.ShloMosaic.TcCoe Idealize.ShloMosaic.ValueIdx Idealize.SL.Sem
open Idealize.ShloMosaic.StableHlo

variable (m : (ℓ : Loc nD τ sig) → Buf (Elt Ideal) ℓ)

/-- The first half of the matrix. -/
def lo (w : FVec Ideal S1x4096x4096 .f32) : FVec Ideal S2048x4096 .bf16 :=
  truncf .bf16 (extractStridedSlice S2048x4096 ![0, 0] (shapeCast S4096x4096 w shapeCasts_S1x4096x4096_S4096x4096) slices_S4096x4096_S2048x4096_0_0) bitsLt_bf16_f32

/-- The second half of the matrix. -/
def hi (w : FVec Ideal S1x4096x4096 .f32) : FVec Ideal S2048x4096 .bf16 :=
  truncf .bf16 (extractStridedSlice S2048x4096 ![2048, 0] (shapeCast S4096x4096 w shapeCasts_S1x4096x4096_S4096x4096) slices_S4096x4096_S2048x4096_2048_0) bitsLt_bf16_f32

theorem V_main_v2 (c : Dev nD) : V m c main_v2 = lo (m ((c : Thread nD τ).loc main_arg2)) := by
  unfold lo
  show StableHlo.after hostOps0 (fun b => m (c, b)) (Proc.devRef .tc main_v2) = _
  after_results <;> rfl

theorem V_main_v4 (c : Dev nD) : V m c main_v4 = hi (m ((c : Thread nD τ).loc main_arg2)) := by
  unfold hi
  show StableHlo.after hostOps0 (fun b => m (c, b)) (Proc.devRef .tc main_v4) = _
  after_results <;> rfl

theorem lo_at (w : FVec Ideal S1x4096x4096 .f32) (k : Fin 2048) (d : Fin 4096) :
    (lo w (ix2 k d) : EReal) = w (ix3 (0 : Fin 1) ⟨k.val, by omega⟩ d) := by
  pointwise [lo]
  rfl

theorem hi_at (w : FVec Ideal S1x4096x4096 .f32) (k : Fin 2048) (d : Fin 4096) :
    (hi w (ix2 k d) : EReal) = w (ix3 (0 : Fin 1) ⟨2048 + k.val, by omega⟩ d) := by
  pointwise [hi]
  rfl

end Cert.OutProj

namespace Cert.OutProjRef

open Cert.ReferenceOutIdeal Cert.ReferenceOutIdeal.Gen
open Idealize.ShloMosaic hiding ix0 ix1 ix2 ix3 ix2_eta
open Idealize.ShloMosaic.TcCoe Idealize.ShloMosaic.ValueIdx Idealize.SL.Sem

/-- The mixers' outputs side by side. -/
def cat (y z : FVec Ideal S16640x2048 .bf16) : FVec Ideal S16640x4096 .f32 :=
  concatenate S16640x4096 1 [⟨S16640x2048, (extf .f32 y bitsLt_bf16_f32 : FVec Ideal S16640x2048 .f32)⟩,
    ⟨S16640x2048, (extf .f32 z bitsLt_bf16_f32 : FVec Ideal S16640x2048 .f32)⟩] concatenates_S16640x2048_S16640x2048_S16640x4096_d1

theorem cat_lo (y z : FVec Ideal S16640x2048 .bf16) (t : Fin 16640) (k : Fin 2048) (h : k.val < 4096) :
    (cat y z (ix2 t ⟨k.val, h⟩) : EReal) = y (ix2 t k) := by
  pointwise [cat]
  rfl

theorem cat_hi (y z : FVec Ideal S16640x2048 .bf16) (t : Fin 16640) (k : Fin 2048) (h : 2048 + k.val < 4096) :
    (cat y z (ix2 t ⟨2048 + k.val, h⟩) : EReal) = z (ix2 t k) := by
  pointwise [cat]
  rfl

/-- The reference's result. -/
def out (y z : FVec Ideal S16640x2048 .bf16) (w : FVec Ideal S1x4096x4096 .f32) (h : FVec Ideal S16640x4096 .f32) : FVec Ideal S16384x4096 .f32 :=
  addf (extractStridedSlice S16384x4096 ![256, 0] h slices_S16640x4096_S16384x4096_256_0)
    (Host.dotGeneral dot_S16384x4096_S4096x4096_S16384x4096_1_0_0_1_n_n none (extractStridedSlice S16384x4096 ![256, 0] (cat y z) slices_S16640x4096_S16384x4096_256_0)
      (shapeCast S4096x4096 w shapeCasts_S1x4096x4096_S4096x4096))

theorem out_at (y z : FVec Ideal S16640x2048 .bf16) (w : FVec Ideal S1x4096x4096 .f32) (h : FVec Ideal S16640x4096 .f32) (t : Fin 16384) (d : Fin 4096) :
    (out y z w h (ix2 t d) : EReal) = (h (ix2 ⟨256 + t.val, by omega⟩ d) : EReal)
      + ∑ k : Fin 4096, (cat y z (ix2 ⟨256 + t.val, by omega⟩ k) : EReal) * w (ix3 (0 : Fin 1) k d) := by
  pointwise [out]
  rfl

end Cert.OutProjRef

namespace Cert.OutProj

open Cert.KernelOutIdeal Cert.KernelOutIdeal.Gen
open Idealize.ShloMosaic hiding ix0 ix1 ix2 ix3 ix2_eta
open Idealize.ShloMosaic.TcCoe Idealize.ShloMosaic.ValueIdx Idealize.SL.Sem

/-- The two halves' sums are the whole sum. -/
theorem sum_halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem res_eq (y z : FVec Ideal S16640x2048 .bf16) (w : FVec Ideal S1x4096x4096 .f32) (h : FVec Ideal S16640x4096 .f32) (t : Fin 16384) (d : Fin 4096) :
    res y z (lo w) (hi w) h t d = (Cert.OutProjRef.out y z w h (ix2 t d) : EReal) := by
  refine Eq.trans ?_ (Cert.OutProjRef.out_at y z w h t d).symm
  have e : (⟨t.val + 256, by omega⟩ : Fin 16640) = ⟨256 + t.val, by omega⟩ := Fin.ext (Nat.add_comm _ _)
  unfold res
  rw [e, sum_halves, ← add_assoc]
  refine congrArg₂ (· + ·) (congrArg₂ (· + ·) rfl ?_) ?_
  · exact Finset.sum_congr rfl fun k _ => congrArg₂ (fun x y : EReal => x * y) (Cert.OutProjRef.cat_lo y z _ k _).symm (lo_at w k d)
  · exact Finset.sum_congr rfl fun k _ => congrArg₂ (fun x y : EReal => x * y) (Cert.OutProjRef.cat_hi y z _ k _).symm (hi_at w k d)

/-- The array the call leaves is the reference's. -/
theorem arr_eq (m : (ℓ : Loc nD τ sig) → Buf (Elt Ideal) ℓ) (c : Dev nD) :
    (dats m 0 c).arrAt 5 cfg0.N = Cert.OutProjRef.out (m ((c : Thread nD τ).loc main_arg0)) (m ((c : Thread nD τ).loc main_arg1))
      (m ((c : Thread nD τ).loc main_arg2)) (m ((c : Thread nD τ).loc main_arg3)) := by
  funext i
  obtain ⟨t, d, rfl⟩ : ∃ (t : Fin 16384) (d : Fin 4096), i = (ix2 t d : S16384x4096.Idx) :=
    ⟨i 0, i 1, by funext x; match x with | ⟨0, _⟩ => rfl | ⟨1, _⟩ => rfl⟩
  refine (arr m c t d).trans ?_
  rw [V_main_v2, V_main_v4, V_main_arg0, V_main_arg1, V_main_arg3]
  exact res_eq _ _ _ _ t d

end Cert.OutProj

namespace Cert.Proof

open Idealize.ShloMosaic Idealize.ShloMosaic.TcCoe Idealize.SL.Sem

theorem reference_out (m : (ℓ : Loc Cert.KernelOutIdeal.nD Cert.KernelOutIdeal.τ Cert.KernelOutIdeal.sig) → Buf (Elt Ideal) ℓ)
    (m' : (ℓ : Loc Cert.ReferenceOutIdeal.nD Cert.ReferenceOutIdeal.τ Cert.ReferenceOutIdeal.sig) → Buf (Elt Ideal) ℓ) (c : Dev Cert.KernelOutIdeal.nD)
    (h0 : m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0))
    (h1 : m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1))
    (h2 : m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2))
    (h3 : m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) :
    Cert.OutProjRef.out (m' ((c.tc : Thread Cert.ReferenceOutIdeal.nD Cert.ReferenceOutIdeal.τ).loc Cert.ReferenceOutIdeal.main_arg0))
        (m' ((c.tc : Thread Cert.ReferenceOutIdeal.nD Cert.ReferenceOutIdeal.τ).loc Cert.ReferenceOutIdeal.main_arg1))
        (m' ((c.tc : Thread Cert.ReferenceOutIdeal.nD Cert.ReferenceOutIdeal.τ).loc Cert.ReferenceOutIdeal.main_arg2))
        (m' ((c.tc : Thread Cert.ReferenceOutIdeal.nD Cert.ReferenceOutIdeal.τ).loc Cert.ReferenceOutIdeal.main_arg3))
      = (Cert.KernelOutIdeal.Gen.dats m 0 c).arrAt 5 Cert.KernelOutIdeal.cfg0.N := by
  rw [h0, h1, h2, h3]
  exact (Cert.OutProj.arr_eq m c).symm

theorem algebraic_out : Cert.algebraic_KernelOutIdeal_ReferenceOutIdeal := fun m ρ m' ρ' _ ha =>
  ⟨fun c => (Cert.KernelOutIdeal.Gen.dats m 0 c).arrAt 5 Cert.KernelOutIdeal.cfg0.N,
    Cert.KernelOutIdeal.Value.run_blocks m ρ,
    (θ_run Cert.ReferenceOutIdeal.defs _ _).mono
      (fun _ h c => ⟨(h c).1.trans (reference_out m m' c (ha c).1 (ha c).2.1 (ha c).2.2.1 (ha c).2.2.2), (h c).2⟩)
      (Cert.ReferenceOutIdeal.Value.run m' ρ')⟩

end Cert.Proof
-- ==== Proof.NormValue.lean ====
/-
  The call `ffn_norm_router`: its two results are the root-mean-square norm of the residual's rows and the norm's product with
  the router's weights, plus the bias.
-/
module

public import proofs.«01_k».proof.Proof.Gen.KernelNormIdeal.Value
public import proofs.«01_k».proof.Proof.Gen.ReferenceNormIdeal.Run
public import Idealize.ShloMosaic.Lib.Pointwise
public import Idealize.ShloMosaic.Lib.Pipeline.ValueKit
public import Idealize.ShloMosaic.Lib.ValueIdx

@[expose] public section

set_option maxRecDepth 8000

noncomputable section

namespace Cert.Norm

open Cert.KernelNormIdeal Cert.KernelNormIdeal.Gen
open Idealize.ShloMosaic hiding ix0 ix1 ix2 ix3 ix2_eta
open Idealize.ShloMosaic.TcCoe Idealize.ShloMosaic.ValueIdx Idealize.SL.Sem
open Idealize.ShloMosaic.Pipeline (Dat Cfg Window)

theorem zmul (n k m : ℕ) (h : n = 0) : n * k + m = m := by rw [h, Nat.zero_mul, Nat.zero_add]

theorem index0 : ∀ t : Fin grid0.N, (win0 0).index t = ![t.val, 0] := by decide +kernel
theorem index1 : ∀ t : Fin grid0.N, (win0 1).index t = ![0, 0] := by decide +kernel
theorem index2 : ∀ t : Fin grid0.N, (win0 2).index t = ![0, 0] := by decide +kernel
theorem index3 : ∀ t : Fin grid0.N, (win0 3).index t = ![0, 0] := by decide +kernel
theorem index4 : ∀ t : Fin grid0.N, (win0 4).index t = ![t.val, 0] := by decide +kernel
theorem index5 : ∀ t : Fin grid0.N, (win0 5).index t = ![t.val, 0] := by decide +kernel

theorem lt_row (t : Fin grid0.N) (i : Fin 512) : t.val * 512 + i.val < 16384 := by
  have ht := lt_of_lt_of_eq t.isLt N_0; omega

theorem emb0 (t : Fin grid0.N) (i : Fin 512) (d : Fin 4096) :
    ((win0 0).blk t).view.emb (ix2 i d : S512x4096.Idx) = (ix2 ⟨t.val * 512 + i.val, lt_row t i⟩ d : S16384x4096.Idx) := by
  funext x
  refine Fin.ext ((Window.rect_emb_val (win0 0) t (ix2 i d : S512x4096.Idx) x rfl).trans ?_)
  rw [index0]
  match x with
  | ⟨0, _⟩ => rfl
  | ⟨1, _⟩ => exact zmul _ _ _ rfl

theorem emb1 (t : Fin grid0.N) (d : Fin 4096) :
    ((win0 1).blk t).view.emb (ix2 (0 : Fin 1) d : S1x4096.Idx) = (ix2 (0 : Fin 1) d : S1x4096.Idx) := by
  funext x
  refine Fin.ext ((Window.rect_emb_val (win0 1) t (ix2 (0 : Fin 1) d : S1x4096.Idx) x rfl).trans ?_)
  rw [index1]
  match x with
  | ⟨0, _⟩ => exact zmul _ _ _ rfl
  | ⟨1, _⟩ => exact zmul _ _ _ rfl

theorem emb2 (t : Fin grid0.N) (d : Fin 4096) (n : Fin 128) :
    ((win0 2).blk t).view.emb (ix2 d n : S4096x128.Idx) = (ix2 d n : S4096x128.Idx) := by
  funext x
  refine Fin.ext ((Window.rect_emb_val (win0 2) t (ix2 d n : S4096x128.Idx) x rfl).trans ?_)
  rw [index2]
  match x with
  | ⟨0, _⟩ => exact zmul _ _ _ rfl
  | ⟨1, _⟩ => exact zmul _ _ _ rfl

theorem emb3 (t : Fin grid0.N) (n : Fin 128) :
    ((win0 3).blk t).view.emb (ix2 (0 : Fin 1) n : S1x128.Idx) = (ix2 (0 : Fin 1) n : S1x128.Idx) := by
  funext x
  refine Fin.ext ((Window.rect_emb_val (win0 3) t (ix2 (0 : Fin 1) n : S1x128.Idx) x rfl).trans ?_)
  rw [index3]
  match x with
  | ⟨0, _⟩ => exact zmul _ _ _ rfl
  | ⟨1, _⟩ => exact zmul _ _ _ rfl

theorem emb4 (t : Fin grid0.N) (i : Fin 512) (d : Fin 4096) :
    ((win0 4).blk t).view.emb (ix2 i d : S512x4096.Idx) = (ix2 ⟨t.val * 512 + i.val, lt_row t i⟩ d : S16384x4096.Idx) := by
  funext x
  refine Fin.ext ((Window.rect_emb_val (win0 4) t (ix2 i d : S512x4096.Idx) x rfl).trans ?_)
  rw [index4]
  match x with
  | ⟨0, _⟩ => rfl
  | ⟨1, _⟩ => exact zmul _ _ _ rfl

theorem emb5 (t : Fin grid0.N) (i : Fin 512) (n : Fin 128) :
    ((win0 5).blk t).view.emb (ix2 i n : S512x128.Idx) = (ix2 ⟨t.val * 512 + i.val, lt_row t i⟩ n : S16384x128.Idx) := by
  funext x
  refine Fin.ext ((Window.rect_emb_val (win0 5) t (ix2 i n : S512x128.Idx) x rfl).trans ?_)
  rw [index5]
  match x with
  | ⟨0, _⟩ => rfl
  | ⟨1, _⟩ => exact zmul _ _ _ rfl

theorem cover4 (i : S16384x4096.Idx) : ∃ t : Fin grid0.N, (win0 4).flush t = true ∧ i ∈ ((win0 4).blk t).view.set := by
  have h0 : (i 0).val < 16384 := (i 0).isLt
  have h1 : (i 1).val < 4096 := (i 1).isLt
  let t : Fin grid0.N := ⟨(i 0).val / 512, by rw [N_0]; omega⟩
  refine ⟨t, flush0_4 t, ((win0 4).emb_mem_blk_iff t i rfl).2 fun x => ?_⟩
  rw [index4]
  match x with
  | ⟨0, _⟩ =>
    show (i 0).val / 512 * 512 ≤ (i 0).val ∧ (i 0).val < (i 0).val / 512 * 512 + 512
    omega
  | ⟨1, _⟩ =>
    show 0 * 4096 ≤ (i 1).val ∧ (i 1).val < 0 * 4096 + 4096
    omega

theorem cover5 (i : S16384x128.Idx) : ∃ t : Fin grid0.N, (win0 5).flush t = true ∧ i ∈ ((win0 5).blk t).view.set := by
  have h0 : (i 0).val < 16384 := (i 0).isLt
  have h1 : (i 1).val < 128 := (i 1).isLt
  let t : Fin grid0.N := ⟨(i 0).val / 512, by rw [N_0]; omega⟩
  refine ⟨t, flush0_5 t, ((win0 5).emb_mem_blk_iff t i rfl).2 fun x => ?_⟩
  rw [index5]
  match x with
  | ⟨0, _⟩ =>
    show (i 0).val / 512 * 512 ≤ (i 0).val ∧ (i 0).val < (i 0).val / 512 * 512 + 512
    omega
  | ⟨1, _⟩ =>
    show 0 * 128 ≤ (i 1).val ∧ (i 1).val < 0 * 128 + 128
    omega

/-- A row's entry over the root of the row's mean square, times the entry's weight. -/
def nrm (x : Fin 4096 → EReal) (g : Fin 4096 → EReal) (d : Fin 4096) : EReal :=
  x d * Ideal.rsqrt (Ideal.div (∑ k : Fin 4096, x k * x k) (Ideal.ofBits .f32 0x45800000#32) + Ideal.ofBits .f32 0x358637BD#32) * g d

theorem pay1 (x : Vec Ideal S512x4096 .f32) (g : Vec Ideal S1x4096 .f32) (i : Fin 512) (d : Fin 4096) :
    (k0_pay1 (F := Ideal) x g : FVec Ideal S512x4096 .f32) (ix2 i d) = nrm (fun k => x (ix2 i k)) (fun k => g (ix2 (0 : Fin 1) k)) d := by
  unfold nrm
  pointwise [k0_pay1]
  rfl

theorem pay2 (x : Vec Ideal S512x4096 .f32) (g : Vec Ideal S1x4096 .f32) (i : Fin 512) (d : Fin 4096) :
    (k0_pay2 (F := Ideal) x g : FVec Ideal S512x4096 .bf16) (ix2 i d) = nrm (fun k => x (ix2 i k)) (fun k => g (ix2 (0 : Fin 1) k)) d :=
  pay1 x g i d

theorem pay3 (x : Vec Ideal S512x4096 .f32) (g : Vec Ideal S1x4096 .f32) (w : Vec Ideal S4096x128 .f32) (b : Vec Ideal S1x128 .f32) (i : Fin 512) (n : Fin 128) :
    (k0_pay3 (F := Ideal) x g w b : FVec Ideal S512x128 .f32) (ix2 i n)
      = (∑ d : Fin 4096, nrm (fun k => x (ix2 i k)) (fun k => g (ix2 (0 : Fin 1) k)) d * w (ix2 d n)) + b (ix2 (0 : Fin 1) n) := by
  have h : (k0_pay3 (F := Ideal) x g w b : FVec Ideal S512x128 .f32) (ix2 i n)
      = (∑ d : Fin 4096, ((k0_pay1 (F := Ideal) x g : FVec Ideal S512x4096 .f32) (ix2 i d) : EReal) * w (ix2 d n)) + b (ix2 (0 : Fin 1) n) := by
    unfold k0_pay3
    generalize k0_pay1 (F := Ideal) x g = p
    pointwise
    rfl
  rw [h]
  exact congrArg (fun s : EReal => s + b (ix2 (0 : Fin 1) n)) (Finset.sum_congr rfl fun d _ => congrArg (fun s : EReal => s * w (ix2 d n)) (pay1 x g i d))

variable (m : (ℓ : Loc nD τ sig) → Buf (Elt Ideal) ℓ)

theorem hz : (![0, 0] : Fin 2 → Nat) = fun _ => 0 := by funext x; match x with | ⟨0, _⟩ => rfl | ⟨1, _⟩ => rfl

theorem out4_eq (x : Vec Ideal S512x4096 .f32) (g : Vec Ideal S1x4096 .f32) (w : Vec Ideal S4096x128 .f32) (b : Vec Ideal S1x128 .f32) :
    out0_4 (F := Ideal) x g w b = k0_pay2 (F := Ideal) x g := by
  unfold out0_4
  rw [View.canon_unit_zero hz, View.ld_unit_zero hz, View.ld_unit_zero hz]

theorem out5_eq (x : Vec Ideal S512x4096 .f32) (g : Vec Ideal S1x4096 .f32) (w : Vec Ideal S4096x128 .f32) (b : Vec Ideal S1x128 .f32) :
    out0_5 (F := Ideal) x g w b = k0_pay3 (F := Ideal) x g w b := by
  unfold out0_5
  rw [View.canon_unit_zero hz, View.ld_unit_zero hz, View.ld_unit_zero hz, View.ld_unit_zero hz, View.ld_unit_zero hz]

/-- The normed residual at an entry. -/
def xn (x : S16384x4096.Idx → EReal) (g : S1x4096.Idx → EReal) (t : Fin 16384) (d : Fin 4096) : EReal :=
  nrm (fun k => x (ix2 t k)) (fun k => g (ix2 (0 : Fin 1) k)) d

/-- The router's logit at an entry. -/
def lg (x : S16384x4096.Idx → EReal) (g : S1x4096.Idx → EReal) (w : S4096x128.Idx → EReal) (b : S1x128.Idx → EReal) (t : Fin 16384) (n : Fin 128) : EReal :=
  (∑ d : Fin 4096, xn x g t d * w (ix2 d n)) + b (ix2 (0 : Fin 1) n)

theorem row_eq (c : Dev nD) (t : Fin grid0.N) (i : Fin 512) (d : Fin 4096) :
    nrm (fun k => (iblk m c 0 t : S512x4096.Idx → EReal) (ix2 i k)) (fun k => (iblk m c 1 t : S1x4096.Idx → EReal) (ix2 (0 : Fin 1) k)) d
      = xn (V m c main_arg0) (V m c main_v1) ⟨t.val * 512 + i.val, lt_row t i⟩ d := by
  unfold xn
  exact congrArg₂ (fun a b => nrm a b d) (funext fun k => congrArg (V m c main_arg0) (emb0 t i k)) (funext fun k => congrArg (V m c main_v1) (emb1 t k))

theorem out4_at (c : Dev nD) (t : Fin grid0.N) (i : Fin 512) (d : Fin 4096) :
    (out0_4 (F := Ideal) (iblk m c 0 t) (iblk m c 1 t) (iblk m c 2 t) (iblk m c 3 t) : S512x4096.Idx → EReal) (ix2 i d)
      = xn (V m c main_arg0) (V m c main_v1) ⟨t.val * 512 + i.val, lt_row t i⟩ d := by
  refine (congrFun (out4_eq (iblk m c 0 t) (iblk m c 1 t) (iblk m c 2 t) (iblk m c 3 t)) (ix2 i d)).trans ?_
  exact (pay2 (iblk m c 0 t) (iblk m c 1 t) i d).trans (row_eq m c t i d)

theorem out5_at (c : Dev nD) (t : Fin grid0.N) (i : Fin 512) (n : Fin 128) :
    (out0_5 (F := Ideal) (iblk m c 0 t) (iblk m c 1 t) (iblk m c 2 t) (iblk m c 3 t) : S512x128.Idx → EReal) (ix2 i n)
      = lg (V m c main_arg0) (V m c main_v1) (V m c main_arg2) (V m c main_arg3) ⟨t.val * 512 + i.val, lt_row t i⟩ n := by
  refine (congrFun (out5_eq (iblk m c 0 t) (iblk m c 1 t) (iblk m c 2 t) (iblk m c 3 t)) (ix2 i n)).trans ?_
  refine (pay3 (iblk m c 0 t) (iblk m c 1 t) (iblk m c 2 t) (iblk m c 3 t) i n).trans ?_
  unfold lg
  refine congrArg₂ (· + ·) ?_ (congrArg (V m c main_arg3) (emb3 t n))
  exact Finset.sum_congr rfl fun d _ => congrArg₂ (fun x y : EReal => x * y) (row_eq m c t i d) (congrArg (V m c main_arg2) (emb2 t d n))

theorem out4_emb (c : Dev nD) (t : Fin grid0.N) (y : S512x4096.Idx) :
    (out0_4 (F := Ideal) (iblk m c 0 t) (iblk m c 1 t) (iblk m c 2 t) (iblk m c 3 t) : S512x4096.Idx → EReal) y
      = xn (V m c main_arg0) (V m c main_v1) ((((win0 4).blk t).view.emb y : S16384x4096.Idx) 0) ((((win0 4).blk t).view.emb y : S16384x4096.Idx) 1) := by
  obtain ⟨i, d, rfl⟩ : ∃ (i : Fin 512) (d : Fin 4096), y = ix2 i d := ⟨y 0, y 1, by funext x; match x with | ⟨0, _⟩ => rfl | ⟨1, _⟩ => rfl⟩
  rw [emb4 t i d]
  exact out4_at m c t i d

theorem out5_emb (c : Dev nD) (t : Fin grid0.N) (y : S512x128.Idx) :
    (out0_5 (F := Ideal) (iblk m c 0 t) (iblk m c 1 t) (iblk m c 2 t) (iblk m c 3 t) : S512x128.Idx → EReal) y
      = lg (V m c main_arg0) (V m c main_v1) (V m c main_arg2) (V m c main_arg3) ((((win0 5).blk t).view.emb y : S16384x128.Idx) 0)
          ((((win0 5).blk t).view.emb y : S16384x128.Idx) 1) := by
  obtain ⟨i, n, rfl⟩ : ∃ (i : Fin 512) (n : Fin 128), y = ix2 i n := ⟨y 0, y 1, by funext x; match x with | ⟨0, _⟩ => rfl | ⟨1, _⟩ => rfl⟩
  rw [emb5 t i n]
  exact out5_at m c t i n

/-- The normed residual's array. -/
theorem arr4 (c : Dev nD) (t : Fin 16384) (d : Fin 4096) :
    ((dats m 0 c).arrAt 4 cfg0.N : S16384x4096.Idx → EReal) (ix2 t d) = xn (V m c main_arg0) (V m c main_v1) t d := by
  refine (dats m 0 c).arrAt_forall_of_cover 4 (fun (i : S16384x4096.Idx) (v : EReal) =>
    v = xn (V m c main_arg0) (V m c main_v1) (i 0) (i 1)) (fun t _ y => ?_) cover4 (ix2 t d)
  refine (congrFun (Cert.KernelNormIdeal.Value.flushed4 m c t) y).trans ?_
  exact out4_emb m c t y

/-- The logits' array. -/
theorem arr5 (c : Dev nD) (t : Fin 16384) (n : Fin 128) :
    ((dats m 0 c).arrAt 5 cfg0.N : S16384x128.Idx → EReal) (ix2 t n) = lg (V m c main_arg0) (V m c main_v1) (V m c main_arg2) (V m c main_arg3) t n := by
  refine (dats m 0 c).arrAt_forall_of_cover 5 (fun (i : S16384x128.Idx) (v : EReal) =>
    v = lg (V m c main_arg0) (V m c main_v1) (V m c main_arg2) (V m c main_arg3) (i 0) (i 1)) (fun t _ y => ?_) cover5 (ix2 t n)
  refine (congrFun (Cert.KernelNormIdeal.Value.flushed5 m c t) y).trans ?_
  exact out5_emb m c t y

end Cert.Norm
-- ==== Proof.NormEqual.lean ====
/-
  The call `ffn_norm_router` and its reference, entry by entry.
-/
module

public import proofs.«01_k».proof.Defs
public import proofs.«01_k».proof.Proof.NormValue

@[expose] public section

set_option maxRecDepth 8000

noncomputable section

namespace Cert.NormRef

open Cert.ReferenceNormIdeal Cert.ReferenceNormIdeal.Gen
open Idealize.ShloMosaic hiding ix0 ix1 ix2 ix3 ix2_eta
open Idealize.ShloMosaic.TcCoe Idealize.ShloMosaic.ValueIdx Idealize.SL.Sem

/-- The reference's normed residual, before it is rounded. -/
def hn (x : FVec Ideal S16384x4096 .f32) (g : FVec Ideal S1x4096 .f32) : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0
    (Host.reduceAdd (mulf x x) (constant S_ .f32 0x00000000#32) reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 (shapeCast S4096 g shapeCasts_S1x4096_S4096)))

theorem hn_at (x : FVec Ideal S16384x4096 .f32) (g : FVec Ideal S1x4096 .f32) (t : Fin 16384) (d : Fin 4096) :
    (hn x g (ix2 t d) : EReal) = Cert.Norm.xn x g t d := by
  unfold Cert.Norm.xn Cert.Norm.nrm
  pointwise [hn]
  rfl

/-- The reference's normed residual. -/
def out (x : FVec Ideal S16384x4096 .f32) (g : FVec Ideal S1x4096 .f32) : FVec Ideal S16384x4096 .bf16 := truncf .bf16 (hn x g) bitsLt_bf16_f32

/-- The reference's logits. -/
def logits (x : FVec Ideal S16384x4096 .f32) (g : FVec Ideal S1x4096 .f32) (w : FVec Ideal S4096x128 .f32) (b : FVec Ideal S1x128 .f32) : FVec Ideal S16384x128 .f32 :=
  addf (Host.dotGeneral dot_S16384x4096_S4096x128_S16384x128_1_0_0_1_n_n none (hn x g) w) (broadcastInDim S16384x128 ![0, 1] bcast_S1x128_S16384x128_0_1 b)

theorem out_at (x : FVec Ideal S16384x4096 .f32) (g : FVec Ideal S1x4096 .f32) (t : Fin 16384) (d : Fin 4096) :
    (out x g (ix2 t d) : EReal) = Cert.Norm.xn x g t d := hn_at x g t d

theorem logits_at (x : FVec Ideal S16384x4096 .f32) (g : FVec Ideal S1x4096 .f32) (w : FVec Ideal S4096x128 .f32) (b : FVec Ideal S1x128 .f32) (t : Fin 16384) (n : Fin 128) :
    (logits x g w b (ix2 t n) : EReal) = Cert.Norm.lg x g w b t n := by
  have h : (logits x g w b (ix2 t n) : EReal) = (∑ d : Fin 4096, (hn x g (ix2 t d) : EReal) * w (ix2 d n)) + b (ix2 (0 : Fin 1) n) := by
    unfold logits
    generalize hn x g = p
    pointwise
    rfl
  rw [h]
  exact congrArg (fun s : EReal => s + b (ix2 (0 : Fin 1) n)) (Finset.sum_congr rfl fun d _ => congrArg (fun s : EReal => s * w (ix2 d n)) (hn_at x g t d))

end Cert.NormRef

namespace Cert.Norm

open Cert.KernelNormIdeal Cert.KernelNormIdeal.Gen
open Idealize.ShloMosaic hiding ix0 ix1 ix2 ix3 ix2_eta
open Idealize.ShloMosaic.TcCoe Idealize.ShloMosaic.ValueIdx Idealize.SL.Sem
open Idealize.ShloMosaic.StableHlo

variable (m : (ℓ : Loc nD τ sig) → Buf (Elt Ideal) ℓ)

/-- The norm's weights, out of their row and back. -/
def wrow (g : FVec Ideal S1x4096 .f32) : FVec Ideal S1x4096 .f32 := shapeCast S1x4096 (shapeCast S4096 g shapeCasts_S1x4096_S4096) shapeCasts_S4096_S1x4096

theorem wrow_at (g : FVec Ideal S1x4096 .f32) (k : Fin 4096) : (wrow g (ix2 (0 : Fin 1) k) : EReal) = g (ix2 (0 : Fin 1) k) := by
  pointwise [wrow]

theorem V_main_v1 (c : Dev nD) : V m c main_v1 = wrow (m ((c : Thread nD τ).loc main_arg1)) := by
  unfold wrow
  show StableHlo.after hostOps0 (fun b => m (c, b)) (Proc.devRef .tc main_v1) = _
  after_results <;> rfl

theorem xn_wrow (x : S16384x4096.Idx → EReal) (g : FVec Ideal S1x4096 .f32) (t : Fin 16384) (d : Fin 4096) : xn x (wrow g) t d = xn x g t d := by
  unfold xn
  exact congrArg (fun a => nrm (fun k => x (ix2 t k)) a d) (funext fun k => wrow_at g k)

theorem arr4_eq (c : Dev nD) :
    (dats m 0 c).arrAt 4 cfg0.N = Cert.NormRef.out (m ((c : Thread nD τ).loc main_arg0)) (m ((c : Thread nD τ).loc main_arg1)) := by
  funext i
  obtain ⟨t, d, rfl⟩ : ∃ (t : Fin 16384) (d : Fin 4096), i = (ix2 t d : S16384x4096.Idx) :=
    ⟨i 0, i 1, by funext x; match x with | ⟨0, _⟩ => rfl | ⟨1, _⟩ => rfl⟩
  refine (arr4 m c t d).trans ?_
  rw [V_main_v1, V_main_arg0]
  exact (xn_wrow _ _ t d).trans (Cert.NormRef.out_at _ _ t d).symm

theorem arr5_eq (c : Dev nD) :
    (dats m 0 c).arrAt 5 cfg0.N = Cert.NormRef.logits (m ((c : Thread nD τ).loc main_arg0)) (m ((c : Thread nD τ).loc main_arg1))
      (m ((c : Thread nD τ).loc main_arg2)) (m ((c : Thread nD τ).loc main_arg3)) := by
  funext i
  obtain ⟨t, n, rfl⟩ : ∃ (t : Fin 16384) (n : Fin 128), i = (ix2 t n : S16384x128.Idx) :=
    ⟨i 0, i 1, by funext x; match x with | ⟨0, _⟩ => rfl | ⟨1, _⟩ => rfl⟩
  refine (arr5 m c t n).trans ?_
  rw [V_main_v1, V_main_arg0, V_main_arg2, V_main_arg3]
  refine Eq.trans ?_ (Cert.NormRef.logits_at _ _ _ _ t n).symm
  unfold lg
  exact congrArg₂ (· + ·) (Finset.sum_congr rfl fun d _ => congrArg₂ (fun x y : EReal => x * y) (xn_wrow _ _ t d) rfl) rfl

end Cert.Norm

namespace Cert.Proof

open Idealize.ShloMosaic Idealize.ShloMosaic.TcCoe Idealize.SL.Sem

theorem reference_norm (m : (ℓ : Loc Cert.KernelNormIdeal.nD Cert.KernelNormIdeal.τ Cert.KernelNormIdeal.sig) → Buf (Elt Ideal) ℓ)
    (m' : (ℓ : Loc Cert.ReferenceNormIdeal.nD Cert.ReferenceNormIdeal.τ Cert.ReferenceNormIdeal.sig) → Buf (Elt Ideal) ℓ) (c : Dev Cert.KernelNormIdeal.nD)
    (h0 : m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0))
    (h1 : m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) :
    Cert.NormRef.out (m' ((c.tc : Thread Cert.ReferenceNormIdeal.nD Cert.ReferenceNormIdeal.τ).loc Cert.ReferenceNormIdeal.main_arg0))
        (m' ((c.tc : Thread Cert.ReferenceNormIdeal.nD Cert.ReferenceNormIdeal.τ).loc Cert.ReferenceNormIdeal.main_arg1))
      = (Cert.KernelNormIdeal.Gen.dats m 0 c).arrAt 4 Cert.KernelNormIdeal.cfg0.N := by
  rw [h0, h1]
  exact (Cert.Norm.arr4_eq m c).symm

theorem reference_logits (m : (ℓ : Loc Cert.KernelNormIdeal.nD Cert.KernelNormIdeal.τ Cert.KernelNormIdeal.sig) → Buf (Elt Ideal) ℓ)
    (m' : (ℓ : Loc Cert.ReferenceNormIdeal.nD Cert.ReferenceNormIdeal.τ Cert.ReferenceNormIdeal.sig) → Buf (Elt Ideal) ℓ) (c : Dev Cert.KernelNormIdeal.nD)
    (h0 : m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0))
    (h1 : m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1))
    (h2 : m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2))
    (h3 : m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) :
    Cert.NormRef.logits (m' ((c.tc : Thread Cert.ReferenceNormIdeal.nD Cert.ReferenceNormIdeal.τ).loc Cert.ReferenceNormIdeal.main_arg0))
        (m' ((c.tc : Thread Cert.ReferenceNormIdeal.nD Cert.ReferenceNormIdeal.τ).loc Cert.ReferenceNormIdeal.main_arg1))
        (m' ((c.tc : Thread Cert.ReferenceNormIdeal.nD Cert.ReferenceNormIdeal.τ).loc Cert.ReferenceNormIdeal.main_arg2))
        (m' ((c.tc : Thread Cert.ReferenceNormIdeal.nD Cert.ReferenceNormIdeal.τ).loc Cert.ReferenceNormIdeal.main_arg3))
      = (Cert.KernelNormIdeal.Gen.dats m 0 c).arrAt 5 Cert.KernelNormIdeal.cfg0.N := by
  rw [h0, h1, h2, h3]
  exact (Cert.Norm.arr5_eq m c).symm

theorem algebraic_norm : Cert.algebraic_KernelNormIdeal_ReferenceNormIdeal := fun m ρ m' ρ' _ ha =>
  ⟨fun c => (Cert.KernelNormIdeal.Gen.dats m 0 c).arrAt 4 Cert.KernelNormIdeal.cfg0.N,
    fun c => (Cert.KernelNormIdeal.Gen.dats m 0 c).arrAt 5 Cert.KernelNormIdeal.cfg0.N,
    Cert.KernelNormIdeal.Value.run_blocks m ρ,
    (θ_run Cert.ReferenceNormIdeal.defs _ _).mono
      (fun _ h c => ⟨(h c).1.trans (reference_norm m m' c (ha c).1 (ha c).2.1),
        (h c).2.1.trans (reference_logits m m' c (ha c).1 (ha c).2.1 (ha c).2.2.1 (ha c).2.2.2), (h c).2.2⟩)
      (Cert.ReferenceNormIdeal.Value.run m' ρ')⟩

end Cert.Proof
-- ==== Proof.lean ====
/- The proof of the claims: the frames (Proof/Frames.lean, and the two short calls' below), that the idealizations rewrite
   nothing, and that each call's results are its reference's (Proof/Equality.lean, Proof/OutEqual.lean,
   Proof/NormEqual.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelOut.Value
public import proofs.«01_k».proof.Proof.Gen.KernelNorm.Value
public import proofs.«01_k».proof.Proof.Frames
public import proofs.«01_k».proof.Proof.Equality
public import proofs.«01_k».proof.Proof.OutEqual
public import proofs.«01_k».proof.Proof.NormEqual

@[expose] public section

namespace Cert.Proof

open Idealize.ShloMosaic Idealize.SL.Sem

theorem frame_out_reference : Cert.quiescent_ReferenceOutIdeal := fun m ρ _ =>
  (θ_run Cert.ReferenceOutIdeal.defs _ _).mono (fun r h => ⟨fun c => (h c).2, sem_eq_zero_of_no_sems (by decide) r.2⟩) (Cert.ReferenceOutIdeal.Value.run (F := Ideal) m ρ)

theorem frame_norm_reference : Cert.quiescent_ReferenceNormIdeal := fun m ρ _ =>
  (θ_run Cert.ReferenceNormIdeal.defs _ _).mono (fun r h => ⟨fun c => (h c).2.2, sem_eq_zero_of_no_sems (by decide) r.2⟩) (Cert.ReferenceNormIdeal.Value.run (F := Ideal) m ρ)

theorem claim : Cert.Claim := ⟨Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelNorm.Gen.facts, Cert.KernelNormIdeal.Gen.facts, Cert.ReferenceNormIdeal.Gen.facts, Cert.Moe.preFacts,
  frame_kernel, frame_kernelIdeal, frame_kernelIdeal_pre, frame_reference, frame_reference_pre,
  fun m ρ _ => Cert.KernelOut.Gen.frame m ρ, fun m ρ _ => Cert.KernelOutIdeal.Gen.frame m ρ, frame_out_reference,
  fun m ρ _ => Cert.KernelNorm.Gen.frame m ρ, fun m ρ _ => Cert.KernelNormIdeal.Gen.frame m ρ, frame_norm_reference,
  trivial, algebraic, trivial, algebraic_out, trivial, algebraic_norm⟩

end Cert.Proof
